-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffRefIdeal (m : (ℓ : Loc Cert.DiffRefIdeal.nD Cert.DiffRefIdeal.τ Cert.DiffRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaRefIdeal (m : (ℓ : Loc Cert.MobaRefIdeal.nD Cert.MobaRefIdeal.τ Cert.MobaRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v19) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Diff_DiffIdeal : Prop :=
  True

def preserves_Moba_MobaIdeal : Prop :=
  True

def Claim : Prop :=
  ∃ (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hDiff : Cert.Diff.Facts) (hDiffIdeal : Cert.DiffIdeal.Facts) (hDiffRefIdeal : Cert.DiffRefIdeal.Facts) (hMoba : Cert.Moba.Facts) (hMobaIdeal : Cert.MobaIdeal.Facts) (hMobaRefIdeal : Cert.MobaRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Diff (hDiff := hDiff)
    ∧ quiescent_DiffIdeal (hDiffIdeal := hDiffIdeal)
    ∧ quiescent_DiffRefIdeal (hDiffRefIdeal := hDiffRefIdeal)
    ∧ quiescent_Moba (hMoba := hMoba)
    ∧ quiescent_MobaIdeal (hMobaIdeal := hMobaIdeal)
    ∧ quiescent_MobaRefIdeal (hMobaRefIdeal := hMobaRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Diff_DiffIdeal
    ∧ preserves_Moba_MobaIdeal
-- ==== Ffn.lean ====
abbrev S4x4096x2048 : Shape := ⟨3, ![4, 4096, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S16384x2048 : Shape := ⟨2, ![16384, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S2x1024x512 : Shape := ⟨3, ![2, 1024, 512]⟩
abbrev S1x2048 : Shape := ⟨2, ![1, 2048]⟩
abbrev S1024 : Shape := ⟨1, ![1024]⟩
abbrev S1024x1 : Shape := ⟨2, ![1024, 1]⟩
abbrev S1x2048x256 : Shape := ⟨3, ![1, 2048, 256]⟩
abbrev S2048x256 : Shape := ⟨2, ![2048, 256]⟩
abbrev S1024x256 : Shape := ⟨2, ![1024, 256]⟩
abbrev S1x1024x256 : Shape := ⟨3, ![1, 1024, 256]⟩
abbrev S1x1024x512 : Shape := ⟨3, ![1, 1024, 512]⟩
abbrev S1024x512 : Shape := ⟨2, ![1024, 512]⟩
abbrev S512x2048 : Shape := ⟨2, ![512, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x11264, .f32⟩
  | .hbm, ⟨3, _⟩ => ⟨S2x5632x2048, .f32⟩
  | .hbm, ⟨4, _⟩ => ⟨S2x2048, .f32⟩
  | .hbm, ⟨5, _⟩ => ⟨S16384x2048, .f32⟩
  | .hbm, ⟨6, _⟩ => ⟨S2x1x2048, .f32⟩
  | .hbm, ⟨7, _⟩ => ⟨S2x2048x11264, .bf16⟩
  | .hbm, ⟨8, _⟩ => ⟨S2x5632x2048, .bf16⟩
  | .hbm, ⟨9, _⟩ => ⟨S2x1x2048, .f32⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | .local _ .vmem, ⟨13, _⟩ => ⟨S2x1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c11_i32 : BitVec 32 := 11#32
  let v4 : BitVec 1 := Scalar.cmpi .slt arg1 c11_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg1 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c1_i32_6 : BitVec 32 := 1#32
  let v16 : BitVec 1 := Scalar.cmpi .eq v15 c1_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg1 : BitVec 32 := BitVec.ofNat 32 (i 1).val
  let c0_i32_1 : BitVec 32 := 0#32
  let v3 : BitVec 1 := Scalar.cmpi .sgt arg1 c0_i32_1
  let c11_i32 : BitVec 32 := 11#32
  let v4 : BitVec 1 := Scalar.cmpi .slt arg1 c11_i32
  let v5 : BitVec 1 := Scalar.andi v3 v4
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg1 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c0_i32_14 : BitVec 32 := 0#32
  let v30 : BitVec 1 := Scalar.cmpi .eq v29 c0_i32_14
  let v31 : BitVec 1 := Scalar.andi v5 v30
  let v32 : BitVec 32 := Scalar.extui v31
  let c0_i32_15 : BitVec 32 := 0#32
  let v33 : BitVec 1 := Scalar.cmpi .ne v32 c0_i32_15
  v33

def k0_cond4 (i : grid0.Coords) : BitVec 1 :=
  let arg1 : BitVec 32 := BitVec.ofNat 32 (i 1).val
  let c11_i32_16 : BitVec 32 := 11#32
  let v34 : BitVec 1 := Scalar.cmpi .eq arg1 c11_i32_16
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi v0 c11_i32
  let c0_i32 : BitVec 32 := 0#32
  let c0_i32_0 : BitVec 32 := 0#32
  let c0_i32_1 : BitVec 32 := 0#32
  ![c0_i32.toNat, c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S4x4096x2048 : Shape := ⟨3, ![4, 4096, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S4x4096x11264 : Shape := ⟨3, ![4, 4096, 11264]⟩
abbrev S4x4096x5632 : Shape := ⟨3, ![4, 4096, 5632]⟩
abbrev S16384x2048 : Shape := ⟨2, ![16384, 2048]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x11264, .f32⟩
  | .hbm, ⟨3, _⟩ => ⟨S2x5632x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S1x2048x11264, .f32⟩
  | .hbm, ⟨24, _⟩ => ⟨S2048x11264, .f32⟩
  | .hbm, ⟨25, _⟩ => ⟨S1x5632x2048, .f32⟩
  | .hbm, ⟨26, _⟩ => ⟨S5632x2048, .f32⟩
  | .hbm, ⟨27, _⟩ => ⟨S4x4096x11264, .f32⟩
  | .hbm, ⟨28, _⟩ => ⟨S4x4096x5632, .f32⟩
  | .hbm, ⟨29, _⟩ => ⟨S4x4096x5632, .f32⟩
  | .hbm, ⟨30, _⟩ => ⟨S4x4096x5632, .f32⟩
  | .hbm, ⟨31, _⟩ => ⟨S4x4096x5632, .f32⟩
  | .hbm, ⟨32, _⟩ => ⟨S_, .f32⟩
  | .hbm, ⟨33, _⟩ => ⟨S4x4096x5632, .f32⟩
  | .hbm, ⟨34, _⟩ => ⟨S4x4096x5632, .f32⟩
  | .hbm, ⟨35, _⟩ => ⟨S_, .f32⟩
  | .hbm, ⟨36, _⟩ => ⟨S4x4096x5632, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S4x4096x2048, .f32⟩
  | .hbm, ⟨41, _⟩ => ⟨S1x2048, .f32⟩
  | .hbm, ⟨42, _⟩ => ⟨S2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S_, .f32⟩
  | .hbm, ⟨60, _⟩ => ⟨S4x4096x2048, .f32⟩
  | .hbm, ⟨61, _⟩ => ⟨S4x4096x2048, .f32⟩
  | .hbm, ⟨62, _⟩ => ⟨S4x4096x2048, .f32⟩
  | .hbm, ⟨63, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Inproj.lean ====
abbrev S4x4096x2048 : Shape := ⟨3, ![4, 4096, 2048]⟩
abbrev S2x2048 : Shape := ⟨2, ![2, 2048]⟩
abbrev S2x2048x10240 : Shape := ⟨3, ![2, 2048, 10240]⟩
abbrev S16384x2048 : Shape := ⟨2, ![16384, 2048]⟩
abbrev S2x1x2048 : Shape := ⟨3, ![2, 1, 2048]⟩
abbrev S16384x10240 : Shape := ⟨2, ![16384, 10240]⟩
abbrev S1024x2048 : Shape := ⟨2, ![1024, 2048]⟩
abbrev S1x1x2048 : Shape := ⟨3, ![1, 1, 2048]⟩
abbrev S1x2048x2048 : Shape := ⟨3, ![1, 2048, 2048]⟩
abbrev S1x2048 : Shape := ⟨2, ![1, 2048]⟩
abbrev S1024 : Shape := ⟨1, ![1024]⟩
abbrev S1024x1 : Shape := ⟨2, ![1024, 1]⟩
abbrev S2048x2048 : Shape := ⟨2, ![2048, 2048]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x10240, .f32⟩
  | .hbm, ⟨3, _⟩ => ⟨S16384x2048, .f32⟩
  | .hbm, ⟨4, _⟩ => ⟨S2x1x2048, .f32⟩
  | .hbm, ⟨5, _⟩ => ⟨S2x2048x10240, .bf16⟩
  | .hbm, ⟨6, _⟩ => ⟨S16384x10240, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S4x4096x2048 : Shape := ⟨3, ![4, 4096, 2048]⟩
abbrev S2x2048 : Shape := ⟨2, ![2, 2048]⟩
abbrev S2x2048x10240 : Shape := ⟨3, ![2, 2048, 10240]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x10240 : Shape := ⟨3, ![1, 2048, 10240]⟩
abbrev S2048x10240 : Shape := ⟨2, ![2048, 10240]⟩
abbrev S4x4096x10240 : Shape := ⟨3, ![4, 4096, 10240]⟩
abbrev S16384x10240 : Shape := ⟨2, ![16384, 10240]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x10240, .f32⟩
  | .hbm, ⟨3, _⟩ => ⟨S1x2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S1x2048x10240, .f32⟩
  | .hbm, ⟨22, _⟩ => ⟨S2048x10240, .f32⟩
  | .hbm, ⟨23, _⟩ => ⟨S4x4096x10240, .f32⟩
  | .hbm, ⟨24, _⟩ => ⟨S4x4096x10240, .bf16⟩
  | .hbm, ⟨25, _⟩ => ⟨S16384x10240, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Merge.lean ====
abbrev S4x4096x1024 : Shape := ⟨3, ![4, 4096, 1024]⟩
abbrev S4x4096x10240 : Shape := ⟨3, ![4, 4096, 10240]⟩
abbrev S4x4096x2048 : Shape := ⟨3, ![4, 4096, 2048]⟩
abbrev S2x1024x2048 : Shape := ⟨3, ![2, 1024, 2048]⟩
abbrev S2x2048x2048 : Shape := ⟨3, ![2, 2048, 2048]⟩
abbrev S2x2048 : Shape := ⟨2, ![2, 2048]⟩
abbrev S16384x1024 : Shape := ⟨2, ![16384, 1024]⟩
abbrev S16384x10240 : Shape := ⟨2, ![16384, 10240]⟩
abbrev S16384x2048 : Shape := ⟨2, ![16384, 2048]⟩
abbrev S2x1x2048 : Shape := ⟨3, ![2, 1, 2048]⟩
abbrev S512x1024 : Shape := ⟨2, ![512, 1024]⟩
abbrev S512x2048 : Shape := ⟨2, ![512, 2048]⟩
abbrev S1x1024x2048 : Shape := ⟨3, ![1, 1024, 2048]⟩
abbrev S1x2048x2048 : Shape := ⟨3, ![1, 2048, 2048]⟩
abbrev S1x1x2048 : Shape := ⟨3, ![1, 1, 2048]⟩
abbrev S1024x2048 : Shape := ⟨2, ![1024, 2048]⟩
abbrev S2048x2048 : Shape := ⟨2, ![2048, 2048]⟩
abbrev S1x2048 : Shape := ⟨2, ![1, 2048]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x10240, .bf16⟩
  | .hbm, ⟨3, _⟩ => ⟨S4x4096x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048, .f32⟩
  | .hbm, ⟨8, _⟩ => ⟨S16384x1024, .bf16⟩
  | .hbm, ⟨9, _⟩ => ⟨S16384x1024, .bf16⟩
  | .hbm, ⟨10, _⟩ => ⟨S16384x10240, .bf16⟩
  | .hbm, ⟨11, _⟩ => ⟨S16384x2048, .f32⟩
  | .hbm, ⟨12, _⟩ => ⟨S2x1024x2048, .bf16⟩
  | .hbm, ⟨13, _⟩ => ⟨S2x1024x2048, .bf16⟩
  | .hbm, ⟨14, _⟩ => ⟨S2x2048x2048, .bf16⟩
  | .hbm, ⟨15, _⟩ => ⟨S2x1x2048, .f32⟩
  | .hbm, ⟨16, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x2048x2048, .bf16⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S4x4096x1024 : Shape := ⟨3, ![4, 4096, 1024]⟩
abbrev S4x4096x10240 : Shape := ⟨3, ![4, 4096, 10240]⟩
abbrev S4x4096x2048 : Shape := ⟨3, ![4, 4096, 2048]⟩
abbrev S2x1024x2048 : Shape := ⟨3, ![2, 1024, 2048]⟩
abbrev S2x2048x2048 : Shape := ⟨3, ![2, 2048, 2048]⟩
abbrev S2x2048 : Shape := ⟨2, ![2, 2048]⟩
abbrev S_ : Shape := ⟨0, ![]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x10240, .bf16⟩
  | .hbm, ⟨3, _⟩ => ⟨S4x4096x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048, .f32⟩
  | .hbm, ⟨8, _⟩ => ⟨S4x4096x1024, .f32⟩
  | .hbm, ⟨9, _⟩ => ⟨S4x4096x1024, .f32⟩
  | .hbm, ⟨10, _⟩ => ⟨S4x4096x10240, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096x2048, .f32⟩
  | .hbm, ⟨28, _⟩ => ⟨S4x4096x2048, .f32⟩
  | .hbm, ⟨29, _⟩ => ⟨S1x1024x2048, .f32⟩
  | .hbm, ⟨30, _⟩ => ⟨S1024x2048, .f32⟩
  | .hbm, ⟨31, _⟩ => ⟨S4x4096x2048, .f32⟩
  | .hbm, ⟨32, _⟩ => ⟨S4x4096x2048, .f32⟩
  | .hbm, ⟨33, _⟩ => ⟨S1x1024x2048, .f32⟩
  | .hbm, ⟨34, _⟩ => ⟨S1024x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S1x2048x2048, .f32⟩
  | .hbm, ⟨39, _⟩ => ⟨S2048x2048, .f32⟩
  | .hbm, ⟨40, _⟩ => ⟨S4x4096x2048, .f32⟩
  | .hbm, ⟨41, _⟩ => ⟨S1x2048, .f32⟩
  | .hbm, ⟨42, _⟩ => ⟨S2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S16384x2048, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Diff.lean ====
abbrev S4x4096x10240 : Shape := ⟨3, ![4, 4096, 10240]⟩
abbrev S2x64 : Shape := ⟨2, ![2, 64]⟩
abbrev S2x128 : Shape := ⟨2, ![2, 128]⟩
abbrev S8 : Shape := ⟨1, ![8]⟩
abbrev S_ : Shape := ⟨0, ![]⟩
abbrev S8x1 : Shape := ⟨2, ![8, 1]⟩
abbrev S4096 : Shape := ⟨1, ![4096]⟩
abbrev S1x4096 : Shape := ⟨2, ![1, 4096]⟩
abbrev S8x4096 : Shape := ⟨2, ![8, 4096]⟩
abbrev S2x1x64 : Shape := ⟨3, ![2, 1, 64]⟩
abbrev S2x1x128 : Shape := ⟨3, ![2, 1, 128]⟩
abbrev S2x512x512 : Shape := ⟨3, ![2, 512, 512]⟩
abbrev S4x4096x1024 : Shape := ⟨3, ![4, 4096, 1024]⟩
abbrev S1x1x64 : Shape := ⟨3, ![1, 1, 64]⟩
abbrev S1x1x128 : Shape := ⟨3, ![1, 1, 128]⟩
abbrev S8x256 : Shape := ⟨2, ![8, 256]⟩
abbrev S1x256x512 : Shape := ⟨3, ![1, 256, 512]⟩
abbrev S1x4096x512 : Shape := ⟨3, ![1, 4096, 512]⟩
abbrev S4x128x512 : Shape := ⟨3, ![4, 128, 512]⟩
abbrev S4x4096x128 : Shape := ⟨3, ![4, 4096, 128]⟩
abbrev S4x8x144x512 : Shape := ⟨4, ![4, 8, 144, 512]⟩
abbrev S4x2x512x512 : Shape := ⟨4, ![4, 2, 512, 512]⟩
abbrev S4x2x1x512 : Shape := ⟨4, ![4, 2, 1, 512]⟩
abbrev S4x1x512 : Shape := ⟨3, ![4, 1, 512]⟩
abbrev S4x144x512 : Shape := ⟨3, ![4, 144, 512]⟩
abbrev S16x512 : Shape := ⟨2, ![16, 512]⟩
abbrev S1x512x128 : Shape := ⟨3, ![1, 512, 128]⟩
abbrev S512x128 : Shape := ⟨2, ![512, 128]⟩
abbrev S128x512 : Shape := ⟨2, ![128, 512]⟩
abbrev S8x512 : Shape := ⟨2, ![8, 512]⟩
abbrev S48x512 : Shape := ⟨2, ![48, 512]⟩
abbrev S1x4096x128 : Shape := ⟨3, ![1, 4096, 128]⟩
abbrev S4096x128 : Shape := ⟨2, ![4096, 128]⟩
abbrev S1x8x144x512 : Shape := ⟨4, ![1, 8, 144, 512]⟩
abbrev S8x144x512 : Shape := ⟨3, ![8, 144, 512]⟩
abbrev S1x128x512 : Shape := ⟨3, ![1, 128, 512]⟩
abbrev S1x1x128x512 : Shape := ⟨4, ![1, 1, 128, 512]⟩
abbrev S1x16x512 : Shape := ⟨3, ![1, 16, 512]⟩
abbrev S1x1x16x512 : Shape := ⟨4, ![1, 1, 16, 512]⟩
abbrev S128x256 : Shape := ⟨2, ![128, 256]⟩
abbrev S1x256x128 : Shape := ⟨3, ![1, 256, 128]⟩
abbrev S256x128 : Shape := ⟨2, ![256, 128]⟩
abbrev S48x256 : Shape := ⟨2, ![48, 256]⟩
abbrev S1x128x256 : Shape := ⟨3, ![1, 128, 256]⟩
abbrev S256x512 : Shape := ⟨2, ![256, 512]⟩
abbrev S1x2x512x512 : Shape := ⟨4, ![1, 2, 512, 512]⟩
abbrev S1x144x256 : Shape := ⟨3, ![1, 144, 256]⟩
abbrev S144x256 : Shape := ⟨2, ![144, 256]⟩
abbrev S512 : Shape := ⟨1, ![512]⟩
abbrev S1x512 : Shape := ⟨2, ![1, 512]⟩
abbrev S144x512 : Shape := ⟨2, ![144, 512]⟩
abbrev S1x144x512 : Shape := ⟨3, ![1, 144, 512]⟩
abbrev S1x1x512 : Shape := ⟨3, ![1, 1, 512]⟩
abbrev S1x64 : Shape := ⟨2, ![1, 64]⟩
abbrev S1 : Shape := ⟨1, ![1]⟩
abbrev S1x1 : Shape := ⟨2, ![1, 1]⟩
abbrev S1x128 : Shape := ⟨2, ![1, 128]⟩
abbrev S256 : Shape := ⟨1, ![256]⟩
abbrev S256x1 : Shape := ⟨2, ![256, 1]⟩
abbrev S512x512 : Shape := ⟨2, ![512, 512]⟩
abbrev S1x2x1x512 : Shape := ⟨4, ![1, 2, 1, 512]⟩
abbrev S2x1x512 : Shape := ⟨3, ![2, 1, 512]⟩
abbrev S1x512x512 : Shape := ⟨3, ![1, 512, 512]⟩

abbrev nBuf : Space → Nat
  | .hbm => 70
  | .vmem => 27
  | .smem => 0
  | _ => 0

abbrev bufTy : (tb : Table) → Fin (tcTables nBuf tb) → BufTy
  | .hbm, ⟨0, _⟩ => ⟨S4x4096x10240, .bf16⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x128, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8x1, .f32⟩
  | .hbm, ⟨21, _⟩ => ⟨S4096, .f32⟩
  | .hbm, ⟨22, _⟩ => ⟨S1x4096, .f32⟩
  | .hbm, ⟨23, _⟩ => ⟨S8x4096, .f32⟩
  | .hbm, ⟨24, _⟩ => ⟨S8x4096, .f32⟩
  | .hbm, ⟨25, _⟩ => ⟨S8x4096, .f32⟩
  | .hbm, ⟨26, _⟩ => ⟨S8x4096, .f32⟩
  | .hbm, ⟨27, _⟩ => ⟨S8x4096, .f32⟩
  | .hbm, ⟨28, _⟩ => ⟨S2x1x64, .f32⟩
  | .hbm, ⟨29, _⟩ => ⟨S2x1x64, .f32⟩
  | .hbm, ⟨30, _⟩ => ⟨S2x1x64, .f32⟩
  | .hbm, ⟨31, _⟩ => ⟨S2x1x64, .f32⟩
  | .hbm, ⟨32, _⟩ => ⟨S2x1x128, .f32⟩
  | .hbm, ⟨33, _⟩ => ⟨S2x512x512, .i32⟩
  | .hbm, ⟨34, _⟩ => ⟨S2x512x512, .i32⟩
  | .hbm, ⟨35, _⟩ => ⟨S2x512x512, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S2x512x512, .i32⟩
  | .hbm, ⟨43, _⟩ => ⟨S2x512x512, .i32⟩
  | .hbm, ⟨44, _⟩ => ⟨S_, .i32⟩
  | .hbm, ⟨45, _⟩ => ⟨S2x512x512, .i32⟩
  | .hbm, ⟨46, _⟩ => ⟨S2x512x512, .i1⟩
  | .hbm, ⟨47, _⟩ => ⟨S_, .i32⟩
  | .hbm, ⟨48, _⟩ => ⟨S2x512x512, .i32⟩
  | .hbm, ⟨49, _⟩ => ⟨S2x512x512, .i1⟩
  | .hbm, ⟨50, _⟩ => ⟨S_, .i32⟩
  | .hbm, ⟨51, _⟩ => ⟨S_, .i1⟩
  | .hbm, ⟨52, _⟩ => ⟨S2x512x512, .i1⟩
  | .hbm, ⟨53, _⟩ => ⟨S2x512x512, .i1⟩
  | .hbm, ⟨54, _⟩ => ⟨S2x512x512, .i1⟩
  | .hbm, ⟨55, _⟩ => ⟨S2x512x512, .i32⟩
  | .hbm, ⟨56, _⟩ => ⟨S2x512x512, .i32⟩
  | .hbm, ⟨57, _⟩ => ⟨S2x512x512, .i32⟩
  | .hbm, ⟨58, _⟩ => ⟨S_, .i32⟩
  | .hbm, ⟨59, _⟩ => ⟨S2x512x512, .i32⟩
  | .hbm, ⟨60, _⟩ => ⟨S2x512x512, .i32⟩
  | .hbm, ⟨61, _⟩ => ⟨S2x512x512, .i32⟩
  | .hbm, ⟨62, _⟩ => ⟨S2x512x512, .i1⟩
  | .hbm, ⟨63, _⟩ => ⟨S_, .f32⟩
  | .hbm, ⟨64, _⟩ => ⟨S_, .f32⟩
  | .hbm, ⟨65, _⟩ => ⟨S2x512x512, .f32⟩
  | .hbm, ⟨66, _⟩ => ⟨S2x512x512, .f32⟩
  | .hbm, ⟨67, _⟩ => ⟨S2x512x512, .f32⟩
  | .hbm, ⟨68, _⟩ => ⟨S2x512x512, .f32⟩
  | .hbm, ⟨69, _⟩ => ⟨S4x4096x1024, .bf16⟩
  | .local _ .vmem, ⟨0, _⟩ => ⟨S1x1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .vmem, ⟨4, _⟩ => ⟨S1x1x128, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x4096, .f32⟩
  | .local _ .vmem, ⟨10, _⟩ => ⟨S8x4096, .f32⟩
  | .local _ .vmem, ⟨11, _⟩ => ⟨S2x512x512, .f32⟩
  | .local _ .vmem, ⟨12, _⟩ => ⟨S1x256x512, .bf16⟩
  | .local _ .vmem, ⟨13, _⟩ => ⟨S1x256x512, .bf16⟩
  | .local _ .vmem, ⟨14, _⟩ => ⟨S1x4096x512, .bf16⟩
  | .local _ .vmem, ⟨15, _⟩ => ⟨S1x4096x512, .bf16⟩
  | .local _ .vmem, ⟨16, _⟩ => ⟨S1x4096x512, .bf16⟩
  | .local _ .vmem, ⟨17, _⟩ => ⟨S1x4096x512, .bf16⟩
  | .local _ .vmem, ⟨18, _⟩ => ⟨S1x256x512, .bf16⟩
  | .local _ .vmem, ⟨19, _⟩ => ⟨S1x256x512, .bf16⟩
  | .local _ .vmem, ⟨20, _⟩ => ⟨S4x128x512, .bf16⟩
  | .local _ .vmem, ⟨21, _⟩ => ⟨S4x4096x128, .bf16⟩
  | .local _ .vmem, ⟨22, _⟩ => ⟨S4x8x144x512, .bf16⟩
  | .local _ .vmem, ⟨23, _⟩ => ⟨S4x2x512x512, .f32⟩
  | .local _ .vmem, ⟨24, _⟩ => ⟨S4x2x1x512, .f32⟩
  | .local _ .vmem, ⟨25, _⟩ => ⟨S4x1x512, .f32⟩
  | .local _ .vmem, ⟨26, _⟩ => ⟨S4x144x512, .f32⟩
  | _, _ => ⟨S4x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v26 : Ref sig .tc := ⟨.hbm, 57, rfl⟩
abbrev main_c_3 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_4 : Ref sig .tc := ⟨.hbm, 63, rfl⟩
abbrev main_cst_5 : Ref sig .tc := ⟨.hbm, 64, rfl⟩
abbrev main_call1_v0 : Ref sig .tc := ⟨.hbm, 65, rfl⟩
abbrev main_call1_v1 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨3, ![4, 2, 16], ![false, false, false]⟩

def k0_cond2 (i : grid0.Coords) : BitVec 1 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c0_i32_19 : BitVec 32 := 0#32
  let v43 : BitVec 1 := Scalar.cmpi .eq v42 c0_i32_19
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v44 : BitVec 1 := Scalar.andi v43 v13
  let v45 : BitVec 32 := Scalar.extui v44
  let c0_i32_35 : BitVec 32 := 0#32
  let v46 : BitVec 1 := Scalar.cmpi .ne v45 c0_i32_35
  v46

def k0_off1 (i : grid0.Coords) : Fin 3 → Nat :=
  let arg2 : BitVec 32 := BitVec.ofNat 32 (i 2).val
  let c2_i32_247 : BitVec 32 := 2#32
  let c0_i32_248 : BitVec 32 := 0#32
  let v291 : BitVec 1 := Scalar.cmpi .eq c2_i32_247 c0_i32_248
  let c1_i32_249 : BitVec 32 := 1#32
  let v292 : BitVec 32 := Scalar.select v291 c1_i32_249 c2_i32_247
  let v293 : BitVec 32 := Scalar.remsi arg2 v292
  let c0_i32_251 : BitVec 32 := 0#32
  let v295 : BitVec 1 := Scalar.cmpi .slt v293 c0_i32_251
  let c0_i32_252 : BitVec 32 := 0#32
  let v296 : BitVec 1 := Scalar.cmpi .slt v292 c0_i32_252
  let v297 : BitVec 1 := Scalar.xori v295 v296
  let c0_i32_250 : BitVec 32 := 0#32
  let v294 : BitVec 1 := Scalar.cmpi .ne v293 c0_i32_250
  let v298 : BitVec 1 := Scalar.andi v297 v294
  let v299 : BitVec 32 := Scalar.addi v293 v292
  let v300 : BitVec 32 := Scalar.select v298 v299 v293
  let v301 : Index := Scalar.indexCast v300
  let c0_253 : Index := 0#32
  let c0_254 : Index := 0#32
  ![v301.toNat, 0, 0]
def k0_cond3 (i : grid0.Coords) : BitVec 1 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c0_i32_36 : BitVec 32 := 0#32
  let v47 : BitVec 1 := Scalar.cmpi .sgt v42 c0_i32_36
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v48 : BitVec 1 := Scalar.andi v47 v13
  let v49 : BitVec 32 := Scalar.extui v48
  let c0_i32_57 : BitVec 32 := 0#32
  let v50 : BitVec 1 := Scalar.cmpi .ne v49 c0_i32_57
  v50

def k0_mult1 (i : grid0.Coords) : BitVec 32 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_183 : BitVec 32 := 512#32
  let v243 : BitVec 32 := Scalar.muli v42 c512_i32_183
  v243
def k0_off2 (i : grid0.Coords) : Fin 3 → Nat :=
  let c0_184 : Index := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_183 : BitVec 32 := 512#32
  let v243 : BitVec 32 := Scalar.muli v42 c512_i32_183
  let v244 : BitVec 32 := v243
  let v245 : Index := Scalar.indexCast v244
  let c0_185 : Index := 0#32
  ![0, v245.toNat, 0]
def k0_mult2 (i : grid0.Coords) : BitVec 32 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_196 : BitVec 32 := 512#32
  let v256 : BitVec 32 := Scalar.muli v42 c512_i32_196
  v256
def k0_off3 (i : grid0.Coords) : Fin 3 → Nat :=
  let c1_197 : Index := 1#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_196 : BitVec 32 := 512#32
  let v256 : BitVec 32 := Scalar.muli v42 c512_i32_196
  let v257 : BitVec 32 := v256
  let v258 : Index := Scalar.indexCast v257
  let c0_198 : Index := 0#32
  ![1, v258.toNat, 0]
def k0_mult3 (i : grid0.Coords) : BitVec 32 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_209 : BitVec 32 := 512#32
  let v269 : BitVec 32 := Scalar.muli v42 c512_i32_209
  v269
def k0_off4 (i : grid0.Coords) : Fin 3 → Nat :=
  let c2_210 : Index := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_209 : BitVec 32 := 512#32
  let v269 : BitVec 32 := Scalar.muli v42 c512_i32_209
  let v270 : BitVec 32 := v269
  let v271 : Index := Scalar.indexCast v270
  let c0_211 : Index := 0#32
  ![2, v271.toNat, 0]
def k0_mult4 (i : grid0.Coords) : BitVec 32 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_222 : BitVec 32 := 512#32
  let v282 : BitVec 32 := Scalar.muli v42 c512_i32_222
  v282
def k0_off5 (i : grid0.Coords) : Fin 3 → Nat :=
  let c3_223 : Index := 3#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_222 : BitVec 32 := 512#32
  let v282 : BitVec 32 := Scalar.muli v42 c512_i32_222
  let v283 : BitVec 32 := v282
  let v284 : Index := Scalar.indexCast v283
  let c0_224 : Index := 0#32
  ![3, v284.toNat, 0]
def k0_off6 (i : grid0.Coords) : Fin 3 → Nat :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let v369 : Index := Scalar.indexCast v42
  let c0_324 : Index := 0#32
  let c0_325 : Index := 0#32
  ![v369.toNat, 0, 0]
def k0_off7 (i : grid0.Coords) : Fin 3 → Nat :=
  let arg2 : BitVec 32 := BitVec.ofNat 32 (i 2).val
  let c2_i32_326 : BitVec 32 := 2#32
  let c0_i32_327 : BitVec 32 := 0#32
  let v372 : BitVec 1 := Scalar.cmpi .eq c2_i32_326 c0_i32_327
  let c1_i32_328 : BitVec 32 := 1#32
  let v373 : BitVec 32 := Scalar.select v372 c1_i32_328 c2_i32_326
  let v374 : BitVec 32 := Scalar.remsi arg2 v373
  let c0_i32_330 : BitVec 32 := 0#32
  let v376 : BitVec 1 := Scalar.cmpi .slt v374 c0_i32_330
  let c0_i32_331 : BitVec 32 := 0#32
  let v377 : BitVec 1 := Scalar.cmpi .slt v373 c0_i32_331
  let v378 : BitVec 1 := Scalar.xori v376 v377
  let c0_i32_329 : BitVec 32 := 0#32
  let v375 : BitVec 1 := Scalar.cmpi .ne v374 c0_i32_329
  let v379 : BitVec 1 := Scalar.andi v378 v375
  let v380 : BitVec 32 := Scalar.addi v374 v373
  let v381 : BitVec 32 := Scalar.select v379 v380 v374
  let v382 : Index := Scalar.indexCast v381
  let c0_332 : Index := 0#32
  let c0_333 : Index := 0#32
  ![v382.toNat, 0, 0]
def k0_cond4 (i : grid0.Coords) : BitVec 1 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c0_i32_58 : BitVec 32 := 0#32
  let v51 : BitVec 1 := Scalar.cmpi .eq v42 c0_i32_58
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg2 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c1_i32_12 : BitVec 32 := 1#32
  let v24 : BitVec 1 := Scalar.cmpi .eq v23 c1_i32_12
  let v52 : BitVec 1 := Scalar.andi v51 v24
  let v53 : BitVec 32 := Scalar.extui v52
  let c0_i32_75 : BitVec 32 := 0#32
  let v54 : BitVec 1 := Scalar.cmpi .ne v53 c0_i32_75
  v54

def k0_off8 (i : grid0.Coords) : Fin 3 → Nat :=
  let arg2 : BitVec 32 := BitVec.ofNat 32 (i 2).val
  let c2_i32_247 : BitVec 32 := 2#32
  let c0_i32_248 : BitVec 32 := 0#32
  let v291 : BitVec 1 := Scalar.cmpi .eq c2_i32_247 c0_i32_248
  let c1_i32_249 : BitVec 32 := 1#32
  let v292 : BitVec 32 := Scalar.select v291 c1_i32_249 c2_i32_247
  let v293 : BitVec 32 := Scalar.remsi arg2 v292
  let c0_i32_251 : BitVec 32 := 0#32
  let v295 : BitVec 1 := Scalar.cmpi .slt v293 c0_i32_251
  let c0_i32_252 : BitVec 32 := 0#32
  let v296 : BitVec 1 := Scalar.cmpi .slt v292 c0_i32_252
  let v297 : BitVec 1 := Scalar.xori v295 v296
  let c0_i32_250 : BitVec 32 := 0#32
  let v294 : BitVec 1 := Scalar.cmpi .ne v293 c0_i32_250
  let v298 : BitVec 1 := Scalar.andi v297 v294
  let v299 : BitVec 32 := Scalar.addi v293 v292
  let v300 : BitVec 32 := Scalar.select v298 v299 v293
  let v301 : Index := Scalar.indexCast v300
  let c0_253 : Index := 0#32
  let c0_254 : Index := 0#32
  ![v301.toNat, 0, 0]
def k0_cond5 (i : grid0.Coords) : BitVec 1 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c0_i32_76 : BitVec 32 := 0#32
  let v55 : BitVec 1 := Scalar.cmpi .sgt v42 c0_i32_76
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg2 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c1_i32_12 : BitVec 32 := 1#32
  let v24 : BitVec 1 := Scalar.cmpi .eq v23 c1_i32_12
  let v56 : BitVec 1 := Scalar.andi v55 v24
  let v57 : BitVec 32 := Scalar.extui v56
  let c0_i32_97 : BitVec 32 := 0#32
  let v58 : BitVec 1 := Scalar.cmpi .ne v57 c0_i32_97
  v58

def k0_mult5 (i : grid0.Coords) : BitVec 32 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_183 : BitVec 32 := 512#32
  let v243 : BitVec 32 := Scalar.muli v42 c512_i32_183
  v243
def k0_off9 (i : grid0.Coords) : Fin 3 → Nat :=
  let c0_184 : Index := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_183 : BitVec 32 := 512#32
  let v243 : BitVec 32 := Scalar.muli v42 c512_i32_183
  let v244 : BitVec 32 := v243
  let v245 : Index := Scalar.indexCast v244
  let c0_185 : Index := 0#32
  ![0, v245.toNat, 0]
def k0_mult6 (i : grid0.Coords) : BitVec 32 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_196 : BitVec 32 := 512#32
  let v256 : BitVec 32 := Scalar.muli v42 c512_i32_196
  v256
def k0_off10 (i : grid0.Coords) : Fin 3 → Nat :=
  let c1_197 : Index := 1#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_196 : BitVec 32 := 512#32
  let v256 : BitVec 32 := Scalar.muli v42 c512_i32_196
  let v257 : BitVec 32 := v256
  let v258 : Index := Scalar.indexCast v257
  let c0_198 : Index := 0#32
  ![1, v258.toNat, 0]
def k0_mult7 (i : grid0.Coords) : BitVec 32 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_209 : BitVec 32 := 512#32
  let v269 : BitVec 32 := Scalar.muli v42 c512_i32_209
  v269
def k0_off11 (i : grid0.Coords) : Fin 3 → Nat :=
  let c2_210 : Index := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_209 : BitVec 32 := 512#32
  let v269 : BitVec 32 := Scalar.muli v42 c512_i32_209
  let v270 : BitVec 32 := v269
  let v271 : Index := Scalar.indexCast v270
  let c0_211 : Index := 0#32
  ![2, v271.toNat, 0]
def k0_mult8 (i : grid0.Coords) : BitVec 32 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_222 : BitVec 32 := 512#32
  let v282 : BitVec 32 := Scalar.muli v42 c512_i32_222
  v282
def k0_off12 (i : grid0.Coords) : Fin 3 → Nat :=
  let c3_223 : Index := 3#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c512_i32_222 : BitVec 32 := 512#32
  let v282 : BitVec 32 := Scalar.muli v42 c512_i32_222
  let v283 : BitVec 32 := v282
  let v284 : Index := Scalar.indexCast v283
  let c0_224 : Index := 0#32
  ![3, v284.toNat, 0]
def k0_off13 (i : grid0.Coords) : Fin 3 → Nat :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let v369 : Index := Scalar.indexCast v42
  let c0_324 : Index := 0#32
  let c0_325 : Index := 0#32
  ![v369.toNat, 0, 0]
def k0_off14 (i : grid0.Coords) : Fin 3 → Nat :=
  let arg2 : BitVec 32 := BitVec.ofNat 32 (i 2).val
  let c2_i32_326 : BitVec 32 := 2#32
  let c0_i32_327 : BitVec 32 := 0#32
  let v372 : BitVec 1 := Scalar.cmpi .eq c2_i32_326 c0_i32_327
  let c1_i32_328 : BitVec 32 := 1#32
  let v373 : BitVec 32 := Scalar.select v372 c1_i32_328 c2_i32_326
  let v374 : BitVec 32 := Scalar.remsi arg2 v373
  let c0_i32_330 : BitVec 32 := 0#32
  let v376 : BitVec 1 := Scalar.cmpi .slt v374 c0_i32_330
  let c0_i32_331 : BitVec 32 := 0#32
  let v377 : BitVec 1 := Scalar.cmpi .slt v373 c0_i32_331
  let v378 : BitVec 1 := Scalar.xori v376 v377
  let c0_i32_329 : BitVec 32 := 0#32
  let v375 : BitVec 1 := Scalar.cmpi .ne v374 c0_i32_329
  let v379 : BitVec 1 := Scalar.andi v378 v375
  let v380 : BitVec 32 := Scalar.addi v374 v373
  let v381 : BitVec 32 := Scalar.select v379 v380 v374
  let v382 : Index := Scalar.indexCast v381
  let c0_332 : Index := 0#32
  let c0_333 : Index := 0#32
  ![v382.toNat, 0, 0]
def k0_cond6 (i : grid0.Coords) : BitVec 1 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c0_i32_98 : BitVec 32 := 0#32
  let v59 : BitVec 1 := Scalar.cmpi .sgt v42 c0_i32_98
  let v60 : BitVec 32 := Scalar.extui v59
  let c0_i32_119 : BitVec 32 := 0#32
  let v61 : BitVec 1 := Scalar.cmpi .ne v60 c0_i32_119
  v61

@[reducible] def k0_t1_loop (i : grid0.Coords) : Scf.Loop 32 :=
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_131 : BitVec 32 := 1#32
  ⟨c0_i32_129, v84, c1_i32_131⟩
def k0_mult9 (i : grid0.Coords) (k0_t1 : Fin (k0_t1_loop i).trips) : BitVec 32 :=
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c512_i32_152 : BitVec 32 := 512#32
  let v114 : BitVec 32 := Scalar.muli v113 c512_i32_152
  v114
def k0_off15 (i : grid0.Coords) (k0_t1 : Fin (k0_t1_loop i).trips) : Fin 3 → Nat :=
  let c0 : Index := 0#32
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c512_i32_152 : BitVec 32 := 512#32
  let v114 : BitVec 32 := Scalar.muli v113 c512_i32_152
  let v115 : BitVec 32 := v114
  let v116 : Index := Scalar.indexCast v115
  let c0_153 : Index := 0#32
  ![0, v116.toNat, 0]
def k0_mult10 (i : grid0.Coords) (k0_t1 : Fin (k0_t1_loop i).trips) : BitVec 32 :=
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c512_i32_170 : BitVec 32 := 512#32
  let v134 : BitVec 32 := Scalar.muli v113 c512_i32_170
  v134
def k0_off16 (i : grid0.Coords) (k0_t1 : Fin (k0_t1_loop i).trips) : Fin 3 → Nat :=
  let c1 : Index := 1#32
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c512_i32_170 : BitVec 32 := 512#32
  let v134 : BitVec 32 := Scalar.muli v113 c512_i32_170
  let v135 : BitVec 32 := v134
  let v136 : Index := Scalar.indexCast v135
  let c0_171 : Index := 0#32
  ![1, v136.toNat, 0]
def k0_mult11 (i : grid0.Coords) (k0_t1 : Fin (k0_t1_loop i).trips) : BitVec 32 :=
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c512_i32_189 : BitVec 32 := 512#32
  let v154 : BitVec 32 := Scalar.muli v113 c512_i32_189
  v154
def k0_off17 (i : grid0.Coords) (k0_t1 : Fin (k0_t1_loop i).trips) : Fin 3 → Nat :=
  let c2 : Index := 2#32
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c512_i32_189 : BitVec 32 := 512#32
  let v154 : BitVec 32 := Scalar.muli v113 c512_i32_189
  let v155 : BitVec 32 := v154
  let v156 : Index := Scalar.indexCast v155
  let c0_190 : Index := 0#32
  ![2, v156.toNat, 0]
def k0_mult12 (i : grid0.Coords) (k0_t1 : Fin (k0_t1_loop i).trips) : BitVec 32 :=
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c512_i32_208 : BitVec 32 := 512#32
  let v174 : BitVec 32 := Scalar.muli v113 c512_i32_208
  v174
def k0_off18 (i : grid0.Coords) (k0_t1 : Fin (k0_t1_loop i).trips) : Fin 3 → Nat :=
  let c3 : Index := 3#32
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c512_i32_208 : BitVec 32 := 512#32
  let v174 : BitVec 32 := Scalar.muli v113 c512_i32_208
  let v175 : BitVec 32 := v174
  let v176 : Index := Scalar.indexCast v175
  let c0_209 : Index := 0#32
  ![3, v176.toNat, 0]
def k0_off19 (i : grid0.Coords) (k0_t1 : Fin (k0_t1_loop i).trips) : Fin 3 → Nat :=
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c1_i32_227 : BitVec 32 := 1#32
  let v194 : BitVec 32 := Scalar.subi v113 c1_i32_227
  let v201 : Index := Scalar.indexCast v194
  let c0_237 : Index := 0#32
  let c0_238 : Index := 0#32
  ![v201.toNat, 0, 0]
def k0_mult13 (i : grid0.Coords) (k0_t1 : Fin (k0_t1_loop i).trips) : BitVec 32 :=
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_333 : BitVec 32 := 512#32
  let v348 : BitVec 32 := Scalar.muli v347 c512_i32_333
  v348
def k0_off20 (i : grid0.Coords) (k0_t1 : Fin (k0_t1_loop i).trips) : Fin 3 → Nat :=
  let c0_334 : Index := 0#32
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_333 : BitVec 32 := 512#32
  let v348 : BitVec 32 := Scalar.muli v347 c512_i32_333
  let v349 : BitVec 32 := v348
  let v350 : Index := Scalar.indexCast v349
  let c0_335 : Index := 0#32
  ![0, v350.toNat, 0]
def k0_mult14 (i : grid0.Coords) (k0_t1 : Fin (k0_t1_loop i).trips) : BitVec 32 :=
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_353 : BitVec 32 := 512#32
  let v368 : BitVec 32 := Scalar.muli v347 c512_i32_353
  v368
def k0_off21 (i : grid0.Coords) (k0_t1 : Fin (k0_t1_loop i).trips) : Fin 3 → Nat :=
  let c1_354 : Index := 1#32
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_353 : BitVec 32 := 512#32
  let v368 : BitVec 32 := Scalar.muli v347 c512_i32_353
  let v369 : BitVec 32 := v368
  let v370 : Index := Scalar.indexCast v369
  let c0_355 : Index := 0#32
  ![1, v370.toNat, 0]
def k0_mult15 (i : grid0.Coords) (k0_t1 : Fin (k0_t1_loop i).trips) : BitVec 32 :=
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_373 : BitVec 32 := 512#32
  let v388 : BitVec 32 := Scalar.muli v347 c512_i32_373
  v388
def k0_off22 (i : grid0.Coords) (k0_t1 : Fin (k0_t1_loop i).trips) : Fin 3 → Nat :=
  let c2_374 : Index := 2#32
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_373 : BitVec 32 := 512#32
  let v388 : BitVec 32 := Scalar.muli v347 c512_i32_373
  let v389 : BitVec 32 := v388
  let v390 : Index := Scalar.indexCast v389
  let c0_375 : Index := 0#32
  ![2, v390.toNat, 0]
def k0_mult16 (i : grid0.Coords) (k0_t1 : Fin (k0_t1_loop i).trips) : BitVec 32 :=
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_393 : BitVec 32 := 512#32
  let v408 : BitVec 32 := Scalar.muli v347 c512_i32_393
  v408
def k0_off23 (i : grid0.Coords) (k0_t1 : Fin (k0_t1_loop i).trips) : Fin 3 → Nat :=
  let c3_394 : Index := 3#32
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_393 : BitVec 32 := 512#32
  let v408 : BitVec 32 := Scalar.muli v347 c512_i32_393
  let v409 : BitVec 32 := v408
  let v410 : Index := Scalar.indexCast v409
  let c0_395 : Index := 0#32
  ![3, v410.toNat, 0]
def k0_off24 (i : grid0.Coords) (k0_t1 : Fin (k0_t1_loop i).trips) : Fin 3 → Nat :=
  let c2_i32_150 : BitVec 32 := 2#32
  let c0_i32_129 : BitVec 32 := 0#32
  let c1_i32_131 : BitVec 32 := 1#32
  let arg24 : BitVec 32 := Scf.iv c0_i32_129 c1_i32_131 k0_t1
  let v112 : BitVec 32 := Scalar.muli c2_i32_150 arg24
  let c1_i32_151 : BitVec 32 := 1#32
  let v113 : BitVec 32 := Scalar.addi v112 c1_i32_151
  let v434 : Index := Scalar.indexCast v113
  let c0_422 : Index := 0#32
  let c0_423 : Index := 0#32
  ![v434.toNat, 0, 0]
@[reducible] def k0_t2_loop (i : grid0.Coords) : Scf.Loop 32 :=
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let v81 : BitVec 32 := Scalar.addi c0_i32_129 v80
  let c1_i32_132 : BitVec 32 := 1#32
  ⟨v84, v81, c1_i32_132⟩
def k0_mult17 (i : grid0.Coords) (k0_t2 : Fin (k0_t2_loop i).trips) : BitVec 32 :=
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c512_i32_152 : BitVec 32 := 512#32
  let v114 : BitVec 32 := Scalar.muli v113 c512_i32_152
  v114
def k0_off25 (i : grid0.Coords) (k0_t2 : Fin (k0_t2_loop i).trips) : Fin 3 → Nat :=
  let c0 : Index := 0#32
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c512_i32_152 : BitVec 32 := 512#32
  let v114 : BitVec 32 := Scalar.muli v113 c512_i32_152
  let v115 : BitVec 32 := v114
  let v116 : Index := Scalar.indexCast v115
  let c0_153 : Index := 0#32
  ![0, v116.toNat, 0]
def k0_mult18 (i : grid0.Coords) (k0_t2 : Fin (k0_t2_loop i).trips) : BitVec 32 :=
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c512_i32_170 : BitVec 32 := 512#32
  let v134 : BitVec 32 := Scalar.muli v113 c512_i32_170
  v134
def k0_off26 (i : grid0.Coords) (k0_t2 : Fin (k0_t2_loop i).trips) : Fin 3 → Nat :=
  let c1 : Index := 1#32
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c512_i32_170 : BitVec 32 := 512#32
  let v134 : BitVec 32 := Scalar.muli v113 c512_i32_170
  let v135 : BitVec 32 := v134
  let v136 : Index := Scalar.indexCast v135
  let c0_171 : Index := 0#32
  ![1, v136.toNat, 0]
def k0_mult19 (i : grid0.Coords) (k0_t2 : Fin (k0_t2_loop i).trips) : BitVec 32 :=
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c512_i32_189 : BitVec 32 := 512#32
  let v154 : BitVec 32 := Scalar.muli v113 c512_i32_189
  v154
def k0_off27 (i : grid0.Coords) (k0_t2 : Fin (k0_t2_loop i).trips) : Fin 3 → Nat :=
  let c2 : Index := 2#32
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c512_i32_189 : BitVec 32 := 512#32
  let v154 : BitVec 32 := Scalar.muli v113 c512_i32_189
  let v155 : BitVec 32 := v154
  let v156 : Index := Scalar.indexCast v155
  let c0_190 : Index := 0#32
  ![2, v156.toNat, 0]
def k0_mult20 (i : grid0.Coords) (k0_t2 : Fin (k0_t2_loop i).trips) : BitVec 32 :=
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c512_i32_208 : BitVec 32 := 512#32
  let v174 : BitVec 32 := Scalar.muli v113 c512_i32_208
  v174
def k0_off28 (i : grid0.Coords) (k0_t2 : Fin (k0_t2_loop i).trips) : Fin 3 → Nat :=
  let c3 : Index := 3#32
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c512_i32_208 : BitVec 32 := 512#32
  let v174 : BitVec 32 := Scalar.muli v113 c512_i32_208
  let v175 : BitVec 32 := v174
  let v176 : Index := Scalar.indexCast v175
  let c0_209 : Index := 0#32
  ![3, v176.toNat, 0]
def k0_off29 (i : grid0.Coords) (k0_t2 : Fin (k0_t2_loop i).trips) : Fin 3 → Nat :=
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c1_i32_227 : BitVec 32 := 1#32
  let v194 : BitVec 32 := Scalar.subi v113 c1_i32_227
  let v201 : Index := Scalar.indexCast v194
  let c0_237 : Index := 0#32
  let c0_238 : Index := 0#32
  ![v201.toNat, 0, 0]
def k0_mult21 (i : grid0.Coords) (k0_t2 : Fin (k0_t2_loop i).trips) : BitVec 32 :=
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_333 : BitVec 32 := 512#32
  let v348 : BitVec 32 := Scalar.muli v347 c512_i32_333
  v348
def k0_off30 (i : grid0.Coords) (k0_t2 : Fin (k0_t2_loop i).trips) : Fin 3 → Nat :=
  let c0_334 : Index := 0#32
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_333 : BitVec 32 := 512#32
  let v348 : BitVec 32 := Scalar.muli v347 c512_i32_333
  let v349 : BitVec 32 := v348
  let v350 : Index := Scalar.indexCast v349
  let c0_335 : Index := 0#32
  ![0, v350.toNat, 0]
def k0_mult22 (i : grid0.Coords) (k0_t2 : Fin (k0_t2_loop i).trips) : BitVec 32 :=
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_353 : BitVec 32 := 512#32
  let v368 : BitVec 32 := Scalar.muli v347 c512_i32_353
  v368
def k0_off31 (i : grid0.Coords) (k0_t2 : Fin (k0_t2_loop i).trips) : Fin 3 → Nat :=
  let c1_354 : Index := 1#32
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_353 : BitVec 32 := 512#32
  let v368 : BitVec 32 := Scalar.muli v347 c512_i32_353
  let v369 : BitVec 32 := v368
  let v370 : Index := Scalar.indexCast v369
  let c0_355 : Index := 0#32
  ![1, v370.toNat, 0]
def k0_mult23 (i : grid0.Coords) (k0_t2 : Fin (k0_t2_loop i).trips) : BitVec 32 :=
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_373 : BitVec 32 := 512#32
  let v388 : BitVec 32 := Scalar.muli v347 c512_i32_373
  v388
def k0_off32 (i : grid0.Coords) (k0_t2 : Fin (k0_t2_loop i).trips) : Fin 3 → Nat :=
  let c2_374 : Index := 2#32
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_373 : BitVec 32 := 512#32
  let v388 : BitVec 32 := Scalar.muli v347 c512_i32_373
  let v389 : BitVec 32 := v388
  let v390 : Index := Scalar.indexCast v389
  let c0_375 : Index := 0#32
  ![2, v390.toNat, 0]
def k0_mult24 (i : grid0.Coords) (k0_t2 : Fin (k0_t2_loop i).trips) : BitVec 32 :=
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_393 : BitVec 32 := 512#32
  let v408 : BitVec 32 := Scalar.muli v347 c512_i32_393
  v408
def k0_off33 (i : grid0.Coords) (k0_t2 : Fin (k0_t2_loop i).trips) : Fin 3 → Nat :=
  let c3_394 : Index := 3#32
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let c1_i32_332 : BitVec 32 := 1#32
  let v347 : BitVec 32 := Scalar.addi v113 c1_i32_332
  let c512_i32_393 : BitVec 32 := 512#32
  let v408 : BitVec 32 := Scalar.muli v347 c512_i32_393
  let v409 : BitVec 32 := v408
  let v410 : Index := Scalar.indexCast v409
  let c0_395 : Index := 0#32
  ![3, v410.toNat, 0]
def k0_off34 (i : grid0.Coords) (k0_t2 : Fin (k0_t2_loop i).trips) : Fin 3 → Nat :=
  let c2_i32_150 : BitVec 32 := 2#32
  let c0_i32_129 : BitVec 32 := 0#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v80 : BitVec 32 := Scalar.subi v79 c0_i32_129
  let c1_i32_130 : BitVec 32 := 1#32
  let v82 : BitVec 32 := Scalar.divsi v80 c1_i32_130
  let v83 : BitVec 32 := Scalar.muli v82 c1_i32_130
  let v84 : BitVec 32 := Scalar.addi c0_i32_129 v83
  let c1_i32_132 : BitVec 32 := 1#32
  let arg24 : BitVec 32 := Scf.iv v84 c1_i32_132 k0_t2
  let v112 : BitVec 32 := Scalar.muli c2_i32_150 arg24
  let c1_i32_151 : BitVec 32 := 1#32
  let v113 : BitVec 32 := Scalar.addi v112 c1_i32_151
  let v434 : Index := Scalar.indexCast v113
  let c0_422 : Index := 0#32
  let c0_423 : Index := 0#32
  ![v434.toNat, 0, 0]
def k0_cond7 (i : grid0.Coords) : BitVec 1 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c2_i32_134 : BitVec 32 := 2#32
  let c0_i32_135 : BitVec 32 := 0#32
  let v86 : BitVec 1 := Scalar.cmpi .eq c2_i32_134 c0_i32_135
  let c1_i32_136 : BitVec 32 := 1#32
  let v87 : BitVec 32 := Scalar.select v86 c1_i32_136 c2_i32_134
  let v88 : BitVec 32 := Scalar.remsi v62 v87
  let c0_i32_138 : BitVec 32 := 0#32
  let v90 : BitVec 1 := Scalar.cmpi .slt v88 c0_i32_138
  let c0_i32_139 : BitVec 32 := 0#32
  let v91 : BitVec 1 := Scalar.cmpi .slt v87 c0_i32_139
  let v92 : BitVec 1 := Scalar.xori v90 v91
  let c0_i32_137 : BitVec 32 := 0#32
  let v89 : BitVec 1 := Scalar.cmpi .ne v88 c0_i32_137
  let v93 : BitVec 1 := Scalar.andi v92 v89
  let v94 : BitVec 32 := Scalar.addi v88 v87
  let v95 : BitVec 32 := Scalar.select v93 v94 v88
  let c1_i32_140 : BitVec 32 := 1#32
  let v96 : BitVec 1 := Scalar.cmpi .eq v95 c1_i32_140
  let v97 : BitVec 32 := Scalar.extui v96
  let c0_i32_141 : BitVec 32 := 0#32
  let v98 : BitVec 1 := Scalar.cmpi .ne v97 c0_i32_141
  v98

def k0_mult25 (i : grid0.Coords) : BitVec 32 :=
  let c2_i32_133 : BitVec 32 := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v85 : BitVec 32 := Scalar.muli c2_i32_133 v79
  let c1_i32_150 : BitVec 32 := 1#32
  let v112 : BitVec 32 := Scalar.addi v85 c1_i32_150
  let c512_i32_151 : BitVec 32 := 512#32
  let v113 : BitVec 32 := Scalar.muli v112 c512_i32_151
  v113
def k0_off35 (i : grid0.Coords) : Fin 3 → Nat :=
  let c0 : Index := 0#32
  let c2_i32_133 : BitVec 32 := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v85 : BitVec 32 := Scalar.muli c2_i32_133 v79
  let c1_i32_150 : BitVec 32 := 1#32
  let v112 : BitVec 32 := Scalar.addi v85 c1_i32_150
  let c512_i32_151 : BitVec 32 := 512#32
  let v113 : BitVec 32 := Scalar.muli v112 c512_i32_151
  let v114 : BitVec 32 := v113
  let v115 : Index := Scalar.indexCast v114
  let c0_152 : Index := 0#32
  ![0, v115.toNat, 0]
def k0_mult26 (i : grid0.Coords) : BitVec 32 :=
  let c2_i32_133 : BitVec 32 := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v85 : BitVec 32 := Scalar.muli c2_i32_133 v79
  let c1_i32_150 : BitVec 32 := 1#32
  let v112 : BitVec 32 := Scalar.addi v85 c1_i32_150
  let c512_i32_169 : BitVec 32 := 512#32
  let v133 : BitVec 32 := Scalar.muli v112 c512_i32_169
  v133
def k0_off36 (i : grid0.Coords) : Fin 3 → Nat :=
  let c1 : Index := 1#32
  let c2_i32_133 : BitVec 32 := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v85 : BitVec 32 := Scalar.muli c2_i32_133 v79
  let c1_i32_150 : BitVec 32 := 1#32
  let v112 : BitVec 32 := Scalar.addi v85 c1_i32_150
  let c512_i32_169 : BitVec 32 := 512#32
  let v133 : BitVec 32 := Scalar.muli v112 c512_i32_169
  let v134 : BitVec 32 := v133
  let v135 : Index := Scalar.indexCast v134
  let c0_170 : Index := 0#32
  ![1, v135.toNat, 0]
def k0_mult27 (i : grid0.Coords) : BitVec 32 :=
  let c2_i32_133 : BitVec 32 := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v85 : BitVec 32 := Scalar.muli c2_i32_133 v79
  let c1_i32_150 : BitVec 32 := 1#32
  let v112 : BitVec 32 := Scalar.addi v85 c1_i32_150
  let c512_i32_188 : BitVec 32 := 512#32
  let v153 : BitVec 32 := Scalar.muli v112 c512_i32_188
  v153
def k0_off37 (i : grid0.Coords) : Fin 3 → Nat :=
  let c2 : Index := 2#32
  let c2_i32_133 : BitVec 32 := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v85 : BitVec 32 := Scalar.muli c2_i32_133 v79
  let c1_i32_150 : BitVec 32 := 1#32
  let v112 : BitVec 32 := Scalar.addi v85 c1_i32_150
  let c512_i32_188 : BitVec 32 := 512#32
  let v153 : BitVec 32 := Scalar.muli v112 c512_i32_188
  let v154 : BitVec 32 := v153
  let v155 : Index := Scalar.indexCast v154
  let c0_189 : Index := 0#32
  ![2, v155.toNat, 0]
def k0_mult28 (i : grid0.Coords) : BitVec 32 :=
  let c2_i32_133 : BitVec 32 := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v85 : BitVec 32 := Scalar.muli c2_i32_133 v79
  let c1_i32_150 : BitVec 32 := 1#32
  let v112 : BitVec 32 := Scalar.addi v85 c1_i32_150
  let c512_i32_207 : BitVec 32 := 512#32
  let v173 : BitVec 32 := Scalar.muli v112 c512_i32_207
  v173
def k0_off38 (i : grid0.Coords) : Fin 3 → Nat :=
  let c3 : Index := 3#32
  let c2_i32_133 : BitVec 32 := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v85 : BitVec 32 := Scalar.muli c2_i32_133 v79
  let c1_i32_150 : BitVec 32 := 1#32
  let v112 : BitVec 32 := Scalar.addi v85 c1_i32_150
  let c512_i32_207 : BitVec 32 := 512#32
  let v173 : BitVec 32 := Scalar.muli v112 c512_i32_207
  let v174 : BitVec 32 := v173
  let v175 : Index := Scalar.indexCast v174
  let c0_208 : Index := 0#32
  ![3, v175.toNat, 0]
def k0_off39 (i : grid0.Coords) : Fin 3 → Nat :=
  let c2_i32_133 : BitVec 32 := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v85 : BitVec 32 := Scalar.muli c2_i32_133 v79
  let v199 : Index := Scalar.indexCast v85
  let c0_235 : Index := 0#32
  let c0_236 : Index := 0#32
  ![v199.toNat, 0, 0]
def k0_off40 (i : grid0.Coords) : Fin 3 → Nat :=
  let c2_i32_133 : BitVec 32 := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v85 : BitVec 32 := Scalar.muli c2_i32_133 v79
  let c1_i32_330 : BitVec 32 := 1#32
  let v345 : BitVec 32 := Scalar.addi v85 c1_i32_330
  let v352 : Index := Scalar.indexCast v345
  let c0_340 : Index := 0#32
  let c0_341 : Index := 0#32
  ![v352.toNat, 0, 0]
def k0_cond8 (i : grid0.Coords) : BitVec 1 :=
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c2_i32_142 : BitVec 32 := 2#32
  let c0_i32_143 : BitVec 32 := 0#32
  let v99 : BitVec 1 := Scalar.cmpi .eq c2_i32_142 c0_i32_143
  let c1_i32_144 : BitVec 32 := 1#32
  let v100 : BitVec 32 := Scalar.select v99 c1_i32_144 c2_i32_142
  let v101 : BitVec 32 := Scalar.remsi v62 v100
  let c0_i32_146 : BitVec 32 := 0#32
  let v103 : BitVec 1 := Scalar.cmpi .slt v101 c0_i32_146
  let c0_i32_147 : BitVec 32 := 0#32
  let v104 : BitVec 1 := Scalar.cmpi .slt v100 c0_i32_147
  let v105 : BitVec 1 := Scalar.xori v103 v104
  let c0_i32_145 : BitVec 32 := 0#32
  let v102 : BitVec 1 := Scalar.cmpi .ne v101 c0_i32_145
  let v106 : BitVec 1 := Scalar.andi v105 v102
  let v107 : BitVec 32 := Scalar.addi v101 v100
  let v108 : BitVec 32 := Scalar.select v106 v107 v101
  let c0_i32_148 : BitVec 32 := 0#32
  let v109 : BitVec 1 := Scalar.cmpi .eq v108 c0_i32_148
  let v110 : BitVec 32 := Scalar.extui v109
  let c0_i32_149 : BitVec 32 := 0#32
  let v111 : BitVec 1 := Scalar.cmpi .ne v110 c0_i32_149
  v111

def k0_off41 (i : grid0.Coords) : Fin 3 → Nat :=
  let c2_i32_133 : BitVec 32 := 2#32
  let arg2 : BitVec 32 := BitVec.ofNat 32 (i 2).val
  let c256_i32 : BitVec 32 := 256#32
  let v25 : BitVec 32 := Scalar.muli arg2 c256_i32
  let c0_i32_13 : BitVec 32 := 0#32
  let v27 : BitVec 1 := Scalar.cmpi .sgt v25 c0_i32_13
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c512_i32 : BitVec 32 := 512#32
  let c0_i32_15 : BitVec 32 := 0#32
  let v32 : BitVec 1 := Scalar.cmpi .sgt c512_i32 c0_i32_15
  let v33 : BitVec 32 := Scalar.extui v32
  let c0_i32_16 : BitVec 32 := 0#32
  let v34 : BitVec 1 := Scalar.cmpi .slt c512_i32 c0_i32_16
  let v35 : BitVec 32 := Scalar.extui v34
  let v36 : BitVec 32 := Scalar.subi v33 v35
  let v37 : BitVec 1 := Scalar.cmpi .ne v31 v36
  let v38 : BitVec 32 := Scalar.remsi v25 c512_i32
  let c0_i32_17 : BitVec 32 := 0#32
  let v39 : BitVec 1 := Scalar.cmpi .ne v38 c0_i32_17
  let v40 : BitVec 1 := Scalar.andi v37 v39
  let v26 : BitVec 32 := Scalar.divsi v25 c512_i32
  let c1_i32_18 : BitVec 32 := 1#32
  let v41 : BitVec 32 := Scalar.subi v26 c1_i32_18
  let v42 : BitVec 32 := Scalar.select v40 v41 v26
  let c1_i32_120 : BitVec 32 := 1#32
  let v62 : BitVec 32 := Scalar.subi v42 c1_i32_120
  let c0_i32_122 : BitVec 32 := 0#32
  let v64 : BitVec 1 := Scalar.cmpi .sgt v62 c0_i32_122
  let v65 : BitVec 32 := Scalar.extui v64
  let c0_i32_123 : BitVec 32 := 0#32
  let v66 : BitVec 1 := Scalar.cmpi .slt v62 c0_i32_123
  let v67 : BitVec 32 := Scalar.extui v66
  let v68 : BitVec 32 := Scalar.subi v65 v67
  let c2_i32_121 : BitVec 32 := 2#32
  let c0_i32_124 : BitVec 32 := 0#32
  let v69 : BitVec 1 := Scalar.cmpi .sgt c2_i32_121 c0_i32_124
  let v70 : BitVec 32 := Scalar.extui v69
  let c0_i32_125 : BitVec 32 := 0#32
  let v71 : BitVec 1 := Scalar.cmpi .slt c2_i32_121 c0_i32_125
  let v72 : BitVec 32 := Scalar.extui v71
  let v73 : BitVec 32 := Scalar.subi v70 v72
  let v74 : BitVec 1 := Scalar.cmpi .ne v68 v73
  let v75 : BitVec 32 := Scalar.remsi v62 c2_i32_121
  let c0_i32_126 : BitVec 32 := 0#32
  let v76 : BitVec 1 := Scalar.cmpi .ne v75 c0_i32_126
  let v77 : BitVec 1 := Scalar.andi v74 v76
  let v63 : BitVec 32 := Scalar.divsi v62 c2_i32_121
  let c1_i32_127 : BitVec 32 := 1#32
  let v78 : BitVec 32 := Scalar.subi v63 c1_i32_127
  let v79 : BitVec 32 := Scalar.select v77 v78 v63
  let v85 : BitVec 32 := Scalar.muli c2_i32_133 v79
  let v118 : Index := Scalar.indexCast v85
  let c0_157 : Index := 0#32
  let c0_158 : Index := 0#32
  ![v118.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S8x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S2x512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x4096x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x4096x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== DiffRefIdeal.lean ====
abbrev S4x4096x10240 : Shape := ⟨3, ![4, 4096, 10240]⟩
abbrev S2x64 : Shape := ⟨2, ![2, 64]⟩
abbrev S2x128 : Shape := ⟨2, ![2, 128]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4x4096x1024 : Shape := ⟨3, ![4, 4096, 1024]⟩
abbrev S4x4096x8x2x64 : Shape := ⟨5, ![4, 4096, 8, 2, 64]⟩
abbrev S4x4096x8x128 : Shape := ⟨4, ![4, 4096, 8, 128]⟩
abbrev S4x4096x8x2x8 : Shape := ⟨5, ![4, 4096, 8, 2, 8]⟩
abbrev S4x4096x8x2x48 : Shape := ⟨5, ![4, 4096, 8, 2, 48]⟩
abbrev S1x4096x1x1x8 : Shape := ⟨5, ![1, 4096, 1, 1, 8]⟩
abbrev S1x64 : Shape := ⟨2, ![1, 64]⟩
abbrev S64 : Shape := ⟨1, ![64]⟩
abbrev S4x8x2x4096x4096 : Shape := ⟨5, ![4, 8, 2, 4096, 4096]⟩
abbrev S1x4096 : Shape := ⟨2, ![1, 4096]⟩
abbrev S4096x4096 : Shape := ⟨2, ![4096, 4096]⟩
abbrev S4x8x2x4096 : Shape := ⟨4, ![4, 8, 2, 4096]⟩
abbrev S4x8x2x4096x1 : Shape := ⟨5, ![4, 8, 2, 4096, 1]⟩
abbrev S4x8x1x4096x4096 : Shape := ⟨5, ![4, 8, 1, 4096, 4096]⟩
abbrev S4x8x4096x4096 : Shape := ⟨4, ![4, 8, 4096, 4096]⟩
abbrev S4x8x128x4096 : Shape := ⟨4, ![4, 8, 128, 4096]⟩
abbrev S1x128 : Shape := ⟨2, ![1, 128]⟩
abbrev S128 : Shape := ⟨1, ![128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 147
  | .vmem => 0
  | .smem => 0
  | _ => 0

abbrev hbmTy0_0 (i : Nat) : BufTy := match i % 128 with
  | 0 => ⟨S4x4096x10240, .bf16⟩
  | 1 => ⟨S2x64, .f32⟩
  | 2 => ⟨S2x64, .f32⟩
  | 3 => ⟨S2x64, .f32⟩
  | 4 => ⟨S2x64, .f32⟩
  | 5 => ⟨S2x128, .f32⟩
  | 6 => ⟨S4x4096x10240, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S4096, .f32⟩
  | 22 => ⟨S4096x1, .f32⟩
  | 23 => ⟨S1x8, .f32⟩
  | 24 => ⟨S4096x8, .f32⟩
  | 25 => ⟨S4096x8, .f32⟩
  | 26 => ⟨S4096x8, .f32⟩
  | 27 => ⟨S4096x8, .f32⟩
  | 28 => ⟨S4096x8, .f32⟩
  | 29 => ⟨S4x4096x1024, .f32⟩
  | 30 => ⟨S4x4096x8x2x64, .f32⟩
  | 31 => ⟨S4x4096x1024, .f32⟩
  | 32 => ⟨S4x4096x8x2x64, .f32⟩
  | 33 => ⟨S4x4096x1024, .f32⟩
  | 34 => ⟨S4x4096x8x128, .f32⟩
  | 35 => ⟨S4x4096x8x2x8, .f32⟩
  | 36 => ⟨S4x4096x8x2x8, .f32⟩
  | 37 => ⟨S4x4096x8x2x48, .f32⟩
  | 38 => ⟨S1x4096x1x1x8, .f32⟩
  | 39 => ⟨S1x4096x1x1x8, .f32⟩
  | 40 => ⟨S4x4096x8x2x8, .f32⟩
  | 41 => ⟨S4x4096x8x2x8, .f32⟩
  | 42 => ⟨S4x4096x8x2x8, .f32⟩
  | 43 => ⟨S4x4096x8x2x8, .f32⟩
  | 44 => ⟨S4x4096x8x2x8, .f32⟩
  | 45 => ⟨S4x4096x8x2x8, .f32⟩
  | 46 => ⟨S4x4096x8x2x8, .f32⟩
  | 47 => ⟨S4x4096x8x2x8, .f32⟩
  | 48 => ⟨S4x4096x8x2x8, .f32⟩
  | 49 => ⟨S4x4096x8x2x8, .f32⟩
  | 50 => ⟨S4x4096x8x2x64, .f32⟩
  | 51 => ⟨S4x4096x8x2x8, .f32⟩
  | 52 => ⟨S4x4096x8x2x8, .f32⟩
  | 53 => ⟨S4x4096x8x2x48, .f32⟩
  | 54 => ⟨S1x4096x1x1x8, .f32⟩
  | 55 => ⟨S1x4096x1x1x8, .f32⟩
  | 56 => ⟨S4x4096x8x2x8, .f32⟩
  | 57 => ⟨S4x4096x8x2x8, .f32⟩
  | 58 => ⟨S4x4096x8x2x8, .f32⟩
  | 59 => ⟨S4x4096x8x2x8, .f32⟩
  | 60 => ⟨S4x4096x8x2x8, .f32⟩
  | 61 => ⟨S4x4096x8x2x8, .f32⟩
  | 62 => ⟨S4x4096x8x2x8, .f32⟩
  | 63 => ⟨S4x4096x8x2x8, .f32⟩
  | 64 => ⟨S4x4096x8x2x8, .f32⟩
  | 65 => ⟨S4x4096x8x2x8, .f32⟩
  | 66 => ⟨S4x4096x8x2x64, .f32⟩
  | 67 => ⟨S1x64, .f32⟩
  | 68 => ⟨S64, .f32⟩
  | 69 => ⟨S1x64, .f32⟩
  | 70 => ⟨S64, .f32⟩
  | 71 => ⟨S64, .f32⟩
  | 72 => ⟨S_, .f32⟩
  | 73 => ⟨S_, .f32⟩
  | 74 => ⟨S_, .f32⟩
  | 75 => ⟨S1x64, .f32⟩
  | 76 => ⟨S64, .f32⟩
  | 77 => ⟨S1x64, .f32⟩
  | 78 => ⟨S64, .f32⟩
  | 79 => ⟨S64, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S4x8x2x4096x4096, .f32⟩
  | 87 => ⟨S_, .f32⟩
  | 88 => ⟨S4x8x2x4096x4096, .f32⟩
  | 89 => ⟨S4x8x2x4096x4096, .f32⟩
  | 90 => ⟨S4096, .i32⟩
  | 91 => ⟨S1x4096, .i32⟩
  | 92 => ⟨S4096x1, .i32⟩
  | 93 => ⟨S4096x4096, .i32⟩
  | 94 => ⟨S4096x4096, .i32⟩
  | 95 => ⟨S4096x4096, .i1⟩
  | 96 => ⟨S_, .f32⟩
  | 97 => ⟨S_, .f32⟩
  | 98 => ⟨S4x8x2x4096x4096, .i1⟩
  | 99 => ⟨S4x8x2x4096x4096, .f32⟩
  | 100 => ⟨S4x8x2x4096x4096, .f32⟩
  | 101 => ⟨S_, .f32⟩
  | 102 => ⟨S4x8x2x4096, .f32⟩
  | 103 => ⟨S_, .f32⟩
  | 104 => ⟨S4x8x2x4096, .f32⟩
  | 105 => ⟨S4x8x2x4096, .f32⟩
  | 106 => ⟨S4x8x2x4096x1, .f32⟩
  | 107 => ⟨S4x8x2x4096x4096, .f32⟩
  | 108 => ⟨S4x8x2x4096x4096, .f32⟩
  | 109 => ⟨S4x8x2x4096x4096, .f32⟩
  | 110 => ⟨S_, .f32⟩
  | 111 => ⟨S4x8x2x4096, .f32⟩
  | 112 => ⟨S4x8x2x4096x1, .f32⟩
  | 113 => ⟨S4x8x2x4096x4096, .f32⟩
  | 114 => ⟨S4x8x2x4096x4096, .f32⟩
  | 115 => ⟨S4x8x1x4096x4096, .f32⟩
  | 116 => ⟨S4x8x4096x4096, .f32⟩
  | 117 => ⟨S4x8x1x4096x4096, .f32⟩
  | 118 => ⟨S4x8x4096x4096, .f32⟩
  | 119 => ⟨S4x8x4096x4096, .f32⟩
  | 120 => ⟨S4x8x4096x4096, .f32⟩
  | 121 => ⟨S4x8x4096x4096, .f32⟩
  | 122 => ⟨S4x8x128x4096, .f32⟩
  | 123 => ⟨S4x4096x8x128, .f32⟩
  | 124 => ⟨S1x128, .f32⟩
  | 125 => ⟨S128, .f32⟩
  | 126 => ⟨S4x4096x8x128, .f32⟩
  | 127 => ⟨S_, .f32⟩
  | _ => ⟨S4x4096x10240, .bf16⟩

abbrev hbmTy0_1 (i : Nat) : BufTy := match i % 128 with
  | 0 => ⟨S4x4096x8, .f32⟩
  | 1 => ⟨S4x4096x8x1, .f32⟩
  | 2 => ⟨S_, .f32⟩
  | 3 => ⟨S4x4096x8x1, .f32⟩
  | 4 => ⟨S4x4096x8x1, .f32⟩
  | 5 => ⟨S_, .f32⟩
  | 6 => ⟨S4x4096x8x1, .f32⟩
  | 7 => ⟨S4x4096x8x1, .f32⟩
  | 8 => ⟨S4x4096x8x1, .f32⟩
  | 9 => ⟨S4x4096x8x128, .f32⟩
  | 10 => ⟨S4x4096x8x128, .f32⟩
  | 11 => ⟨S1x1x1x128, .f32⟩
  | 12 => ⟨S4x4096x8x128, .f32⟩
  | 13 => ⟨S4x4096x8x128, .f32⟩
  | 14 => ⟨S_, .f32⟩
  | 15 => ⟨S4x4096x8x128, .f32⟩
  | 16 => ⟨S4x4096x8x128, .f32⟩
  | 17 => ⟨S4x4096x1024, .f32⟩
  | 18 => ⟨S4x4096x1024, .bf16⟩
  | _ => ⟨S4x4096x10240, .bf16⟩

abbrev hbmTy (i : Nat) : BufTy := match i / 128 with
  | 0 => hbmTy0_0 i
  | 1 => hbmTy0_1 i
  | _ => ⟨S4x4096x10240, .bf16⟩

abbrev bufTy : (tb : Table) → Fin (tcTables nBuf tb) → BufTy
  | .hbm, ⟨i, _⟩ => hbmTy i
  | _, _ => ⟨S4x4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_3 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_4 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_5 : Ref sig .tc := ⟨.hbm, 84, rfl⟩
abbrev main_v72 : Ref sig .tc := ⟨.hbm, 85, rfl⟩
abbrev main_v73 : Ref sig .tc := ⟨.hbm, 86, rfl⟩
abbrev main_cst_6 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_7 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_v82 : Ref sig .tc := ⟨.hbm, 100, rfl⟩
abbrev main_cst_8 : Ref sig .tc := ⟨.hbm, 101, rfl⟩
abbrev main_v83 : Ref sig .tc := ⟨.hbm, 102, rfl⟩
abbrev main_cst_9 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_10 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_11 : Ref sig .tc := ⟨.hbm, 127, rfl⟩
abbrev main_v106 : Ref sig .tc := ⟨.hbm, 128, rfl⟩
abbrev main_v107 : Ref sig .tc := ⟨.hbm, 129, rfl⟩
abbrev main_cst_12 : Ref sig .tc := ⟨.hbm, 130, rfl⟩
abbrev main_v108 : Ref sig .tc := ⟨.hbm, 131, rfl⟩
abbrev main_v109 : Ref sig .tc := ⟨.hbm, 132, rfl⟩
abbrev main_cst_13 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_14 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩

abbrev nD : Nat := 1
abbrev τ : Topo := Topo.v7x

variable {F : FTy → Type} [FloatOps F]
-- ==== Moba.lean ====
abbrev S4x4096x10240 : Shape := ⟨3, ![4, 4096, 10240]⟩
abbrev S16 : Shape := ⟨1, ![16]⟩
abbrev S_ : Shape := ⟨0, ![]⟩
abbrev S16x1 : Shape := ⟨2, ![16, 1]⟩
abbrev S4096 : Shape := ⟨1, ![4096]⟩
abbrev S1x4096 : Shape := ⟨2, ![1, 4096]⟩
abbrev S16x4096 : Shape := ⟨2, ![16, 4096]⟩
abbrev S512x512 : Shape := ⟨2, ![512, 512]⟩
abbrev S4x4096x1024 : Shape := ⟨3, ![4, 4096, 1024]⟩
abbrev S16x512 : Shape := ⟨2, ![16, 512]⟩
abbrev S1x512x512 : Shape := ⟨3, ![1, 512, 512]⟩
abbrev S1x4096x512 : Shape := ⟨3, ![1, 4096, 512]⟩
abbrev S4x256x512 : Shape := ⟨3, ![4, 256, 512]⟩
abbrev S4x4096x256 : Shape := ⟨3, ![4, 4096, 256]⟩
abbrev S4x8x144x512 : Shape := ⟨4, ![4, 8, 144, 512]⟩
abbrev S4x2x512x512 : Shape := ⟨4, ![4, 2, 512, 512]⟩
abbrev S4x2x1x512 : Shape := ⟨4, ![4, 2, 1, 512]⟩
abbrev S4x1x512 : Shape := ⟨3, ![4, 1, 512]⟩
abbrev S4x144x512 : Shape := ⟨3, ![4, 144, 512]⟩
abbrev S4x32x128 : Shape := ⟨3, ![4, 32, 128]⟩
abbrev S512x128 : Shape := ⟨2, ![512, 128]⟩
abbrev S1x512x128 : Shape := ⟨3, ![1, 512, 128]⟩
abbrev S128x512 : Shape := ⟨2, ![128, 512]⟩
abbrev S96x512 : Shape := ⟨2, ![96, 512]⟩
abbrev S1x4096x256 : Shape := ⟨3, ![1, 4096, 256]⟩
abbrev S4096x256 : Shape := ⟨2, ![4096, 256]⟩
abbrev S1x8x144x512 : Shape := ⟨4, ![1, 8, 144, 512]⟩
abbrev S8x144x512 : Shape := ⟨3, ![8, 144, 512]⟩
abbrev S1x128x512 : Shape := ⟨3, ![1, 128, 512]⟩
abbrev S1x1x128x512 : Shape := ⟨4, ![1, 1, 128, 512]⟩
abbrev S1x16x512 : Shape := ⟨3, ![1, 16, 512]⟩
abbrev S1x1x16x512 : Shape := ⟨4, ![1, 1, 16, 512]⟩
abbrev S1x4096x128 : Shape := ⟨3, ![1, 4096, 128]⟩
abbrev S4096x128 : Shape := ⟨2, ![4096, 128]⟩
abbrev S16x128 : Shape := ⟨2, ![16, 128]⟩
abbrev S1x16x128 : Shape := ⟨3, ![1, 16, 128]⟩
abbrev S1x32x128 : Shape := ⟨3, ![1, 32, 128]⟩
abbrev S32x128 : Shape := ⟨2, ![32, 128]⟩
abbrev S32x512 : Shape := ⟨2, ![32, 512]⟩
abbrev S512 : Shape := ⟨1, ![512]⟩
abbrev S1x512 : Shape := ⟨2, ![1, 512]⟩
abbrev S112x512 : Shape := ⟨2, ![112, 512]⟩
abbrev S1x512x256 : Shape := ⟨3, ![1, 512, 256]⟩
abbrev S512x256 : Shape := ⟨2, ![512, 256]⟩
abbrev S1x256x512 : Shape := ⟨3, ![1, 256, 512]⟩
abbrev S256x512 : Shape := ⟨2, ![256, 512]⟩
abbrev S1x2x512x512 : Shape := ⟨4, ![1, 2, 512, 512]⟩
abbrev S2x512x512 : Shape := ⟨3, ![2, 512, 512]⟩
abbrev S1x144x512 : Shape := ⟨3, ![1, 144, 512]⟩
abbrev S144x512 : Shape := ⟨2, ![144, 512]⟩
abbrev S1x1x512 : Shape := ⟨3, ![1, 1, 512]⟩
abbrev S1x2x1x512 : Shape := ⟨4, ![1, 2, 1, 512]⟩
abbrev S2x1x512 : Shape := ⟨3, ![2, 1, 512]⟩

abbrev nBuf : Space → Nat
  | .hbm => 43
  | .vmem => 23
  | .smem => 0
  | _ => 0

abbrev bufTy : (tb : Table) → Fin (tcTables nBuf tb) → BufTy
  | .hbm, ⟨0, _⟩ => ⟨S4x4096x10240, .bf16⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16x1, .f32⟩
  | .hbm, ⟨16, _⟩ => ⟨S4096, .f32⟩
  | .hbm, ⟨17, _⟩ => ⟨S1x4096, .f32⟩
  | .hbm, ⟨18, _⟩ => ⟨S16x4096, .f32⟩
  | .hbm, ⟨19, _⟩ => ⟨S16x4096, .f32⟩
  | .hbm, ⟨20, _⟩ => ⟨S16x4096, .f32⟩
  | .hbm, ⟨21, _⟩ => ⟨S16x4096, .f32⟩
  | .hbm, ⟨22, _⟩ => ⟨S16x4096, .f32⟩
  | .hbm, ⟨23, _⟩ => ⟨S512x512, .i32⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .i1⟩
  | .hbm, ⟨33, _⟩ => ⟨S512x512, .i1⟩
  | .hbm, ⟨34, _⟩ => ⟨S512x512, .i1⟩
  | .hbm, ⟨35, _⟩ => ⟨S512x512, .i1⟩
  | .hbm, ⟨36, _⟩ => ⟨S_, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S4x4096x1024, .bf16⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x4096, .f32⟩
  | .local _ .vmem, ⟨5, _⟩ => ⟨S16x4096, .f32⟩
  | .local _ .vmem, ⟨6, _⟩ => ⟨S512x512, .f32⟩
  | .local _ .vmem, ⟨7, _⟩ => ⟨S1x512x512, .bf16⟩
  | .local _ .vmem, ⟨8, _⟩ => ⟨S1x512x512, .bf16⟩
  | .local _ .vmem, ⟨9, _⟩ => ⟨S1x4096x512, .bf16⟩
  | .local _ .vmem, ⟨10, _⟩ => ⟨S1x4096x512, .bf16⟩
  | .local _ .vmem, ⟨11, _⟩ => ⟨S1x4096x512, .bf16⟩
  | .local _ .vmem, ⟨12, _⟩ => ⟨S1x4096x512, .bf16⟩
  | .local _ .vmem, ⟨13, _⟩ => ⟨S1x512x512, .bf16⟩
  | .local _ .vmem, ⟨14, _⟩ => ⟨S1x512x512, .bf16⟩
  | .local _ .vmem, ⟨15, _⟩ => ⟨S4x256x512, .bf16⟩
  | .local _ .vmem, ⟨16, _⟩ => ⟨S4x4096x256, .bf16⟩
  | .local _ .vmem, ⟨17, _⟩ => ⟨S4x8x144x512, .bf16⟩
  | .local _ .vmem, ⟨18, _⟩ => ⟨S4x2x512x512, .f32⟩
  | .local _ .vmem, ⟨19, _⟩ => ⟨S4x2x1x512, .f32⟩
  | .local _ .vmem, ⟨20, _⟩ => ⟨S4x1x512, .f32⟩
  | .local _ .vmem, ⟨21, _⟩ => ⟨S4x144x512, .f32⟩
  | .local _ .vmem, ⟨22, _⟩ => ⟨S4x32x128, .bf16⟩
  | _, _ => ⟨S4x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c0_i32_16 : BitVec 32 := 0#32
  let v7 : BitVec 1 := Scalar.cmpi .sgt arg2 c0_i32_16
  let true_17 : BitVec 1 := 1#1
  let v8 : BitVec 1 := Scalar.andi v7 true_17
  let v9 : BitVec 32 := Scalar.extui v8
  let c0_i32_38 : BitVec 32 := 0#32
  let v10 : BitVec 1 := Scalar.cmpi .ne v9 c0_i32_38
  v10

def k0_mult1 (i : grid0.Coords) : BitVec 32 :=
  let arg2 : BitVec 32 := BitVec.ofNat 32 (i 2).val
  let c512_i32_196 : BitVec 32 := 512#32
  let v346 : BitVec 32 := Scalar.muli arg2 c512_i32_196
  v346
def k0_off1 (i : grid0.Coords) : Fin 3 → Nat :=
  let c0_197 : Index := 0#32
  let arg2 : BitVec 32 := BitVec.ofNat 32 (i 2).val
  let c512_i32_196 : BitVec 32 := 512#32
  let v346 : BitVec 32 := Scalar.muli arg2 c512_i32_196
  let v347 : BitVec 32 := v346
  let v348 : Index := Scalar.indexCast v347
  let c0_198 : Index := 0#32
  ![0, v348.toNat, 0]
def k0_mult2 (i : grid0.Coords) : BitVec 32 :=
  let arg2 : BitVec 32 := BitVec.ofNat 32 (i 2).val
  let c512_i32_209 : BitVec 32 := 512#32
  let v359 : BitVec 32 := Scalar.muli arg2 c512_i32_209
  v359
def k0_off2 (i : grid0.Coords) : Fin 3 → Nat :=
  let c1_210 : Index := 1#32
  let arg2 : BitVec 32 := BitVec.ofNat 32 (i 2).val
  let c512_i32_209 : BitVec 32 := 512#32
  let v359 : BitVec 32 := Scalar.muli arg2 c512_i32_209
  let v360 : BitVec 32 := v359
  let v361 : Index := Scalar.indexCast v360
  let c0_211 : Index := 0#32
  ![1, v361.toNat, 0]
def k0_mult3 (i : grid0.Coords) : BitVec 32 :=
  let arg2 : BitVec 32 := BitVec.ofNat 32 (i 2).val
  let c512_i32_222 : BitVec 32 := 512#32
  let v372 : BitVec 32 := Scalar.muli arg2 c512_i32_222
  v372
def k0_off3 (i : grid0.Coords) : Fin 3 → Nat :=
  let c2_223 : Index := 2#32
  let arg2 : BitVec 32 := BitVec.ofNat 32 (i 2).val
  let c512_i32_222 : BitVec 32 := 512#32
  let v372 : BitVec 32 := Scalar.muli arg2 c512_i32_222
  let v373 : BitVec 32 := v372
  let v374 : Index := Scalar.indexCast v373
  let c0_224 : Index := 0#32
  ![2, v374.toNat, 0]
def k0_mult4 (i : grid0.Coords) : BitVec 32 :=
  let arg2 : BitVec 32 := BitVec.ofNat 32 (i 2).val
  let c512_i32_235 : BitVec 32 := 512#32
  let v385 : BitVec 32 := Scalar.muli arg2 c512_i32_235
  v385
def k0_off4 (i : grid0.Coords) : Fin 3 → Nat :=
  let c3_236 : Index := 3#32
  let arg2 : BitVec 32 := BitVec.ofNat 32 (i 2).val
  let c512_i32_235 : BitVec 32 := 512#32
  let v385 : BitVec 32 := Scalar.muli arg2 c512_i32_235
  let v386 : BitVec 32 := v385
  let v387 : Index := Scalar.indexCast v386
  let c0_237 : Index := 0#32
  ![3, v387.toNat, 0]
def k0_off5 (i : grid0.Coords) : Fin 3 → Nat :=
  let arg2 : BitVec 32 := BitVec.ofNat 32 (i 2).val
  let v472 : Index := Scalar.indexCast arg2
  let c0_337 : Index := 0#32
  let c0_338 : Index := 0#32
  ![v472.toNat, 0, 0]
def k0_cond4 (i : grid0.Coords) : BitVec 1 :=
  let arg2 : BitVec 32 := BitVec.ofNat 32 (i 2).val
  let c0_i32_39 : BitVec 32 := 0#32
  let v11 : BitVec 1 := Scalar.cmpi .sgt arg2 c0_i32_39
  let v12 : BitVec 32 := Scalar.extui v11
  let c0_i32_60 : BitVec 32 := 0#32
  let v13 : BitVec 1 := Scalar.cmpi .ne v12 c0_i32_60
  v13

@[reducible] def k0_t1_loop (i : grid0.Coords) : Scf.Loop 32 :=
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_72 : BitVec 32 := 1#32
  ⟨c0_i32_70, v36, c1_i32_72⟩
def k0_mult5 (i : grid0.Coords) (k0_t1 : Fin (k0_t1_loop i).trips) : BitVec 32 :=
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c512_i32 : BitVec 32 := 512#32
  let v66 : BitVec 32 := Scalar.muli v65 c512_i32
  v66
def k0_off6 (i : grid0.Coords) (k0_t1 : Fin (k0_t1_loop i).trips) : Fin 3 → Nat :=
  let c0 : Index := 0#32
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c512_i32 : BitVec 32 := 512#32
  let v66 : BitVec 32 := Scalar.muli v65 c512_i32
  let v67 : BitVec 32 := v66
  let v68 : Index := Scalar.indexCast v67
  let c0_93 : Index := 0#32
  ![0, v68.toNat, 0]
def k0_mult6 (i : grid0.Coords) (k0_t1 : Fin (k0_t1_loop i).trips) : BitVec 32 :=
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c512_i32_110 : BitVec 32 := 512#32
  let v86 : BitVec 32 := Scalar.muli v65 c512_i32_110
  v86
def k0_off7 (i : grid0.Coords) (k0_t1 : Fin (k0_t1_loop i).trips) : Fin 3 → Nat :=
  let c1 : Index := 1#32
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c512_i32_110 : BitVec 32 := 512#32
  let v86 : BitVec 32 := Scalar.muli v65 c512_i32_110
  let v87 : BitVec 32 := v86
  let v88 : Index := Scalar.indexCast v87
  let c0_111 : Index := 0#32
  ![1, v88.toNat, 0]
def k0_mult7 (i : grid0.Coords) (k0_t1 : Fin (k0_t1_loop i).trips) : BitVec 32 :=
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c512_i32_129 : BitVec 32 := 512#32
  let v106 : BitVec 32 := Scalar.muli v65 c512_i32_129
  v106
def k0_off8 (i : grid0.Coords) (k0_t1 : Fin (k0_t1_loop i).trips) : Fin 3 → Nat :=
  let c2 : Index := 2#32
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c512_i32_129 : BitVec 32 := 512#32
  let v106 : BitVec 32 := Scalar.muli v65 c512_i32_129
  let v107 : BitVec 32 := v106
  let v108 : Index := Scalar.indexCast v107
  let c0_130 : Index := 0#32
  ![2, v108.toNat, 0]
def k0_mult8 (i : grid0.Coords) (k0_t1 : Fin (k0_t1_loop i).trips) : BitVec 32 :=
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c512_i32_148 : BitVec 32 := 512#32
  let v126 : BitVec 32 := Scalar.muli v65 c512_i32_148
  v126
def k0_off9 (i : grid0.Coords) (k0_t1 : Fin (k0_t1_loop i).trips) : Fin 3 → Nat :=
  let c3 : Index := 3#32
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c512_i32_148 : BitVec 32 := 512#32
  let v126 : BitVec 32 := Scalar.muli v65 c512_i32_148
  let v127 : BitVec 32 := v126
  let v128 : Index := Scalar.indexCast v127
  let c0_149 : Index := 0#32
  ![3, v128.toNat, 0]
def k0_off10 (i : grid0.Coords) (k0_t1 : Fin (k0_t1_loop i).trips) : Fin 3 → Nat :=
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c1_i32_167 : BitVec 32 := 1#32
  let v146 : BitVec 32 := Scalar.subi v65 c1_i32_167
  let v153 : Index := Scalar.indexCast v146
  let c0_177 : Index := 0#32
  let c0_178 : Index := 0#32
  ![v153.toNat, 0, 0]
def k0_mult9 (i : grid0.Coords) (k0_t1 : Fin (k0_t1_loop i).trips) : BitVec 32 :=
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_273 : BitVec 32 := 512#32
  let v300 : BitVec 32 := Scalar.muli v299 c512_i32_273
  v300
def k0_off11 (i : grid0.Coords) (k0_t1 : Fin (k0_t1_loop i).trips) : Fin 3 → Nat :=
  let c0_274 : Index := 0#32
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_273 : BitVec 32 := 512#32
  let v300 : BitVec 32 := Scalar.muli v299 c512_i32_273
  let v301 : BitVec 32 := v300
  let v302 : Index := Scalar.indexCast v301
  let c0_275 : Index := 0#32
  ![0, v302.toNat, 0]
def k0_mult10 (i : grid0.Coords) (k0_t1 : Fin (k0_t1_loop i).trips) : BitVec 32 :=
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_293 : BitVec 32 := 512#32
  let v320 : BitVec 32 := Scalar.muli v299 c512_i32_293
  v320
def k0_off12 (i : grid0.Coords) (k0_t1 : Fin (k0_t1_loop i).trips) : Fin 3 → Nat :=
  let c1_294 : Index := 1#32
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_293 : BitVec 32 := 512#32
  let v320 : BitVec 32 := Scalar.muli v299 c512_i32_293
  let v321 : BitVec 32 := v320
  let v322 : Index := Scalar.indexCast v321
  let c0_295 : Index := 0#32
  ![1, v322.toNat, 0]
def k0_mult11 (i : grid0.Coords) (k0_t1 : Fin (k0_t1_loop i).trips) : BitVec 32 :=
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_313 : BitVec 32 := 512#32
  let v340 : BitVec 32 := Scalar.muli v299 c512_i32_313
  v340
def k0_off13 (i : grid0.Coords) (k0_t1 : Fin (k0_t1_loop i).trips) : Fin 3 → Nat :=
  let c2_314 : Index := 2#32
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_313 : BitVec 32 := 512#32
  let v340 : BitVec 32 := Scalar.muli v299 c512_i32_313
  let v341 : BitVec 32 := v340
  let v342 : Index := Scalar.indexCast v341
  let c0_315 : Index := 0#32
  ![2, v342.toNat, 0]
def k0_mult12 (i : grid0.Coords) (k0_t1 : Fin (k0_t1_loop i).trips) : BitVec 32 :=
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_333 : BitVec 32 := 512#32
  let v360 : BitVec 32 := Scalar.muli v299 c512_i32_333
  v360
def k0_off14 (i : grid0.Coords) (k0_t1 : Fin (k0_t1_loop i).trips) : Fin 3 → Nat :=
  let c3_334 : Index := 3#32
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_333 : BitVec 32 := 512#32
  let v360 : BitVec 32 := Scalar.muli v299 c512_i32_333
  let v361 : BitVec 32 := v360
  let v362 : Index := Scalar.indexCast v361
  let c0_335 : Index := 0#32
  ![3, v362.toNat, 0]
def k0_off15 (i : grid0.Coords) (k0_t1 : Fin (k0_t1_loop i).trips) : Fin 3 → Nat :=
  let c2_i32_91 : BitVec 32 := 2#32
  let c0_i32_70 : BitVec 32 := 0#32
  let c1_i32_72 : BitVec 32 := 1#32
  let arg20 : BitVec 32 := Scf.iv c0_i32_70 c1_i32_72 k0_t1
  let v64 : BitVec 32 := Scalar.muli c2_i32_91 arg20
  let c1_i32_92 : BitVec 32 := 1#32
  let v65 : BitVec 32 := Scalar.addi v64 c1_i32_92
  let v386 : Index := Scalar.indexCast v65
  let c0_362 : Index := 0#32
  let c0_363 : Index := 0#32
  ![v386.toNat, 0, 0]
@[reducible] def k0_t2_loop (i : grid0.Coords) : Scf.Loop 32 :=
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let v33 : BitVec 32 := Scalar.addi c0_i32_70 v32
  let c1_i32_73 : BitVec 32 := 1#32
  ⟨v36, v33, c1_i32_73⟩
def k0_mult13 (i : grid0.Coords) (k0_t2 : Fin (k0_t2_loop i).trips) : BitVec 32 :=
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c512_i32 : BitVec 32 := 512#32
  let v66 : BitVec 32 := Scalar.muli v65 c512_i32
  v66
def k0_off16 (i : grid0.Coords) (k0_t2 : Fin (k0_t2_loop i).trips) : Fin 3 → Nat :=
  let c0 : Index := 0#32
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c512_i32 : BitVec 32 := 512#32
  let v66 : BitVec 32 := Scalar.muli v65 c512_i32
  let v67 : BitVec 32 := v66
  let v68 : Index := Scalar.indexCast v67
  let c0_93 : Index := 0#32
  ![0, v68.toNat, 0]
def k0_mult14 (i : grid0.Coords) (k0_t2 : Fin (k0_t2_loop i).trips) : BitVec 32 :=
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c512_i32_110 : BitVec 32 := 512#32
  let v86 : BitVec 32 := Scalar.muli v65 c512_i32_110
  v86
def k0_off17 (i : grid0.Coords) (k0_t2 : Fin (k0_t2_loop i).trips) : Fin 3 → Nat :=
  let c1 : Index := 1#32
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c512_i32_110 : BitVec 32 := 512#32
  let v86 : BitVec 32 := Scalar.muli v65 c512_i32_110
  let v87 : BitVec 32 := v86
  let v88 : Index := Scalar.indexCast v87
  let c0_111 : Index := 0#32
  ![1, v88.toNat, 0]
def k0_mult15 (i : grid0.Coords) (k0_t2 : Fin (k0_t2_loop i).trips) : BitVec 32 :=
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c512_i32_129 : BitVec 32 := 512#32
  let v106 : BitVec 32 := Scalar.muli v65 c512_i32_129
  v106
def k0_off18 (i : grid0.Coords) (k0_t2 : Fin (k0_t2_loop i).trips) : Fin 3 → Nat :=
  let c2 : Index := 2#32
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c512_i32_129 : BitVec 32 := 512#32
  let v106 : BitVec 32 := Scalar.muli v65 c512_i32_129
  let v107 : BitVec 32 := v106
  let v108 : Index := Scalar.indexCast v107
  let c0_130 : Index := 0#32
  ![2, v108.toNat, 0]
def k0_mult16 (i : grid0.Coords) (k0_t2 : Fin (k0_t2_loop i).trips) : BitVec 32 :=
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c512_i32_148 : BitVec 32 := 512#32
  let v126 : BitVec 32 := Scalar.muli v65 c512_i32_148
  v126
def k0_off19 (i : grid0.Coords) (k0_t2 : Fin (k0_t2_loop i).trips) : Fin 3 → Nat :=
  let c3 : Index := 3#32
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c512_i32_148 : BitVec 32 := 512#32
  let v126 : BitVec 32 := Scalar.muli v65 c512_i32_148
  let v127 : BitVec 32 := v126
  let v128 : Index := Scalar.indexCast v127
  let c0_149 : Index := 0#32
  ![3, v128.toNat, 0]
def k0_off20 (i : grid0.Coords) (k0_t2 : Fin (k0_t2_loop i).trips) : Fin 3 → Nat :=
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c1_i32_167 : BitVec 32 := 1#32
  let v146 : BitVec 32 := Scalar.subi v65 c1_i32_167
  let v153 : Index := Scalar.indexCast v146
  let c0_177 : Index := 0#32
  let c0_178 : Index := 0#32
  ![v153.toNat, 0, 0]
def k0_mult17 (i : grid0.Coords) (k0_t2 : Fin (k0_t2_loop i).trips) : BitVec 32 :=
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_273 : BitVec 32 := 512#32
  let v300 : BitVec 32 := Scalar.muli v299 c512_i32_273
  v300
def k0_off21 (i : grid0.Coords) (k0_t2 : Fin (k0_t2_loop i).trips) : Fin 3 → Nat :=
  let c0_274 : Index := 0#32
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_273 : BitVec 32 := 512#32
  let v300 : BitVec 32 := Scalar.muli v299 c512_i32_273
  let v301 : BitVec 32 := v300
  let v302 : Index := Scalar.indexCast v301
  let c0_275 : Index := 0#32
  ![0, v302.toNat, 0]
def k0_mult18 (i : grid0.Coords) (k0_t2 : Fin (k0_t2_loop i).trips) : BitVec 32 :=
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_293 : BitVec 32 := 512#32
  let v320 : BitVec 32 := Scalar.muli v299 c512_i32_293
  v320
def k0_off22 (i : grid0.Coords) (k0_t2 : Fin (k0_t2_loop i).trips) : Fin 3 → Nat :=
  let c1_294 : Index := 1#32
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_293 : BitVec 32 := 512#32
  let v320 : BitVec 32 := Scalar.muli v299 c512_i32_293
  let v321 : BitVec 32 := v320
  let v322 : Index := Scalar.indexCast v321
  let c0_295 : Index := 0#32
  ![1, v322.toNat, 0]
def k0_mult19 (i : grid0.Coords) (k0_t2 : Fin (k0_t2_loop i).trips) : BitVec 32 :=
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_313 : BitVec 32 := 512#32
  let v340 : BitVec 32 := Scalar.muli v299 c512_i32_313
  v340
def k0_off23 (i : grid0.Coords) (k0_t2 : Fin (k0_t2_loop i).trips) : Fin 3 → Nat :=
  let c2_314 : Index := 2#32
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_313 : BitVec 32 := 512#32
  let v340 : BitVec 32 := Scalar.muli v299 c512_i32_313
  let v341 : BitVec 32 := v340
  let v342 : Index := Scalar.indexCast v341
  let c0_315 : Index := 0#32
  ![2, v342.toNat, 0]
def k0_mult20 (i : grid0.Coords) (k0_t2 : Fin (k0_t2_loop i).trips) : BitVec 32 :=
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_333 : BitVec 32 := 512#32
  let v360 : BitVec 32 := Scalar.muli v299 c512_i32_333
  v360
def k0_off24 (i : grid0.Coords) (k0_t2 : Fin (k0_t2_loop i).trips) : Fin 3 → Nat :=
  let c3_334 : Index := 3#32
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let c1_i32_272 : BitVec 32 := 1#32
  let v299 : BitVec 32 := Scalar.addi v65 c1_i32_272
  let c512_i32_333 : BitVec 32 := 512#32
  let v360 : BitVec 32 := Scalar.muli v299 c512_i32_333
  let v361 : BitVec 32 := v360
  let v362 : Index := Scalar.indexCast v361
  let c0_335 : Index := 0#32
  ![3, v362.toNat, 0]
def k0_off25 (i : grid0.Coords) (k0_t2 : Fin (k0_t2_loop i).trips) : Fin 3 → Nat :=
  let c2_i32_91 : BitVec 32 := 2#32
  let c0_i32_70 : BitVec 32 := 0#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v32 : BitVec 32 := Scalar.subi v31 c0_i32_70
  let c1_i32_71 : BitVec 32 := 1#32
  let v34 : BitVec 32 := Scalar.divsi v32 c1_i32_71
  let v35 : BitVec 32 := Scalar.muli v34 c1_i32_71
  let v36 : BitVec 32 := Scalar.addi c0_i32_70 v35
  let c1_i32_73 : BitVec 32 := 1#32
  let arg20 : BitVec 32 := Scf.iv v36 c1_i32_73 k0_t2
  let v64 : BitVec 32 := Scalar.muli c2_i32_91 arg20
  let c1_i32_92 : BitVec 32 := 1#32
  let v65 : BitVec 32 := Scalar.addi v64 c1_i32_92
  let v386 : Index := Scalar.indexCast v65
  let c0_362 : Index := 0#32
  let c0_363 : Index := 0#32
  ![v386.toNat, 0, 0]
def k0_cond5 (i : grid0.Coords) : BitVec 1 :=
  let arg2 : BitVec 32 := BitVec.ofNat 32 (i 2).val
  let c1_i32_61 : BitVec 32 := 1#32
  let v14 : BitVec 32 := Scalar.subi arg2 c1_i32_61
  let c2_i32_75 : BitVec 32 := 2#32
  let c0_i32_76 : BitVec 32 := 0#32
  let v38 : BitVec 1 := Scalar.cmpi .eq c2_i32_75 c0_i32_76
  let c1_i32_77 : BitVec 32 := 1#32
  let v39 : BitVec 32 := Scalar.select v38 c1_i32_77 c2_i32_75
  let v40 : BitVec 32 := Scalar.remsi v14 v39
  let c0_i32_79 : BitVec 32 := 0#32
  let v42 : BitVec 1 := Scalar.cmpi .slt v40 c0_i32_79
  let c0_i32_80 : BitVec 32 := 0#32
  let v43 : BitVec 1 := Scalar.cmpi .slt v39 c0_i32_80
  let v44 : BitVec 1 := Scalar.xori v42 v43
  let c0_i32_78 : BitVec 32 := 0#32
  let v41 : BitVec 1 := Scalar.cmpi .ne v40 c0_i32_78
  let v45 : BitVec 1 := Scalar.andi v44 v41
  let v46 : BitVec 32 := Scalar.addi v40 v39
  let v47 : BitVec 32 := Scalar.select v45 v46 v40
  let c1_i32_81 : BitVec 32 := 1#32
  let v48 : BitVec 1 := Scalar.cmpi .eq v47 c1_i32_81
  let v49 : BitVec 32 := Scalar.extui v48
  let c0_i32_82 : BitVec 32 := 0#32
  let v50 : BitVec 1 := Scalar.cmpi .ne v49 c0_i32_82
  v50

def k0_mult21 (i : grid0.Coords) : BitVec 32 :=
  let c2_i32_74 : BitVec 32 := 2#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v37 : BitVec 32 := Scalar.muli c2_i32_74 v31
  let c1_i32_91 : BitVec 32 := 1#32
  let v64 : BitVec 32 := Scalar.addi v37 c1_i32_91
  let c512_i32 : BitVec 32 := 512#32
  let v65 : BitVec 32 := Scalar.muli v64 c512_i32
  v65
def k0_off26 (i : grid0.Coords) : Fin 3 → Nat :=
  let c0 : Index := 0#32
  let c2_i32_74 : BitVec 32 := 2#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v37 : BitVec 32 := Scalar.muli c2_i32_74 v31
  let c1_i32_91 : BitVec 32 := 1#32
  let v64 : BitVec 32 := Scalar.addi v37 c1_i32_91
  let c512_i32 : BitVec 32 := 512#32
  let v65 : BitVec 32 := Scalar.muli v64 c512_i32
  let v66 : BitVec 32 := v65
  let v67 : Index := Scalar.indexCast v66
  let c0_92 : Index := 0#32
  ![0, v67.toNat, 0]
def k0_mult22 (i : grid0.Coords) : BitVec 32 :=
  let c2_i32_74 : BitVec 32 := 2#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v37 : BitVec 32 := Scalar.muli c2_i32_74 v31
  let c1_i32_91 : BitVec 32 := 1#32
  let v64 : BitVec 32 := Scalar.addi v37 c1_i32_91
  let c512_i32_109 : BitVec 32 := 512#32
  let v85 : BitVec 32 := Scalar.muli v64 c512_i32_109
  v85
def k0_off27 (i : grid0.Coords) : Fin 3 → Nat :=
  let c1 : Index := 1#32
  let c2_i32_74 : BitVec 32 := 2#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v37 : BitVec 32 := Scalar.muli c2_i32_74 v31
  let c1_i32_91 : BitVec 32 := 1#32
  let v64 : BitVec 32 := Scalar.addi v37 c1_i32_91
  let c512_i32_109 : BitVec 32 := 512#32
  let v85 : BitVec 32 := Scalar.muli v64 c512_i32_109
  let v86 : BitVec 32 := v85
  let v87 : Index := Scalar.indexCast v86
  let c0_110 : Index := 0#32
  ![1, v87.toNat, 0]
def k0_mult23 (i : grid0.Coords) : BitVec 32 :=
  let c2_i32_74 : BitVec 32 := 2#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v37 : BitVec 32 := Scalar.muli c2_i32_74 v31
  let c1_i32_91 : BitVec 32 := 1#32
  let v64 : BitVec 32 := Scalar.addi v37 c1_i32_91
  let c512_i32_128 : BitVec 32 := 512#32
  let v105 : BitVec 32 := Scalar.muli v64 c512_i32_128
  v105
def k0_off28 (i : grid0.Coords) : Fin 3 → Nat :=
  let c2 : Index := 2#32
  let c2_i32_74 : BitVec 32 := 2#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v37 : BitVec 32 := Scalar.muli c2_i32_74 v31
  let c1_i32_91 : BitVec 32 := 1#32
  let v64 : BitVec 32 := Scalar.addi v37 c1_i32_91
  let c512_i32_128 : BitVec 32 := 512#32
  let v105 : BitVec 32 := Scalar.muli v64 c512_i32_128
  let v106 : BitVec 32 := v105
  let v107 : Index := Scalar.indexCast v106
  let c0_129 : Index := 0#32
  ![2, v107.toNat, 0]
def k0_mult24 (i : grid0.Coords) : BitVec 32 :=
  let c2_i32_74 : BitVec 32 := 2#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v37 : BitVec 32 := Scalar.muli c2_i32_74 v31
  let c1_i32_91 : BitVec 32 := 1#32
  let v64 : BitVec 32 := Scalar.addi v37 c1_i32_91
  let c512_i32_147 : BitVec 32 := 512#32
  let v125 : BitVec 32 := Scalar.muli v64 c512_i32_147
  v125
def k0_off29 (i : grid0.Coords) : Fin 3 → Nat :=
  let c3 : Index := 3#32
  let c2_i32_74 : BitVec 32 := 2#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v37 : BitVec 32 := Scalar.muli c2_i32_74 v31
  let c1_i32_91 : BitVec 32 := 1#32
  let v64 : BitVec 32 := Scalar.addi v37 c1_i32_91
  let c512_i32_147 : BitVec 32 := 512#32
  let v125 : BitVec 32 := Scalar.muli v64 c512_i32_147
  let v126 : BitVec 32 := v125
  let v127 : Index := Scalar.indexCast v126
  let c0_148 : Index := 0#32
  ![3, v127.toNat, 0]
def k0_off30 (i : grid0.Coords) : Fin 3 → Nat :=
  let c2_i32_74 : BitVec 32 := 2#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v37 : BitVec 32 := Scalar.muli c2_i32_74 v31
  let v151 : Index := Scalar.indexCast v37
  let c0_175 : Index := 0#32
  let c0_176 : Index := 0#32
  ![v151.toNat, 0, 0]
def k0_off31 (i : grid0.Coords) : Fin 3 → Nat :=
  let c2_i32_74 : BitVec 32 := 2#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v37 : BitVec 32 := Scalar.muli c2_i32_74 v31
  let c1_i32_270 : BitVec 32 := 1#32
  let v297 : BitVec 32 := Scalar.addi v37 c1_i32_270
  let v304 : Index := Scalar.indexCast v297
  let c0_280 : Index := 0#32
  let c0_281 : Index := 0#32
  ![v304.toNat, 0, 0]
def k0_cond6 (i : grid0.Coords) : BitVec 1 :=
  let arg2 : BitVec 32 := BitVec.ofNat 32 (i 2).val
  let c1_i32_61 : BitVec 32 := 1#32
  let v14 : BitVec 32 := Scalar.subi arg2 c1_i32_61
  let c2_i32_83 : BitVec 32 := 2#32
  let c0_i32_84 : BitVec 32 := 0#32
  let v51 : BitVec 1 := Scalar.cmpi .eq c2_i32_83 c0_i32_84
  let c1_i32_85 : BitVec 32 := 1#32
  let v52 : BitVec 32 := Scalar.select v51 c1_i32_85 c2_i32_83
  let v53 : BitVec 32 := Scalar.remsi v14 v52
  let c0_i32_87 : BitVec 32 := 0#32
  let v55 : BitVec 1 := Scalar.cmpi .slt v53 c0_i32_87
  let c0_i32_88 : BitVec 32 := 0#32
  let v56 : BitVec 1 := Scalar.cmpi .slt v52 c0_i32_88
  let v57 : BitVec 1 := Scalar.xori v55 v56
  let c0_i32_86 : BitVec 32 := 0#32
  let v54 : BitVec 1 := Scalar.cmpi .ne v53 c0_i32_86
  let v58 : BitVec 1 := Scalar.andi v57 v54
  let v59 : BitVec 32 := Scalar.addi v53 v52
  let v60 : BitVec 32 := Scalar.select v58 v59 v53
  let c0_i32_89 : BitVec 32 := 0#32
  let v61 : BitVec 1 := Scalar.cmpi .eq v60 c0_i32_89
  let v62 : BitVec 32 := Scalar.extui v61
  let c0_i32_90 : BitVec 32 := 0#32
  let v63 : BitVec 1 := Scalar.cmpi .ne v62 c0_i32_90
  v63

def k0_off32 (i : grid0.Coords) : Fin 3 → Nat :=
  let c2_i32_74 : BitVec 32 := 2#32
  let arg2 : BitVec 32 := BitVec.ofNat 32 (i 2).val
  let c1_i32_61 : BitVec 32 := 1#32
  let v14 : BitVec 32 := Scalar.subi arg2 c1_i32_61
  let c0_i32_63 : BitVec 32 := 0#32
  let v16 : BitVec 1 := Scalar.cmpi .sgt v14 c0_i32_63
  let v17 : BitVec 32 := Scalar.extui v16
  let c0_i32_64 : BitVec 32 := 0#32
  let v18 : BitVec 1 := Scalar.cmpi .slt v14 c0_i32_64
  let v19 : BitVec 32 := Scalar.extui v18
  let v20 : BitVec 32 := Scalar.subi v17 v19
  let c2_i32_62 : BitVec 32 := 2#32
  let c0_i32_65 : BitVec 32 := 0#32
  let v21 : BitVec 1 := Scalar.cmpi .sgt c2_i32_62 c0_i32_65
  let v22 : BitVec 32 := Scalar.extui v21
  let c0_i32_66 : BitVec 32 := 0#32
  let v23 : BitVec 1 := Scalar.cmpi .slt c2_i32_62 c0_i32_66
  let v24 : BitVec 32 := Scalar.extui v23
  let v25 : BitVec 32 := Scalar.subi v22 v24
  let v26 : BitVec 1 := Scalar.cmpi .ne v20 v25
  let v27 : BitVec 32 := Scalar.remsi v14 c2_i32_62
  let c0_i32_67 : BitVec 32 := 0#32
  let v28 : BitVec 1 := Scalar.cmpi .ne v27 c0_i32_67
  let v29 : BitVec 1 := Scalar.andi v26 v28
  let v15 : BitVec 32 := Scalar.divsi v14 c2_i32_62
  let c1_i32_68 : BitVec 32 := 1#32
  let v30 : BitVec 32 := Scalar.subi v15 c1_i32_68
  let v31 : BitVec 32 := Scalar.select v29 v30 v15
  let v37 : BitVec 32 := Scalar.muli c2_i32_74 v31
  let v70 : Index := Scalar.indexCast v37
  let c0_98 : Index := 0#32
  let c0_99 : Index := 0#32
  ![v70.toNat, 0, 0]
def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v_true : BitVec 1 := 1#1
  let v4 : BitVec 1 := Scalar.andi v3 v_true
  let v5 : BitVec 32 := Scalar.extui v4
  let c0_i32_15 : BitVec 32 := 0#32
  let v6 : BitVec 1 := Scalar.cmpi .ne v5 c0_i32_15
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4096x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== MobaRefIdeal.lean ====
abbrev S4x4096x10240 : Shape := ⟨3, ![4, 4096, 10240]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4x4096x1024 : Shape := ⟨3, ![4, 4096, 1024]⟩
abbrev S4x4096x8x128 : Shape := ⟨4, ![4, 4096, 8, 128]⟩
abbrev S4x4096x8x16 : Shape := ⟨4, ![4, 4096, 8, 16]⟩
abbrev S4x4096x8x96 : Shape := ⟨4, ![4, 4096, 8, 96]⟩
abbrev S1x4096x1x16 : Shape := ⟨4, ![1, 4096, 1, 16]⟩
abbrev S4x8x4096x128 : Shape := ⟨4, ![4, 8, 4096, 128]⟩
abbrev S4x8x16x256x128 : Shape := ⟨5, ![4, 8, 16, 256, 128]⟩
abbrev S4x8x16x128 : Shape := ⟨4, ![4, 8, 16, 128]⟩
abbrev S4x8x4096x16 : Shape := ⟨4, ![4, 8, 4096, 16]⟩
abbrev S4x8x4096x3 : Shape := ⟨4, ![4, 8, 4096, 3]⟩
abbrev S4x8x4096x3x1 : Shape := ⟨5, ![4, 8, 4096, 3, 1]⟩
abbrev S1x1x1x1x4096 : Shape := ⟨5, ![1, 1, 1, 1, 4096]⟩
abbrev S4x8x4096x3x4096 : Shape := ⟨5, ![4, 8, 4096, 3, 4096]⟩
abbrev S4096x1x1 : Shape := ⟨3, ![4096, 1, 1]⟩
abbrev S1x1x4096x1x1 : Shape := ⟨5, ![1, 1, 4096, 1, 1]⟩
abbrev S4x8x4096x4096 : Shape := ⟨4, ![4, 8, 4096, 4096]⟩
abbrev S1x4096 : Shape := ⟨2, ![1, 4096]⟩
abbrev S4096x4096 : Shape := ⟨2, ![4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩

abbrev nBuf : Space → Nat
  | .hbm => 158
  | .vmem => 0
  | .smem => 0
  | _ => 0

abbrev hbmTy0_0 (i : Nat) : BufTy := match i % 128 with
  | 0 => ⟨S4x4096x10240, .bf16⟩
  | 1 => ⟨S4x4096x10240, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S4096, .f32⟩
  | 17 => ⟨S4096x1, .f32⟩
  | 18 => ⟨S1x16, .f32⟩
  | 19 => ⟨S4096x16, .f32⟩
  | 20 => ⟨S4096x16, .f32⟩
  | 21 => ⟨S4096x16, .f32⟩
  | 22 => ⟨S4096x16, .f32⟩
  | 23 => ⟨S4096x16, .f32⟩
  | 24 => ⟨S4x4096x1024, .f32⟩
  | 25 => ⟨S4x4096x8x128, .f32⟩
  | 26 => ⟨S4x4096x1024, .f32⟩
  | 27 => ⟨S4x4096x8x128, .f32⟩
  | 28 => ⟨S4x4096x1024, .f32⟩
  | 29 => ⟨S4x4096x8x128, .f32⟩
  | 30 => ⟨S4x4096x8x16, .f32⟩
  | 31 => ⟨S4x4096x8x16, .f32⟩
  | 32 => ⟨S4x4096x8x96, .f32⟩
  | 33 => ⟨S1x4096x1x16, .f32⟩
  | 34 => ⟨S1x4096x1x16, .f32⟩
  | 35 => ⟨S4x4096x8x16, .f32⟩
  | 36 => ⟨S4x4096x8x16, .f32⟩
  | 37 => ⟨S4x4096x8x16, .f32⟩
  | 38 => ⟨S4x4096x8x16, .f32⟩
  | 39 => ⟨S4x4096x8x16, .f32⟩
  | 40 => ⟨S4x4096x8x16, .f32⟩
  | 41 => ⟨S4x4096x8x16, .f32⟩
  | 42 => ⟨S4x4096x8x16, .f32⟩
  | 43 => ⟨S4x4096x8x16, .f32⟩
  | 44 => ⟨S4x4096x8x16, .f32⟩
  | 45 => ⟨S4x4096x8x128, .f32⟩
  | 46 => ⟨S4x8x4096x128, .f32⟩
  | 47 => ⟨S4x4096x8x16, .f32⟩
  | 48 => ⟨S4x4096x8x16, .f32⟩
  | 49 => ⟨S4x4096x8x96, .f32⟩
  | 50 => ⟨S1x4096x1x16, .f32⟩
  | 51 => ⟨S1x4096x1x16, .f32⟩
  | 52 => ⟨S4x4096x8x16, .f32⟩
  | 53 => ⟨S4x4096x8x16, .f32⟩
  | 54 => ⟨S4x4096x8x16, .f32⟩
  | 55 => ⟨S4x4096x8x16, .f32⟩
  | 56 => ⟨S4x4096x8x16, .f32⟩
  | 57 => ⟨S4x4096x8x16, .f32⟩
  | 58 => ⟨S4x4096x8x16, .f32⟩
  | 59 => ⟨S4x4096x8x16, .f32⟩
  | 60 => ⟨S4x4096x8x16, .f32⟩
  | 61 => ⟨S4x4096x8x16, .f32⟩
  | 62 => ⟨S4x4096x8x128, .f32⟩
  | 63 => ⟨S4x8x4096x128, .f32⟩
  | 64 => ⟨S4x8x4096x128, .f32⟩
  | 65 => ⟨S4x8x16x256x128, .f32⟩
  | 66 => ⟨S_, .f32⟩
  | 67 => ⟨S4x8x16x128, .f32⟩
  | 68 => ⟨S_, .f32⟩
  | 69 => ⟨S4x8x16x128, .f32⟩
  | 70 => ⟨S4x8x16x128, .f32⟩
  | 71 => ⟨S4096, .i32⟩
  | 72 => ⟨S_, .i32⟩
  | 73 => ⟨S_, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i1⟩
  | 80 => ⟨S4096, .i32⟩
  | 81 => ⟨S4096, .i32⟩
  | 82 => ⟨S_, .i32⟩
  | 83 => ⟨S4096, .i32⟩
  | 84 => ⟨S4096, .i1⟩
  | 85 => ⟨S4096, .i1⟩
  | 86 => ⟨S_, .i32⟩
  | 87 => ⟨S4096, .i32⟩
  | 88 => ⟨S4096, .i32⟩
  | 89 => ⟨S4096, .i32⟩
  | 90 => ⟨S16, .i32⟩
  | 91 => ⟨S4x8x4096x16, .f32⟩
  | 92 => ⟨S1x16, .i32⟩
  | 93 => ⟨S4096x1, .i32⟩
  | 94 => ⟨S4096x16, .i32⟩
  | 95 => ⟨S4096x16, .i32⟩
  | 96 => ⟨S4096x16, .i1⟩
  | 97 => ⟨S_, .f32⟩
  | 98 => ⟨S_, .f32⟩
  | 99 => ⟨S4x8x4096x16, .i1⟩
  | 100 => ⟨S4x8x4096x16, .f32⟩
  | 101 => ⟨S4x8x4096x16, .f32⟩
  | 102 => ⟨S4x8x4096x3, .f32⟩
  | 103 => ⟨S4x8x4096x3, .i32⟩
  | 104 => ⟨S4x8x4096x3x1, .i32⟩
  | 105 => ⟨S1x1x1x1x4096, .i32⟩
  | 106 => ⟨S4x8x4096x3x4096, .i32⟩
  | 107 => ⟨S4x8x4096x3x4096, .i32⟩
  | 108 => ⟨S4x8x4096x3x4096, .i1⟩
  | 109 => ⟨S4x8x4096x3x1, .i32⟩
  | 110 => ⟨S4096x1x1, .i32⟩
  | 111 => ⟨S1x1x4096x1x1, .i32⟩
  | 112 => ⟨S4x8x4096x3x1, .i32⟩
  | 113 => ⟨S4x8x4096x3x1, .i1⟩
  | 114 => ⟨S4x8x4096x3x4096, .i1⟩
  | 115 => ⟨S4x8x4096x3x4096, .i1⟩
  | 116 => ⟨S_, .i1⟩
  | 117 => ⟨S4x8x4096x4096, .i1⟩
  | 118 => ⟨S1x4096, .i32⟩
  | 119 => ⟨S4096x1, .i32⟩
  | 120 => ⟨S4096x4096, .i32⟩
  | 121 => ⟨S4096x4096, .i32⟩
  | 122 => ⟨S4096x4096, .i1⟩
  | 123 => ⟨S1x4096, .i32⟩
  | 124 => ⟨S4096x1, .i32⟩
  | 125 => ⟨S4096x4096, .i32⟩
  | 126 => ⟨S4096x4096, .i32⟩
  | 127 => ⟨S4096x4096, .i1⟩
  | _ => ⟨S4x4096x10240, .bf16⟩

abbrev hbmTy0_1 (i : Nat) : BufTy := match i % 128 with
  | 0 => ⟨S4096x4096, .i1⟩
  | 1 => ⟨S1x1x4096x4096, .i1⟩
  | 2 => ⟨S4x8x4096x4096, .i1⟩
  | 3 => ⟨S4x8x4096x4096, .i1⟩
  | 4 => ⟨S4x8x4096x4096, .f32⟩
  | 5 => ⟨S_, .f32⟩
  | 6 => ⟨S4x8x4096x4096, .f32⟩
  | 7 => ⟨S4x8x4096x4096, .f32⟩
  | 8 => ⟨S_, .f32⟩
  | 9 => ⟨S_, .f32⟩
  | 10 => ⟨S4x8x4096x4096, .f32⟩
  | 11 => ⟨S4x8x4096x4096, .f32⟩
  | 12 => ⟨S_, .f32⟩
  | 13 => ⟨S4x8x4096, .f32⟩
  | 14 => ⟨S_, .f32⟩
  | 15 => ⟨S4x8x4096, .f32⟩
  | 16 => ⟨S4x8x4096, .f32⟩
  | 17 => ⟨S4x8x4096x1, .f32⟩
  | 18 => ⟨S4x8x4096x4096, .f32⟩
  | 19 => ⟨S4x8x4096x4096, .f32⟩
  | 20 => ⟨S4x8x4096x4096, .f32⟩
  | 21 => ⟨S_, .f32⟩
  | 22 => ⟨S4x8x4096, .f32⟩
  | 23 => ⟨S4x8x4096x1, .f32⟩
  | 24 => ⟨S4x8x4096x4096, .f32⟩
  | 25 => ⟨S4x8x4096x4096, .f32⟩
  | 26 => ⟨S4x8x4096x128, .f32⟩
  | 27 => ⟨S4x4096x8x128, .f32⟩
  | 28 => ⟨S4x4096x1024, .f32⟩
  | 29 => ⟨S4x4096x1024, .bf16⟩
  | _ => ⟨S4x4096x10240, .bf16⟩

abbrev hbmTy (i : Nat) : BufTy := match i / 128 with
  | 0 => hbmTy0_0 i
  | 1 => hbmTy0_1 i
  | _ => ⟨S4x4096x10240, .bf16⟩

abbrev bufTy : (tb : Table) → Fin (tcTables nBuf tb) → BufTy
  | .hbm, ⟨i, _⟩ => hbmTy i
  | _, _ => ⟨S4x4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_cst_3 : Ref sig .tc := ⟨.hbm, 66, rfl⟩
abbrev main_v61 : Ref sig .tc := ⟨.hbm, 67, rfl⟩
abbrev main_cst_4 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_c : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_c : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_c_0 : Ref sig .tc := ⟨.hbm, 86, rfl⟩
abbrev main_call0_v12 : Ref sig .tc := ⟨.hbm, 87, rfl⟩
abbrev main_call0_v13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_5 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v73 : Ref sig .tc := ⟨.hbm, 101, rfl⟩
abbrev main_values : Ref sig .tc := ⟨.hbm, 102, rfl⟩
abbrev main_indices : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_6 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_7 : Ref sig .tc := ⟨.hbm, 133, rfl⟩
abbrev main_v102 : Ref sig .tc := ⟨.hbm, 134, rfl⟩
abbrev main_v103 : Ref sig .tc := ⟨.hbm, 135, rfl⟩
abbrev main_cst_8 : Ref sig .tc := ⟨.hbm, 136, rfl⟩
abbrev main_call2_v0 : Ref sig .tc := ⟨.hbm, 137, rfl⟩
abbrev main_call2_v1 : Ref sig .tc := ⟨.hbm, 138, rfl⟩
abbrev main_v104 : Ref sig .tc := ⟨.hbm, 139, rfl⟩
abbrev main_cst_9 : Ref sig .tc := ⟨.hbm, 140, rfl⟩
abbrev main_v105 : Ref sig .tc := ⟨.hbm, 141, rfl⟩
abbrev main_cst_10 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_11 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩

abbrev nD : Nat := 1
abbrev τ : Topo := Topo.v7x

variable {F : FTy → Type} [FloatOps F]
-- ==== Proof.Ffn.Slots.lean ====
/- The body of the feed-forward kernel, run once per case of its conditionals over any element values: what it leaves in
   the accumulator, in the normed rows and in the two-slot activation buffer. -/
module

public import proofs.«01_k».proof.Proof.Gen.FfnIdeal.Frame
public import proofs.«01_k».proof.Proof.Gen.FfnIdeal.Skeleton
public import Idealize.ShloMosaic.Lib.WritesUnit
public import Idealize.ShloMosaic.Lib.Pointwise.Index
public import Idealize.ShloMosaic.Lib.Pipeline.Value
public import Idealize.ShloMosaic.Lib.Claim

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The 512 columns of a slot from its two halves of 256. -/
def halves (lo hi : Vec F S1x1024x256 .bf16) : Vec F S1x1024x512 .bf16 := fun y =>
  if h : (y (2 : Fin 3)).val < 256 then lo (ix3 (0 : Fin 1) (y (1 : Fin 3)) ⟨(y (2 : Fin 3)).val, h⟩)
  else hi (ix3 (0 : Fin 1) (y (1 : Fin 3)) ⟨(y (2 : Fin 3)).val - 256, by
    have h2 : (y (2 : Fin 3)).val < 512 := (y (2 : Fin 3)).isLt
    omega⟩)

/-- What slot 0 of the activation buffer holds. -/
def slot0 (a : Vec F S2x1024x512 .bf16) : Vec F S1x1024x512 .bf16 :=
  View.ld a (Rect.unit (s := S2x1024x512) ![0, 0, 0] S1x1024x512.size inb_S2x1024x512_S1x1024x512_0_0_0)

/-- What slot 1 of the activation buffer holds. -/
def slot1 (a : Vec F S2x1024x512 .bf16) : Vec F S1x1024x512 .bf16 :=
  View.ld a (Rect.unit (s := S2x1024x512) ![1, 0, 0] S1x1024x512.size inb_S2x1024x512_S1x1024x512_1_0_0)

/-- The low half of a weight block's columns. -/
def colLo (x : Vec F S1x2048x512 .bf16) : Vec F S1x2048x256 .bf16 :=
  View.ld x (Rect.unit (s := S1x2048x512) ![0, 0, 0] S1x2048x256.size inb_S1x2048x512_S1x2048x256_0_0_0)

/-- The high half of a weight block's columns. -/
def colHi (x : Vec F S1x2048x512 .bf16) : Vec F S1x2048x256 .bf16 :=
  View.ld x (Rect.unit (s := S1x2048x512) ![0, 0, 256] S1x2048x256.size inb_S1x2048x512_S1x2048x256_0_0_256)

/-- Slot 0 after its two halves are stored. -/
theorem slot0_writes {sg : RefSig} {κ : Kind} {sp : Space} (v : View sg κ sp S2x1024x512 .bf16) (f : v.ty.Contents (Elt F))
    (lo hi : Vec F S1x1024x256 .bf16) (L : List (View.Piece (Elt F) S2x1024x512 .bf16)) :
    slot0 (v.read (Elt F) (v.writes (Elt F) f ((⟨Rect.unit (s := S2x1024x512) ![0, 0, 256] S1x1024x256.size inb_S2x1024x512_S1x1024x256_0_0_256, hi⟩ : View.Piece (Elt F) S2x1024x512 .bf16) :: (⟨Rect.unit (s := S2x1024x512) ![0, 0, 0] S1x1024x256.size inb_S2x1024x512_S1x1024x256_0_0_0, lo⟩ : View.Piece (Elt F) S2x1024x512 .bf16) :: L))) = halves lo hi := by
  funext y
  have h0 : (y (0 : Fin 3)).val < 1 := (y (0 : Fin 3)).isLt
  have h1 : (y (1 : Fin 3)).val < 1024 := (y (1 : Fin 3)).isLt
  have h2 : (y (2 : Fin 3)).val < 512 := (y (2 : Fin 3)).isLt
  unfold slot0 halves View.ld
  by_cases h : (y (2 : Fin 3)).val < 256
  · rw [dif_pos h]
    refine (View.read_writes_cons_unit_of_not_mem v f inb_S2x1024x512_S1x1024x256_0_0_256 hi _ _ rfl (2 : Fin 3) (Or.inl ?_)).trans
      (View.read_writes_cons_unit_of_mem v f inb_S2x1024x512_S1x1024x256_0_0_0 lo L _ (ix3 (0 : Fin 1) (y (1 : Fin 3)) ⟨(y (2 : Fin 3)).val, h⟩) rfl ?_)
    · show 0 + 1 * (y (2 : Fin 3)).val < 256
      omega
    · refine fun a => ?_
      fin_cases a
      · show 0 + 1 * (y (0 : Fin 3)).val = 0 + 0
        omega
      · show 0 + 1 * (y (1 : Fin 3)).val = 0 + (y (1 : Fin 3)).val
        omega
      · show 0 + 1 * (y (2 : Fin 3)).val = 0 + (y (2 : Fin 3)).val
        omega
  · rw [dif_neg h]
    refine View.read_writes_cons_unit_of_mem v f inb_S2x1024x512_S1x1024x256_0_0_256 hi _ _ (ix3 (0 : Fin 1) (y (1 : Fin 3)) ⟨(y (2 : Fin 3)).val - 256, by omega⟩) rfl fun a => ?_
    fin_cases a
    · show 0 + 1 * (y (0 : Fin 3)).val = 0 + 0
      omega
    · show 0 + 1 * (y (1 : Fin 3)).val = 0 + (y (1 : Fin 3)).val
      omega
    · show 0 + 1 * (y (2 : Fin 3)).val = 256 + ((y (2 : Fin 3)).val - 256)
      omega

/-- Slot 1 keeps what it held when slot 0's two halves are stored. -/
theorem slot1_writes0 {sg : RefSig} {κ : Kind} {sp : Space} (v : View sg κ sp S2x1024x512 .bf16) (f : v.ty.Contents (Elt F))
    (lo hi : Vec F S1x1024x256 .bf16) (L : List (View.Piece (Elt F) S2x1024x512 .bf16)) :
    slot1 (v.read (Elt F) (v.writes (Elt F) f ((⟨Rect.unit (s := S2x1024x512) ![0, 0, 256] S1x1024x256.size inb_S2x1024x512_S1x1024x256_0_0_256, hi⟩ : View.Piece (Elt F) S2x1024x512 .bf16) :: (⟨Rect.unit (s := S2x1024x512) ![0, 0, 0] S1x1024x256.size inb_S2x1024x512_S1x1024x256_0_0_0, lo⟩ : View.Piece (Elt F) S2x1024x512 .bf16) :: L))) = slot1 (v.read (Elt F) (v.writes (Elt F) f L)) := by
  funext y
  have h0 : (y (0 : Fin 3)).val < 1 := (y (0 : Fin 3)).isLt
  unfold slot1 View.ld
  refine (View.read_writes_cons_unit_of_not_mem v f inb_S2x1024x512_S1x1024x256_0_0_256 hi _ _ rfl (0 : Fin 3) ?_).trans
    (View.read_writes_cons_unit_of_not_mem v f inb_S2x1024x512_S1x1024x256_0_0_0 lo L _ rfl (0 : Fin 3) ?_)
  · show 1 + 1 * (y (0 : Fin 3)).val < 0 ∨ 0 + 1 ≤ 1 + 1 * (y (0 : Fin 3)).val
    omega
  · show 1 + 1 * (y (0 : Fin 3)).val < 0 ∨ 0 + 1 ≤ 1 + 1 * (y (0 : Fin 3)).val
    omega

/-- Slot 1 after its two halves are stored. -/
theorem slot1_writes {sg : RefSig} {κ : Kind} {sp : Space} (v : View sg κ sp S2x1024x512 .bf16) (f : v.ty.Contents (Elt F))
    (lo hi : Vec F S1x1024x256 .bf16) (L : List (View.Piece (Elt F) S2x1024x512 .bf16)) :
    slot1 (v.read (Elt F) (v.writes (Elt F) f ((⟨Rect.unit (s := S2x1024x512) ![1, 0, 256] S1x1024x256.size inb_S2x1024x512_S1x1024x256_1_0_256, hi⟩ : View.Piece (Elt F) S2x1024x512 .bf16) :: (⟨Rect.unit (s := S2x1024x512) ![1, 0, 0] S1x1024x256.size inb_S2x1024x512_S1x1024x256_1_0_0, lo⟩ : View.Piece (Elt F) S2x1024x512 .bf16) :: L))) = halves lo hi := by
  funext y
  have h0 : (y (0 : Fin 3)).val < 1 := (y (0 : Fin 3)).isLt
  have h1 : (y (1 : Fin 3)).val < 1024 := (y (1 : Fin 3)).isLt
  have h2 : (y (2 : Fin 3)).val < 512 := (y (2 : Fin 3)).isLt
  unfold slot1 halves View.ld
  by_cases h : (y (2 : Fin 3)).val < 256
  · rw [dif_pos h]
    refine (View.read_writes_cons_unit_of_not_mem v f inb_S2x1024x512_S1x1024x256_1_0_256 hi _ _ rfl (2 : Fin 3) (Or.inl ?_)).trans
      (View.read_writes_cons_unit_of_mem v f inb_S2x1024x512_S1x1024x256_1_0_0 lo L _ (ix3 (0 : Fin 1) (y (1 : Fin 3)) ⟨(y (2 : Fin 3)).val, h⟩) rfl ?_)
    · show 0 + 1 * (y (2 : Fin 3)).val < 256
      omega
    · refine fun a => ?_
      fin_cases a
      · show 1 + 1 * (y (0 : Fin 3)).val = 1 + 0
        omega
      · show 0 + 1 * (y (1 : Fin 3)).val = 0 + (y (1 : Fin 3)).val
        omega
      · show 0 + 1 * (y (2 : Fin 3)).val = 0 + (y (2 : Fin 3)).val
        omega
  · rw [dif_neg h]
    refine View.read_writes_cons_unit_of_mem v f inb_S2x1024x512_S1x1024x256_1_0_256 hi _ _ (ix3 (0 : Fin 1) (y (1 : Fin 3)) ⟨(y (2 : Fin 3)).val - 256, by omega⟩) rfl fun a => ?_
    fin_cases a
    · show 1 + 1 * (y (0 : Fin 3)).val = 1 + 0
      omega
    · show 0 + 1 * (y (1 : Fin 3)).val = 0 + (y (1 : Fin 3)).val
      omega
    · show 0 + 1 * (y (2 : Fin 3)).val = 256 + ((y (2 : Fin 3)).val - 256)
      omega

/-- Slot 0 keeps what it held when slot 1's two halves are stored. -/
theorem slot0_writes1 {sg : RefSig} {κ : Kind} {sp : Space} (v : View sg κ sp S2x1024x512 .bf16) (f : v.ty.Contents (Elt F))
    (lo hi : Vec F S1x1024x256 .bf16) (L : List (View.Piece (Elt F) S2x1024x512 .bf16)) :
    slot0 (v.read (Elt F) (v.writes (Elt F) f ((⟨Rect.unit (s := S2x1024x512) ![1, 0, 256] S1x1024x256.size inb_S2x1024x512_S1x1024x256_1_0_256, hi⟩ : View.Piece (Elt F) S2x1024x512 .bf16) :: (⟨Rect.unit (s := S2x1024x512) ![1, 0, 0] S1x1024x256.size inb_S2x1024x512_S1x1024x256_1_0_0, lo⟩ : View.Piece (Elt F) S2x1024x512 .bf16) :: L))) = slot0 (v.read (Elt F) (v.writes (Elt F) f L)) := by
  funext y
  have h0 : (y (0 : Fin 3)).val < 1 := (y (0 : Fin 3)).isLt
  unfold slot0 View.ld
  refine (View.read_writes_cons_unit_of_not_mem v f inb_S2x1024x512_S1x1024x256_1_0_256 hi _ _ rfl (0 : Fin 3) ?_).trans
    (View.read_writes_cons_unit_of_not_mem v f inb_S2x1024x512_S1x1024x256_1_0_0 lo L _ rfl (0 : Fin 3) ?_)
  · show 0 + 1 * (y (0 : Fin 3)).val < 1 ∨ 1 + 1 ≤ 0 + 1 * (y (0 : Fin 3)).val
    omega
  · show 0 + 1 * (y (0 : Fin 3)).val < 1 ∨ 1 + 1 ≤ 0 + 1 * (y (0 : Fin 3)).val
    omega

end Cert.Proof.Ffn

end
-- ==== Proof.Ffn.Runs.lean ====
/- The body of the feed-forward kernel, run once per case of its conditionals over any element values: what it leaves in
   the accumulator, in the normed rows and in the two-slot activation buffer. -/
module

public import proofs.«01_k».proof.Proof.Ffn.Slots
public import Idealize.ShloMosaic.Lib.WritesUnit
public import Idealize.ShloMosaic.Lib.Pointwise.Index
public import Idealize.ShloMosaic.Lib.Pipeline.Value
public import Idealize.ShloMosaic.Lib.Claim

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer stored whole last reads back what was stored. -/
theorem whole_writes {sg : RefSig} {κ : Kind} {sp : Space} {S : Shape} {e : EltTy} (v : View sg κ sp S e) (f : v.ty.Contents (Elt F))
    {off : Fin S.rank → ℕ} (inb : ∀ a, off a + S.size a ≤ S.size a) (w : S.Idx → Elt F e) (L : List (View.Piece (Elt F) S e))
    (h : ∀ a, off a = 0) :
    v.read (Elt F) (v.writes (Elt F) f ((⟨Rect.unit off S.size inb, w⟩ : View.Piece (Elt F) S e) :: L)) = w := by
  funext y
  exact View.read_writes_cons_unit_of_mem v f inb w L y y rfl fun a => by rw [h a, Nat.zero_add]

theorem offZero {n : ℕ} {off : Fin n → ℕ} (h : ∀ a, off a = 0) : off = fun _ => 0 := funext h

/-- A load of all of a whole memref reads its contents. -/
theorem load_whole {S : Shape} {e : EltTy} {m : Memref sig .tc .vmem S e} (hm : m.IsWhole) (x : S.Idx → Elt F e)
    {off : Fin S.rank → ℕ} (inb : ∀ a, off a + S.size a ≤ S.size a) (h : ∀ a, off a = 0) :
    View.readAt (Elt F) m.view (Rect.unit off S.size inb).toLoadRect (hm.unread x) = x := by
  rw [View.readAt_eq_ld, hm.read_unread]
  exact View.ld_unit_zero (offZero h) inb x

/-- A load of part of a whole memref reads that part of its contents. -/
theorem load_part {S : Shape} {e : EltTy} {m : Memref sig .tc .vmem S e} (hm : m.IsWhole) (x : S.Idx → Elt F e) (r : Rect S) :
    View.readAt (Elt F) m.view r.toLoadRect (hm.unread x) = View.ld x r := by
  rw [View.readAt_eq_ld, hm.read_unread]

set_option maxHeartbeats 2000000 in
/-- At the first point of a row block: the rows are normed, the accumulator zeroed, and the first chunk goes to slot 0. -/
theorem run_first (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S2x1024x512 .bf16) (harg10 : arg10.IsWhole)
    (hc1 : k0_cond1 i = 1#1) (hc2 : ¬ k0_cond2 i = 1#1) (hc3 : ¬ k0_cond3 i = 1#1) (hc4 : ¬ k0_cond4 i = 1#1)
    (x0 : Vec F S1024x2048 .f32) (x1 : Vec F S1x1x2048 .f32) (x2 : Vec F S1x2048x512 .bf16) (x3 : Vec F S1x2048x512 .bf16) (x4 : Vec F S1x512x2048 .bf16) (x5 : Vec F S1x1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay4 (F := F)) ∗ owns (c : Thread nD τ) arg9 fullShare (k0_pay3 x0 x1) ∗ (∃ b : Vec F S2x1024x512 .bf16, ⌜slot0 b = halves (k0_pay12 (k0_pay5 (k0_pay3 x0 x1) (colLo x2) (colLo x3))) (k0_pay13 (k0_pay3 x0 x1) (colHi x2) (colHi x3))⌝ ∗ owns (c : Thread nD τ) arg10 fullShare b)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro; exact whole_writes _ _ _ _ _ (by decide)
  isplitl [H7]
  · iexists _; isplitr
    swap; · iexact H7
    ipureintro
    unfold run_first.sl.H7_1
    refine (whole_writes _ _ _ _ _ (by decide)).trans ?_
    exact congrArg₂ k0_pay3 (load_whole harg2 x0 _ (by decide)) (load_whole harg3 x1 _ (by decide))
  iexists _; isplitr
  swap
  · iexists _; isplitr
    swap; · iexact H8
    ipureintro; rfl
  ipureintro
  refine (slot0_writes _ _ _ _ _).trans ?_
  have hv : run_first.sl.v59 c arg2 harg2 arg3 harg3 arg9 x0 x1 = k0_pay3 x0 x1 := by
    unfold run_first.sl.v59 run_first.sl.H7_1
    refine (View.readCov_unit_zero _ (offZero (by decide)) _ _).trans ?_
    exact congrArg₂ k0_pay3 (load_whole harg2 x0 _ (by decide)) (load_whole harg3 x1 _ (by decide))
  dsimp only
  rw [hv]
  exact congrArg₂ halves (congrArg k0_pay12 (congrArg₂ (k0_pay5 (k0_pay3 x0 x1)) (load_part harg4 x2 _) (load_part harg5 x3 _)))
    (congrArg₂ (k0_pay13 (k0_pay3 x0 x1)) (load_part harg4 x2 _) (load_part harg5 x3 _))

set_option maxHeartbeats 2000000 in
/-- At an odd inner point: the chunk goes to slot 1, slot 0 is multiplied into the accumulator. -/
theorem run_odd (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S2x1024x512 .bf16) (harg10 : arg10.IsWhole)
    (hc1 : ¬ k0_cond1 i = 1#1) (hc2 : k0_cond2 i = 1#1) (hc3 : ¬ k0_cond3 i = 1#1) (hc4 : ¬ k0_cond4 i = 1#1)
    (x0 : Vec F S1024x2048 .f32) (x1 : Vec F S1x1x2048 .f32) (x2 : Vec F S1x2048x512 .bf16) (x3 : Vec F S1x2048x512 .bf16) (x4 : Vec F S1x512x2048 .bf16) (x5 : Vec F S1x1x2048 .f32) (prev : Vec F S1024x2048 .f32) (hrow : Vec F S1024x2048 .bf16) (a : Vec F S2x1024x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare prev ∗ owns (c : Thread nD τ) arg9 fullShare hrow ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay14 (k0_pay8 prev) (slot0 a) x4) ∗ owns (c : Thread nD τ) arg9 fullShare hrow ∗ (∃ b : Vec F S2x1024x512 .bf16, ⌜slot1 b = halves (k0_pay6 hrow (colLo x2) (colLo x3)) (k0_pay7 hrow (colHi x2) (colHi x3))⌝ ∗ owns (c : Thread nD τ) arg10 fullShare b)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (whole_writes _ _ _ _ _ (by decide)).trans ?_
    have hv : run_odd.sl.v66 c arg10 harg10 a = slot0 a := by
      unfold run_odd.sl.v66
      exact load_part harg10 a _
    rw [hv, load_whole harg8 prev _ (by decide)]
    exact congrArg (k0_pay14 (k0_pay8 prev) (slot0 a)) (load_whole harg6 x4 _ (by decide))
  isplitl [H7]
  · iexists _; isplitr; · ipureintro; exact harg9.read_unread _
    iexact H7
  iexists _; isplitr
  swap
  · iexists _; isplitr
    swap; · iexact H8
    ipureintro; rfl
  ipureintro
  refine (slot1_writes _ _ _ _ _).trans ?_
  rw [load_whole harg9 hrow _ (by decide)]
  exact congrArg₂ halves (congrArg₂ (k0_pay6 hrow) (load_part harg4 x2 _) (load_part harg5 x3 _))
    (congrArg₂ (k0_pay7 hrow) (load_part harg4 x2 _) (load_part harg5 x3 _))

set_option maxHeartbeats 2000000 in
/-- At an even inner point: the chunk goes to slot 0, slot 1 is multiplied into the accumulator. -/
theorem run_even (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S2x1024x512 .bf16) (harg10 : arg10.IsWhole)
    (hc1 : ¬ k0_cond1 i = 1#1) (hc2 : ¬ k0_cond2 i = 1#1) (hc3 : k0_cond3 i = 1#1) (hc4 : ¬ k0_cond4 i = 1#1)
    (x0 : Vec F S1024x2048 .f32) (x1 : Vec F S1x1x2048 .f32) (x2 : Vec F S1x2048x512 .bf16) (x3 : Vec F S1x2048x512 .bf16) (x4 : Vec F S1x512x2048 .bf16) (x5 : Vec F S1x1x2048 .f32) (prev : Vec F S1024x2048 .f32) (hrow : Vec F S1024x2048 .bf16) (a : Vec F S2x1024x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare prev ∗ owns (c : Thread nD τ) arg9 fullShare hrow ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay15 (k0_pay11 prev) (slot1 a) x4) ∗ owns (c : Thread nD τ) arg9 fullShare hrow ∗ (∃ b : Vec F S2x1024x512 .bf16, ⌜slot0 b = halves (k0_pay9 hrow (colLo x2) (colLo x3)) (k0_pay10 hrow (colHi x2) (colHi x3))⌝ ∗ owns (c : Thread nD τ) arg10 fullShare b)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (whole_writes _ _ _ _ _ (by decide)).trans ?_
    have hv : run_even.sl.v66 c arg10 harg10 a = slot1 a := by
      unfold run_even.sl.v66
      exact load_part harg10 a _
    rw [hv, load_whole harg8 prev _ (by decide)]
    exact congrArg (k0_pay15 (k0_pay11 prev) (slot1 a)) (load_whole harg6 x4 _ (by decide))
  isplitl [H7]
  · iexists _; isplitr; · ipureintro; exact harg9.read_unread _
    iexact H7
  iexists _; isplitr
  swap
  · iexists _; isplitr
    swap; · iexact H8
    ipureintro; rfl
  ipureintro
  refine (slot0_writes _ _ _ _ _).trans ?_
  rw [load_whole harg9 hrow _ (by decide)]
  exact congrArg₂ halves (congrArg₂ (k0_pay9 hrow) (load_part harg4 x2 _) (load_part harg5 x3 _))
    (congrArg₂ (k0_pay10 hrow) (load_part harg4 x2 _) (load_part harg5 x3 _))

set_option maxHeartbeats 2000000 in
/-- At the last point of a row block: slot 0 is multiplied into the accumulator, which is normed and added to the rows. -/
theorem run_last (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S2x1024x512 .bf16) (harg10 : arg10.IsWhole)
    (hc1 : ¬ k0_cond1 i = 1#1) (hc2 : ¬ k0_cond2 i = 1#1) (hc3 : ¬ k0_cond3 i = 1#1) (hc4 : k0_cond4 i = 1#1)
    (x0 : Vec F S1024x2048 .f32) (x1 : Vec F S1x1x2048 .f32) (x2 : Vec F S1x2048x512 .bf16) (x3 : Vec F S1x2048x512 .bf16) (x4 : Vec F S1x512x2048 .bf16) (x5 : Vec F S1x1x2048 .f32) (prev : Vec F S1024x2048 .f32) (hrow : Vec F S1024x2048 .bf16) (a : Vec F S2x1024x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare prev ∗ owns (c : Thread nD τ) arg9 fullShare hrow ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay2 x0 (k0_pay1 prev (slot0 a) x4) x5) ∗ owns (c : Thread nD τ) arg9 fullShare hrow ∗ owns (c : Thread nD τ) arg10 fullShare a) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (whole_writes _ _ _ _ _ (by decide)).trans ?_
    have hv : run_last.sl.v48 c arg6 harg6 arg8 harg8 arg10 harg10 x4 prev a = k0_pay1 prev (slot0 a) x4 := by
      unfold run_last.sl.v48 run_last.sl.H6_1
      refine (View.readCov_unit_zero _ (offZero (by decide)) _ _).trans ?_
      rw [load_whole harg8 prev _ (by decide)]
      exact congrArg₂ (k0_pay1 prev) (load_part harg10 a _) (load_whole harg6 x4 _ (by decide))
    rw [hv, load_whole harg2 x0 _ (by decide)]
    exact congrArg (k0_pay2 x0 (k0_pay1 prev (slot0 a) x4)) (load_whole harg7 x5 _ (by decide))
  isplitl [H7]
  · iexists _; isplitr; · ipureintro; exact harg9.read_unread _
    iexact H7
  iexists _; isplitr; · ipureintro; exact harg10.read_unread _
  iexact H8

end Cert.Proof.Ffn

end
-- ==== Proof.Ffn.Frame.lean ====
/- The pipeline's proof data for the feed-forward kernel over any element values, its body obligation, its run and its frame. -/
module

public import proofs.«01_k».proof.Proof.Ffn.Runs
public import Idealize.ShloMosaic.Lib.WritesUnit
public import Idealize.ShloMosaic.Lib.Pointwise.Index
public import Idealize.ShloMosaic.Lib.Pipeline.Value
public import Idealize.ShloMosaic.Lib.Claim

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions -/

theorem cond1_iff (i : grid0.Coords) : k0_cond1 i = 1#1 ↔ (i 1).val = 0 := by
  unfold k0_cond1
  have key : ∀ j : Fin 12, (Scalar.cmpi .ne (Scalar.extui (Scalar.cmpi .eq (BitVec.ofNat 32 j.val) 0#32)) 0#32 : BitVec 1) = 1#1 ↔ j.val = 0 := by decide
  exact key (i 1)

theorem cond2_iff (i : grid0.Coords) : k0_cond2 i = 1#1 ↔ ((i 1).val < 11 ∧ (i 1).val % 2 = 1) := by
  unfold k0_cond2
  generalize i 1 = j
  revert j
  decide

theorem cond3_iff (i : grid0.Coords) : k0_cond3 i = 1#1 ↔ (0 < (i 1).val ∧ (i 1).val < 11 ∧ (i 1).val % 2 = 0) := by
  unfold k0_cond3
  generalize i 1 = j
  revert j
  decide

theorem cond4_iff (i : grid0.Coords) : k0_cond4 i = 1#1 ↔ (i 1).val = 11 := by
  unfold k0_cond4
  generalize i 1 = j
  revert j
  decide

/-- The body stores into the output's buffer at every point. -/
theorem idle_6 (i : cfg0.grid.Coords) : cfg0.idle 6 i = false := by
  show (!(k0_cond1 i == 1#1) && !(k0_cond2 i == 1#1) && !(k0_cond3 i == 1#1) && !(k0_cond4 i == 1#1)) = false
  have hi : (i 1).val < 12 := (i 1).isLt
  simp only [Bool.and_eq_false_iff, Bool.not_eq_false', beq_iff_eq, cond1_iff, cond2_iff, cond3_iff, cond4_iff]
  omega

theorem coord1 (t : Fin cfg0.N) : (grid0.coords t 1).val = t.val % 12 := by
  have e1 : (grid0.coords t 1).val = t.val / 1 % 12 := Pipeline.Grid.coords_val t 1 (by decide) rfl
  rw [e1, Nat.div_one]

theorem lt192 (t : Fin cfg0.N) : t.val < 192 := lt_of_lt_of_eq t.isLt N_0

/-! ## What the buffers hold point by point -/

/-- The first point of the row block point `n` belongs to. -/
def rowPt (n : ℕ) (h : n < cfg0.N) : Fin cfg0.N := ⟨12 * (n / 12), lt_of_le_of_lt (Nat.mul_div_le n 12) h⟩

/-- The normed rows of point `n`'s row block. -/
def rows (c : Dev nD) (n : ℕ) (h : n < cfg0.N) : Vec F S1024x2048 .bf16 :=
  k0_pay3 (iblk m c 0 (rowPt n h)) (iblk m c 1 (rowPt n h))

/-- The activation chunk point `n` computes. -/
def chunk (c : Dev nD) (n : ℕ) (h : n < cfg0.N) : Vec F S1x1024x512 .bf16 :=
  halves (k0_pay6 (rows m c n h) (colLo (iblk m c 2 ⟨n, h⟩)) (colLo (iblk m c 3 ⟨n, h⟩)))
    (k0_pay7 (rows m c n h) (colHi (iblk m c 2 ⟨n, h⟩)) (colHi (iblk m c 3 ⟨n, h⟩)))

/-- What the output's staging buffer holds after point `n`. -/
def acc (c : Dev nD) : (n : ℕ) → n < cfg0.N → Vec F S1024x2048 .f32
  | 0, _ => k0_pay4 (F := F)
  | n + 1, h =>
    if (n + 1) % 12 = 0 then k0_pay4 (F := F)
    else if (n + 1) % 12 = 11 then
      k0_pay2 (iblk m c 0 ⟨n + 1, h⟩) (k0_pay1 (acc c n (by omega)) (chunk m c n (by omega)) (iblk m c 4 ⟨n + 1, h⟩)) (iblk m c 5 ⟨n + 1, h⟩)
    else k0_pay1 (acc c n (by omega)) (chunk m c n (by omega)) (iblk m c 4 ⟨n + 1, h⟩)

/-- After point `n` the slot of its parity holds its chunk, the last point of a row block apart. -/
def Held (c : Dev nD) (n : ℕ) (h : n < cfg0.N) (a : Vec F S2x1024x512 .bf16) : Prop :=
  n % 12 ≠ 11 → (n % 2 = 0 → slot0 a = chunk m c n h) ∧ (n % 2 = 1 → slot1 a = chunk m c n h)

theorem acc_first (c : Dev nD) (t : Fin cfg0.N) (h : t.val % 12 = 0) : acc m c t.val t.isLt = k0_pay4 (F := F) := by
  obtain ⟨n, hn⟩ := t
  cases n with
  | zero => rfl
  | succ n => unfold acc; exact if_pos h

theorem acc_mid (c : Dev nD) (t : Fin cfg0.N) (h : t.val % 12 ≠ 0) (h' : t.val % 12 ≠ 11) :
    acc m c t.val t.isLt = k0_pay1 (acc m c (t.val - 1) (Nat.lt_of_le_of_lt (Nat.sub_le _ _) t.isLt))
      (chunk m c (t.val - 1) (Nat.lt_of_le_of_lt (Nat.sub_le _ _) t.isLt)) (iblk m c 4 t) := by
  obtain ⟨n, hn⟩ := t
  cases n with
  | zero => exact absurd rfl h
  | succ n => rw [acc]; exact (if_neg h).trans (if_neg h')

theorem acc_last (c : Dev nD) (t : Fin cfg0.N) (h : t.val % 12 = 11) :
    acc m c t.val t.isLt = k0_pay2 (iblk m c 0 t) (k0_pay1 (acc m c (t.val - 1) (Nat.lt_of_le_of_lt (Nat.sub_le _ _) t.isLt))
      (chunk m c (t.val - 1) (Nat.lt_of_le_of_lt (Nat.sub_le _ _) t.isLt)) (iblk m c 4 t)) (iblk m c 5 t) := by
  obtain ⟨n, hn⟩ := t
  cases n with
  | zero =>
    have h' : 0 % 12 = 11 := h
    omega
  | succ n => rw [acc]; exact (if_neg (by simp only at h; omega)).trans (if_pos h)

theorem rows_first (c : Dev nD) (t : Fin cfg0.N) (h : t.val % 12 = 0) :
    rows m c t.val t.isLt = k0_pay3 (iblk m c 0 t) (iblk m c 1 t) := by
  unfold rows
  rw [show rowPt t.val t.isLt = t from Fin.ext (by show 12 * (t.val / 12) = t.val; omega)]

theorem rows_prev (c : Dev nD) (t : Fin cfg0.N) (h : t.val % 12 ≠ 0) :
    rows m c (t.val - 1) (Nat.lt_of_le_of_lt (Nat.sub_le _ _) t.isLt) = rows m c t.val t.isLt := by
  unfold rows
  rw [show rowPt (t.val - 1) (Nat.lt_of_le_of_lt (Nat.sub_le _ _) t.isLt) = rowPt t.val t.isLt from
    Fin.ext (by show 12 * ((t.val - 1) / 12) = 12 * (t.val / 12); omega)]

/-! ## The invariant and the proof data -/

abbrev scM0_0 : Memref sig .tc .vmem S1024x2048 .bf16 := Memref.whole cc0_scratch0
abbrev scM0_1 : Memref sig .tc .vmem S2x1024x512 .bf16 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant before position `n`: after a point, the normed rows of its block and an activation buffer holding its chunk. -/
def PhiS (c : Dev nD) : (n : ℕ) → n ≤ cfg0.N → sProp 𝕄
  | 0, _ => Pipeline.ΦA spec0 c
  | n + 1, hn => iprop(∃ a : Vec F S2x1024x512 .bf16, ⌜Held m c n hn a⌝ ∗ owns (c : Thread nD τ) scM0_0 fullShare (rows m c n hn)
      ∗ owns (c : Thread nD τ) scM0_1 fullShare a ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(∃ a : Vec F S2x1024x512 .bf16, ⌜Held m c n hn a⌝ ∗ owns (c : Thread nD τ) scM0_0 fullShare (rows m c n hn)
      ∗ owns (c : Thread nD τ) scM0_1 fullShare a ∗ (∃ r, prngReg c r)) := rfl

theorem PhiS_pos (c : Dev nD) (n : ℕ) (h : n ≤ cfg0.N) (hz : n ≠ 0) :
    PhiS m c n h = iprop(∃ a : Vec F S2x1024x512 .bf16, ⌜Held m c (n - 1) (by omega) a⌝
      ∗ owns (c : Thread nD τ) scM0_0 fullShare (rows m c (n - 1) (by omega))
      ∗ owns (c : Thread nD τ) scM0_1 fullShare a ∗ (∃ r, prngReg c r)) := by
  cases n with
  | zero => exact absurd rfl hz
  | succ n => rfl

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => acc m c t.val t.isLt
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = acc m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Away from a row block's first point the output's buffer holds what the point before left. -/
theorem before0_6 (c : Dev nD) (t : Fin cfg0.N) (h : t.val % 12 ≠ 0) (d) :
    (dats m 0 c).before 6 t d = acc m c (t.val - 1) (Nat.lt_of_le_of_lt (Nat.sub_le _ _) t.isLt) := by
  refine ((dats m 0 c).before_out_kept 6 rfl t (by omega) ?_ idle_6 (fun _ _ => rfl) d).trans (after0_6 m c _)
  rw [Bool.eq_false_iff]
  intro hf
  have := (flush0_6 _).mp hf
  simp only at this
  omega

/-! ## The body obligation -/

abbrev ms0_0 (t : Fin cfg0.N) : Memref sig .tc .vmem S1024x2048 .f32 := win0_0.stage (cfg0.slots t 0)
abbrev ms0_1 (t : Fin cfg0.N) : Memref sig .tc .vmem S1x1x2048 .f32 := win0_1.stage (cfg0.slots t 1)
abbrev ms0_2 (t : Fin cfg0.N) : Memref sig .tc .vmem S1x2048x512 .bf16 := win0_2.stage (cfg0.slots t 2)
abbrev ms0_3 (t : Fin cfg0.N) : Memref sig .tc .vmem S1x2048x512 .bf16 := win0_3.stage (cfg0.slots t 3)
abbrev ms0_4 (t : Fin cfg0.N) : Memref sig .tc .vmem S1x512x2048 .bf16 := win0_4.stage (cfg0.slots t 4)
abbrev ms0_5 (t : Fin cfg0.N) : Memref sig .tc .vmem S1x1x2048 .f32 := win0_5.stage (cfg0.slots t 5)
abbrev ms0_6 (t : Fin cfg0.N) : Memref sig .tc .vmem S1024x2048 .f32 := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN := lt192 t
  have hc1 := cond1_iff (grid0.coords t)
  have hc2 := cond2_iff (grid0.coords t)
  have hc3 := cond3_iff (grid0.coords t)
  have hc4 := cond4_iff (grid0.coords t)
  rw [coord1 t] at hc1 hc2 hc3 hc4
  by_cases h0 : t.val % 12 = 0
  · rw [acc_first m c t h0, rows_first m c t h0]
    have hheld : ∀ b : Vec F S2x1024x512 .bf16, slot0 b = chunk m c t.val t.isLt → Held m c t.val t.isLt b :=
      fun b hb _ => ⟨fun _ => hb, fun h => absurd h (by omega)⟩
    have hk : halves (k0_pay12 (k0_pay5 (k0_pay3 (iblk m c 0 t) (iblk m c 1 t)) (colLo (iblk m c 2 t)) (colLo (iblk m c 3 t))))
        (k0_pay13 (k0_pay3 (iblk m c 0 t) (iblk m c 1 t)) (colHi (iblk m c 2 t)) (colHi (iblk m c 3 t))) = chunk m c t.val t.isLt := by
      unfold chunk; rw [rows_first m c t h0]; rfl
    have hphi : PhiS m c t.val (Nat.le_of_lt t.isLt) ⊢ iprop((∃ d, owns (c : Thread nD τ) scM0_0 fullShare d) ∗ (∃ d, owns (c : Thread nD τ) scM0_1 fullShare d) ∗ (∃ r, prngReg c r)) := by
      by_cases hz : t.val = 0
      · rw [PhiS_zero m c _ _ hz, PhiA0_eq]
        iintro ⟨⟨HS0, HS1⟩, Hg⟩
        isplitl [HS0]; · iexact HS0
        isplitl [HS1]; · iexact HS1
        iexact Hg
      · rw [PhiS_pos m c _ _ hz]
        iintro ⟨%a, -, HS0, HS1, Hg⟩
        isplitl [HS0]; · iexists _; iexact HS0
        isplitl [HS1]; · iexists _; iexact HS1
        iexact Hg
    rw [PhiS_castSucc m c t]
    refine (sep_mono hphi .rfl).trans ?_
    iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ _ _ (hc1.mpr h0) (fun h => by have := hc2.mp h; omega) (fun h => by have := hc3.mp h; omega) (fun h => by have := hc4.mp h; omega) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, ⟨%b, %hb, HS1⟩⟩
    isplitl [HS0 HS1 Hg]
    · iexists b
      isplitr; · ipureintro; exact hheld b (hb.trans hk)
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  have hpos : t.val ≠ 0 := fun h => h0 (by rw [h])
  rw [PhiS_castSucc m c t, PhiS_pos m c _ _ hpos, rows_prev m c t h0]
  simp only [before0_6 m c t h0]
  by_cases h11 : t.val % 12 = 11
  · rw [acc_last m c t h11]
    iintro ⟨⟨%a, %ha, HS0, HS1, Hg⟩, Ho, ⟨%d0, H0⟩, ⟨%d1, H1⟩, ⟨%d2, H2⟩, ⟨%d3, H3⟩, ⟨%d4, H4⟩, ⟨%d5, H5⟩, ⟨%d6, H6⟩⟩
    rw [← (ha (by omega)).1 (by omega)]
    iapply (run_last c (grid0.coords t) _ _ _ _ _ _ _ _ _ _ _ _ _ _ _ _ _ _ (fun h => by have := hc1.mp h; omega) (fun h => by have := hc2.mp h; omega) (fun h => by have := hc3.mp h; omega) (hc4.mpr h11) (iblk m c 0 t) (iblk m c 1 t) (iblk m c 2 t) (iblk m c 3 t) (iblk m c 4 t) (iblk m c 5 t)
      (acc m c (t.val - 1) (Nat.lt_of_le_of_lt (Nat.sub_le _ _) t.isLt)) (rows m c t.val t.isLt) a Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · iexists a
      isplitr; · ipureintro; exact fun h => absurd h11 h
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  rw [acc_mid m c t h0 h11]
  by_cases hp : t.val % 2 = 1
  · iintro ⟨⟨%a, %ha, HS0, HS1, Hg⟩, Ho, ⟨%d0, H0⟩, ⟨%d1, H1⟩, ⟨%d2, H2⟩, ⟨%d3, H3⟩, ⟨%d4, H4⟩, ⟨%d5, H5⟩, ⟨%d6, H6⟩⟩
    rw [← (ha (by omega)).1 (by omega)]
    iapply (run_odd c (grid0.coords t) _ _ _ _ _ _ _ _ _ _ _ _ _ _ _ _ _ _ (fun h => by have := hc1.mp h; omega) (hc2.mpr (by omega)) (fun h => by have := hc3.mp h; omega) (fun h => by have := hc4.mp h; omega) (iblk m c 0 t) (iblk m c 1 t) (iblk m c 2 t) (iblk m c 3 t) (iblk m c 4 t) (iblk m c 5 t)
      (acc m c (t.val - 1) (Nat.lt_of_le_of_lt (Nat.sub_le _ _) t.isLt)) (rows m c t.val t.isLt) a Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, ⟨%b, %hb, HS1⟩⟩
    isplitl [HS0 HS1 Hg]
    · iexists b
      isplitr; · ipureintro; exact fun _ => ⟨fun h => absurd h (by omega), fun _ => hb⟩
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨%a, %ha, HS0, HS1, Hg⟩, Ho, ⟨%d0, H0⟩, ⟨%d1, H1⟩, ⟨%d2, H2⟩, ⟨%d3, H3⟩, ⟨%d4, H4⟩, ⟨%d5, H5⟩, ⟨%d6, H6⟩⟩
    rw [← (ha (by omega)).2 (by omega)]
    iapply (run_even c (grid0.coords t) _ _ _ _ _ _ _ _ _ _ _ _ _ _ _ _ _ _ (fun h => by have := hc1.mp h; omega) (fun h => by have := hc2.mp h; omega) (hc3.mpr (by omega)) (fun h => by have := hc4.mp h; omega) (iblk m c 0 t) (iblk m c 1 t) (iblk m c 2 t) (iblk m c 3 t) (iblk m c 4 t) (iblk m c 5 t)
      (acc m c (t.val - 1) (Nat.lt_of_le_of_lt (Nat.sub_le _ _) t.isLt)) (rows m c t.val t.isLt) a Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, ⟨%b, %hb, HS1⟩⟩
    isplitl [HS0 HS1 Hg]
    · iexists b
      isplitr; · ipureintro; exact fun _ => ⟨fun _ => hb, fun h => absurd h (by omega)⟩
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  rw [idle_6]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hz : (Fin.last cfg0.N).val ≠ 0 := by rw [Fin.val_last]; have : cfg0.N = 192 := N_0; omega
  rw [show (dats m 0 c).Φ (Fin.last cfg0.N) = PhiS m c (Fin.last cfg0.N).val (Nat.le_of_lt_succ (Fin.last cfg0.N).isLt) from rfl,
    PhiS_pos m c _ _ hz, PhiA0_eq]
  iintro ⟨%a, -, HS0, HS1, Hg⟩
  isplitl [HS0 HS1]
  · isplitl [HS0]; · iexists _; iexact HS0
    iexists _; iexact HS1
  iexact Hg

/-! ## The run and the frame -/

set_option backward.isDefEq.respectTransparency.types false in
/-- The launch over any element values: the pipeline's post, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame over any element values: the arguments end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Proof.Ffn

end
-- ==== Proof.Rows.lean ====
/- The rows of an array of four sequences, laid one after the other: row `R` of the flat array is row `R % 4096` of
   sequence `R / 4096`. -/
module

public import Idealize.ShloMosaic.Lib.Pointwise
public import Idealize.ShloMosaic.Lib.Pipeline.Value

@[expose] public section

noncomputable section

namespace Cert.Proof.Rows

open Idealize.ShloMosaic

/-- The sequence a flat row belongs to. -/
def seqOf (R : Fin 16384) : Fin 4 := ⟨R.val / 4096, by omega⟩
/-- The position of a flat row in its sequence. -/
def posOf (R : Fin 16384) : Fin 4096 := ⟨R.val % 4096, by omega⟩

theorem flat_apply {α : Type} {n : Nat} (v : (⟨3, ![4, 4096, n]⟩ : Shape).Idx → α)
    (h : (⟨3, ![4, 4096, n]⟩ : Shape).ShapeCasts ⟨2, ![16384, n]⟩) (R : Fin 16384) (k : Fin n) :
    shapeCast ⟨2, ![16384, n]⟩ v h (ix2 R k) = v (ix3 (seqOf R) (posOf R) k) := by
  apply shapeCast_apply
  rw [rowMajor_val2 _ n rfl, rowMajor_val3 _ (4096 * n) n rfl rfl]
  show R.val / 4096 * (4096 * n) + R.val % 4096 * n + k.val = R.val * n + k.val
  conv_rhs => rw [← Nat.div_add_mod R.val 4096]
  ring

/-- One entry of a row under its root-mean-square norm. -/
def normed (x g : Fin 2048 → EReal) (n : Fin 2048) : EReal :=
  x n * Ideal.rsqrt (Ideal.div (∑ j, x j * x j) (Ideal.ofBits .f32 0x45000000#32) + Ideal.ofBits .f32 0x358637BD#32) * g n

end Cert.Proof.Rows
-- ==== Proof.Ffn.Block.lean ====
/- The feed-forward kernel's result over the reals: one entry is the activation plus half the normed entry of the
   down-projected row, the row's eleven chunks of 512 columns summed in order. -/
module

public import proofs.«01_k».proof.Proof.Ffn.Frame
public import Idealize.ShloMosaic.Lib.Pointwise
public import proofs.«01_k».proof.Proof.Rows

@[expose] public section

noncomputable section

namespace Cert.Proof.Ffn

open Idealize.ShloMosaic Idealize.SL.Sem Cert.Proof.Rows

/-- One entry of the activation: the gate's column under its own logistic, times the up column. -/
def act (h : Fin 2048 → EReal) (wg wu : Fin 2048 → EReal) : EReal :=
  (∑ k, h k * wg k) * Ideal.logistic (∑ k, h k * wg k) * (∑ k, h k * wu k)

section
variable (x : FVec Ideal ⟨3, ![4, 4096, 2048]⟩ .f32) (g : FVec Ideal ⟨2, ![2, 2048]⟩ .f32)
  (w : FVec Ideal ⟨3, ![2, 2048, 11264]⟩ .f32) (d : FVec Ideal ⟨3, ![2, 5632, 2048]⟩ .f32) (p : FVec Ideal ⟨2, ![2, 2048]⟩ .f32)

/-- A row of the normed input. -/
def normedRow (R : Fin 16384) : Fin 2048 → EReal := normed (fun k => x (ix3 (seqOf R) (posOf R) k)) (fun k => g (ix2 0 k))

/-- One entry of a row of the activation. -/
def actOf (R : Fin 16384) (f : Fin 5632) : EReal :=
  act (normedRow x g R) (fun k => w (ix3 0 k ⟨f.val, by omega⟩)) (fun k => w (ix3 0 k ⟨5632 + f.val, by omega⟩))

/-- One entry of the down-projected row. -/
def downed (R : Fin 16384) (n : Fin 2048) : EReal := ∑ f : Fin 5632, actOf x g w R f * d (ix3 0 f n)

/-- One entry of the result. -/
def result (R : Fin 16384) (n : Fin 2048) : EReal :=
  x (ix3 (seqOf R) (posOf R) n) + Ideal.ofBits .f32 0x3F000000#32 * normed (downed x g w d R) (fun k => p (ix2 0 k)) n

/-- The summand of the down projection, by a natural number; zero past the end. -/
def term (R : Fin 16384) (n : Fin 2048) (f : ℕ) : EReal :=
  if h : f < 5632 then actOf x g w R ⟨f, h⟩ * d (ix3 0 ⟨f, h⟩ n) else 0

theorem downed_eq (R : Fin 16384) (n : Fin 2048) : downed x g w d R n = ∑ f ∈ Finset.range 5632, term x g w d R n f := by
  unfold downed
  rw [Finset.sum_range]
  refine Finset.sum_congr rfl fun f _ => ?_
  unfold term
  rw [dif_pos f.isLt]

end

end Cert.Proof.Ffn

namespace Cert.FfnIdeal.Block

open Idealize.ShloMosaic Idealize.ShloMosaic.Tactic Idealize.SL.Sem Cert.FfnIdeal Cert.Proof.Ffn Cert.Proof.Rows
open Cert.FfnIdeal.Gen Idealize.ShloMosaic.TcCoe
open Idealize.ShloMosaic.Pipeline (Dat Cfg Window)

/-! The payloads at an index. -/

theorem normed_apply (x0 : Vec Ideal S1024x2048 .f32) (x1 : Vec Ideal S1x1x2048 .f32) (r : Fin 1024) (k : Fin 2048) :
    k0_pay3 (F := Ideal) x0 x1 (ix2 r k) = normed (fun k => x0 (ix2 r k)) (fun k => x1 (ix3 0 0 k)) k := by
  unfold_payloads
  unfold normed
  pointwise

theorem zero_apply (r : Fin 1024) (n : Fin 2048) : k0_pay4 (F := Ideal) (ix2 r n) = 0 := by
  unfold_payloads
  pointwise

theorem lo_apply (h : Vec Ideal S1024x2048 .bf16) (a b : Vec Ideal S1x2048x256 .bf16) (r : Fin 1024) (f : Fin 256) :
    k0_pay6 (F := Ideal) h a b (ix3 0 r f) = act (fun k => h (ix2 r k)) (fun k => a (ix3 0 k f)) (fun k => b (ix3 0 k f)) := by
  unfold_payloads
  unfold act
  pointwise

theorem hi_apply (h : Vec Ideal S1024x2048 .bf16) (a b : Vec Ideal S1x2048x256 .bf16) (r : Fin 1024) (f : Fin 256) :
    k0_pay7 (F := Ideal) h a b (ix3 0 r f) = act (fun k => h (ix2 r k)) (fun k => a (ix3 0 k f)) (fun k => b (ix3 0 k f)) := by
  unfold_payloads
  unfold act
  pointwise

theorem down_apply (o : Vec Ideal S1024x2048 .f32) (a : Vec Ideal S1x1024x512 .bf16) (d : Vec Ideal S1x512x2048 .bf16) (r : Fin 1024) (n : Fin 2048) :
    k0_pay1 (F := Ideal) o a d (ix2 r n) = o (ix2 r n) + ∑ f : Fin 512, a (ix3 0 r f) * d (ix3 0 f n) := by
  unfold_payloads
  pointwise

theorem last_apply (x o : Vec Ideal S1024x2048 .f32) (p : Vec Ideal S1x1x2048 .f32) (r : Fin 1024) (n : Fin 2048) :
    k0_pay2 (F := Ideal) x o p (ix2 r n)
      = x (ix2 r n) + Ideal.ofBits .f32 0x3F000000#32 * normed (fun k => o (ix2 r k)) (fun k => p (ix3 0 0 k)) n := by
  unfold_payloads
  unfold normed
  pointwise

theorem halves_lo (lo hi : Vec Ideal S1x1024x256 .bf16) (r : Fin 1024) (f : Fin 512) (h : f.val < 256) :
    halves lo hi (ix3 0 r f) = lo (ix3 0 r ⟨f.val, h⟩) := by
  unfold halves
  exact dif_pos h

theorem halves_hi (lo hi : Vec Ideal S1x1024x256 .bf16) (r : Fin 1024) (f : Fin 512) (h : ¬ f.val < 256) :
    halves lo hi (ix3 0 r f) = hi (ix3 0 r ⟨f.val - 256, by omega⟩) := by
  unfold halves
  exact dif_neg h

theorem colLo_apply (x : Vec Ideal S1x2048x512 .bf16) (k : Fin 2048) (f : Fin 256) :
    colLo x (ix3 0 k f) = x (ix3 0 k ⟨f.val, by omega⟩) := by
  unfold colLo View.ld
  congr 1
  funext a
  apply Fin.ext
  match a with
  | ⟨0, _⟩ => show 0 + 1 * 0 = 0; rfl
  | ⟨1, _⟩ => show 0 + 1 * k.val = k.val; omega
  | ⟨2, _⟩ => show 0 + 1 * f.val = f.val; omega

theorem colHi_apply (x : Vec Ideal S1x2048x512 .bf16) (k : Fin 2048) (f : Fin 256) :
    colHi x (ix3 0 k f) = x (ix3 0 k ⟨256 + f.val, by omega⟩) := by
  unfold colHi View.ld
  congr 1
  funext a
  apply Fin.ext
  match a with
  | ⟨0, _⟩ => show 0 + 1 * 0 = 0; rfl
  | ⟨1, _⟩ => show 0 + 1 * k.val = k.val; omega
  | ⟨2, _⟩ => show 256 + 1 * f.val = 256 + f.val; omega

variable (m : (ℓ : Loc nD τ sig) → Buf (Elt Ideal) ℓ) (c : Dev nD)

/-! The arrays the windows stage, in terms of the arguments as launched. -/

theorem V_v0 : V m c main_v0 = shapeCast S16384x2048 (m ((c : Thread nD τ).loc main_arg0)) shapeCasts_S4x4096x2048_S16384x2048 := by
  unfold V hostOps0; after_results_simp <;> rfl
theorem V_v1 : V m c main_v1 = broadcastInDim S2x1x2048 ![0, 2] bcast_S2x2048_S2x1x2048_0_2 (m ((c : Thread nD τ).loc main_arg1)) := by
  unfold V hostOps0; after_results_simp <;> rfl
theorem V_v2 : V m c main_v2 = (truncf .bf16 (m ((c : Thread nD τ).loc main_arg2) : FVec Ideal S2x2048x11264 .f32) bitsLt_bf16_f32 : FVec Ideal S2x2048x11264 .bf16) := by
  unfold V hostOps0; after_results_simp <;> rfl
theorem V_v3 : V m c main_v3 = (truncf .bf16 (m ((c : Thread nD τ).loc main_arg3) : FVec Ideal S2x5632x2048 .f32) bitsLt_bf16_f32 : FVec Ideal S2x5632x2048 .bf16) := by
  unfold V hostOps0; after_results_simp <;> rfl
theorem V_v4 : V m c main_v4 = broadcastInDim S2x1x2048 ![0, 2] bcast_S2x2048_S2x1x2048_0_2 (m ((c : Thread nD τ).loc main_arg4)) := by
  unfold V hostOps0; after_results_simp <;> rfl

/-! The blocks at a grid point, at an index. Point `t` is row block `t / 12` and step `t % 12`. -/

/-- The flat row of the array that row `r` of point `t`'s block is. -/
def rowOf (t : Fin cfg0.N) (r : Fin 1024) : Fin 16384 := ⟨1024 * (t.val / 12) + r.val, by have h := lt192 t; omega⟩

theorem iblk_0 (t : Fin cfg0.N) (r : Fin 1024) (k : Fin 2048) :
    (iblk m c 0 t : Vec Ideal S1024x2048 .f32) (ix2 r k) = (m ((c : Thread nD τ).loc main_arg0) : FVec Ideal S4x4096x2048 .f32) (ix3 (seqOf (rowOf t r)) (posOf (rowOf t r)) k) := by
  have hi : win0_0.index t 0 = t.val / 12 ∧ win0_0.index t 1 = 0 :=
    (by decide +kernel : ∀ t : Fin grid0.N, win0_0.index t 0 = t.val / 12 ∧ win0_0.index t 1 = 0) t
  have e : ((cfg0.win 0).blk t).view.emb (ix2 r k) = (ix2 (rowOf t r) k : S16384x2048.Idx) := by
    funext a
    apply Fin.ext
    match a with
    | ⟨0, _⟩ => show win0_0.index t 0 * 1024 + 1 * r.val = 1024 * (t.val / 12) + r.val; rw [hi.1]; omega
    | ⟨1, _⟩ => show win0_0.index t 1 * 2048 + 1 * k.val = k.val; rw [hi.2]; omega
  unfold iblk
  rw [View.read_apply, e]
  show V m c main_v0 _ = _
  rw [V_v0, flat_apply]

theorem iblk_1 (t : Fin cfg0.N) (k : Fin 2048) :
    (iblk m c 1 t : Vec Ideal S1x1x2048 .f32) (ix3 0 0 k) = (m ((c : Thread nD τ).loc main_arg1) : FVec Ideal S2x2048 .f32) (ix2 0 k) := by
  have hi : win0_1.index t 0 = 0 ∧ win0_1.index t 1 = 0 ∧ win0_1.index t 2 = 0 :=
    (by decide +kernel : ∀ t : Fin grid0.N, win0_1.index t 0 = 0 ∧ win0_1.index t 1 = 0 ∧ win0_1.index t 2 = 0) t
  have e : ((cfg0.win 1).blk t).view.emb (ix3 0 0 k) = (ix3 0 0 k : S2x1x2048.Idx) := by
    funext d
    apply Fin.ext
    match d with
    | ⟨0, _⟩ => show win0_1.index t 0 * 1 + 1 * 0 = 0; rw [hi.1]
    | ⟨1, _⟩ => show win0_1.index t 1 * 1 + 1 * 0 = 0; rw [hi.2.1]
    | ⟨2, _⟩ => show win0_1.index t 2 * 2048 + 1 * k.val = k.val; rw [hi.2.2]; omega
  unfold iblk
  rw [View.read_apply, e]
  show V m c main_v1 _ = _
  rw [V_v1]
  pointwise

theorem iblk_5 (t : Fin cfg0.N) (k : Fin 2048) :
    (iblk m c 5 t : Vec Ideal S1x1x2048 .f32) (ix3 0 0 k) = (m ((c : Thread nD τ).loc main_arg4) : FVec Ideal S2x2048 .f32) (ix2 0 k) := by
  have hi : win0_5.index t 0 = 0 ∧ win0_5.index t 1 = 0 ∧ win0_5.index t 2 = 0 :=
    (by decide +kernel : ∀ t : Fin grid0.N, win0_5.index t 0 = 0 ∧ win0_5.index t 1 = 0 ∧ win0_5.index t 2 = 0) t
  have e : ((cfg0.win 5).blk t).view.emb (ix3 0 0 k) = (ix3 0 0 k : S2x1x2048.Idx) := by
    funext d
    apply Fin.ext
    match d with
    | ⟨0, _⟩ => show win0_5.index t 0 * 1 + 1 * 0 = 0; rw [hi.1]
    | ⟨1, _⟩ => show win0_5.index t 1 * 1 + 1 * 0 = 0; rw [hi.2.1]
    | ⟨2, _⟩ => show win0_5.index t 2 * 2048 + 1 * k.val = k.val; rw [hi.2.2]; omega
  unfold iblk
  rw [View.read_apply, e]
  show V m c main_v4 _ = _
  rw [V_v4]
  pointwise

/-- The gate's block at a point that computes a chunk. -/
theorem iblk_2 (t : Fin cfg0.N) (ht : t.val % 12 < 11) (k : Fin 2048) (f : Fin 512) :
    (iblk m c 2 t : Vec Ideal S1x2048x512 .bf16) (ix3 0 k f)
      = (m ((c : Thread nD τ).loc main_arg2) : FVec Ideal S2x2048x11264 .f32) (ix3 0 k ⟨512 * (t.val % 12) + f.val, by omega⟩) := by
  have hi : win0_2.index t 0 = 0 ∧ win0_2.index t 1 = 0 ∧ win0_2.index t 2 = min (t.val % 12) 10 :=
    (by decide +kernel : ∀ t : Fin grid0.N, win0_2.index t 0 = 0 ∧ win0_2.index t 1 = 0 ∧ win0_2.index t 2 = min (t.val % 12) 10) t
  have e : ((cfg0.win 2).blk t).view.emb (ix3 0 k f) = (ix3 0 k ⟨512 * (t.val % 12) + f.val, by omega⟩ : S2x2048x11264.Idx) := by
    funext d
    apply Fin.ext
    match d with
    | ⟨0, _⟩ => show win0_2.index t 0 * 1 + 1 * 0 = 0; rw [hi.1]
    | ⟨1, _⟩ => show win0_2.index t 1 * 2048 + 1 * k.val = k.val; rw [hi.2.1]; omega
    | ⟨2, _⟩ => show win0_2.index t 2 * 512 + 1 * f.val = 512 * (t.val % 12) + f.val; rw [hi.2.2]; omega
  unfold iblk
  rw [View.read_apply, e]
  show V m c main_v2 _ = _
  rw [V_v2]
  rfl

/-- The up block at a point that computes a chunk. -/
theorem iblk_3 (t : Fin cfg0.N) (ht : t.val % 12 < 11) (k : Fin 2048) (f : Fin 512) :
    (iblk m c 3 t : Vec Ideal S1x2048x512 .bf16) (ix3 0 k f)
      = (m ((c : Thread nD τ).loc main_arg2) : FVec Ideal S2x2048x11264 .f32) (ix3 0 k ⟨5632 + (512 * (t.val % 12) + f.val), by omega⟩) := by
  have hi : win0_3.index t 0 = 0 ∧ win0_3.index t 1 = 0 ∧ win0_3.index t 2 = min (t.val % 12) 10 + 11 :=
    (by decide +kernel : ∀ t : Fin grid0.N, win0_3.index t 0 = 0 ∧ win0_3.index t 1 = 0 ∧ win0_3.index t 2 = min (t.val % 12) 10 + 11) t
  have e : ((cfg0.win 3).blk t).view.emb (ix3 0 k f) = (ix3 0 k ⟨5632 + (512 * (t.val % 12) + f.val), by omega⟩ : S2x2048x11264.Idx) := by
    funext d
    apply Fin.ext
    match d with
    | ⟨0, _⟩ => show win0_3.index t 0 * 1 + 1 * 0 = 0; rw [hi.1]
    | ⟨1, _⟩ => show win0_3.index t 1 * 2048 + 1 * k.val = k.val; rw [hi.2.1]; omega
    | ⟨2, _⟩ => show win0_3.index t 2 * 512 + 1 * f.val = 5632 + (512 * (t.val % 12) + f.val); rw [hi.2.2]; omega
  unfold iblk
  rw [View.read_apply, e]
  show V m c main_v2 _ = _
  rw [V_v2]
  rfl

/-- The down block at a point that adds a chunk: the rows of the chunk before. -/
theorem iblk_4 (t : Fin cfg0.N) (ht : t.val % 12 ≠ 0) (f : Fin 512) (n : Fin 2048) :
    (iblk m c 4 t : Vec Ideal S1x512x2048 .bf16) (ix3 0 f n)
      = (m ((c : Thread nD τ).loc main_arg3) : FVec Ideal S2x5632x2048 .f32) (ix3 0 ⟨512 * (t.val % 12 - 1) + f.val, by omega⟩ n) := by
  have hi : win0_4.index t 0 = 0 ∧ win0_4.index t 1 = t.val % 12 - 1 ∧ win0_4.index t 2 = 0 :=
    (by decide +kernel : ∀ t : Fin grid0.N, win0_4.index t 0 = 0 ∧ win0_4.index t 1 = t.val % 12 - 1 ∧ win0_4.index t 2 = 0) t
  have e : ((cfg0.win 4).blk t).view.emb (ix3 0 f n) = (ix3 0 ⟨512 * (t.val % 12 - 1) + f.val, by omega⟩ n : S2x5632x2048.Idx) := by
    funext d
    apply Fin.ext
    match d with
    | ⟨0, _⟩ => show win0_4.index t 0 * 1 + 1 * 0 = 0; rw [hi.1]
    | ⟨1, _⟩ => show win0_4.index t 1 * 512 + 1 * f.val = 512 * (t.val % 12 - 1) + f.val; rw [hi.2.1]; omega
    | ⟨2, _⟩ => show win0_4.index t 2 * 2048 + 1 * n.val = n.val; rw [hi.2.2]; omega
  unfold iblk
  rw [View.read_apply, e]
  show V m c main_v3 _ = _
  rw [V_v3]
  rfl

/-! The chunks and the accumulator. -/

/-- The normed rows a point reads, at an index. -/
theorem rows_apply (t : Fin cfg0.N) (r : Fin 1024) (k : Fin 2048) :
    rows m c t.val t.isLt (ix2 r k)
      = normedRow (m ((c : Thread nD τ).loc main_arg0)) (m ((c : Thread nD τ).loc main_arg1)) (rowOf t r) k := by
  have e : rowOf (rowPt t.val t.isLt) r = rowOf t r := Fin.ext (by
    show 1024 * (12 * (t.val / 12) / 12) + r.val = 1024 * (t.val / 12) + r.val
    omega)
  unfold rows normedRow
  rw [normed_apply]
  simp only [iblk_0, iblk_1, e]

/-- The chunk a point computes, at an index. -/
theorem chunk_apply (t : Fin cfg0.N) (ht : t.val % 12 < 11) (r : Fin 1024) (f : Fin 512) :
    chunk m c t.val t.isLt (ix3 0 r f)
      = actOf (m ((c : Thread nD τ).loc main_arg0)) (m ((c : Thread nD τ).loc main_arg1)) (m ((c : Thread nD τ).loc main_arg2)) (rowOf t r)
          ⟨512 * (t.val % 12) + f.val, by omega⟩ := by
  unfold chunk actOf
  by_cases h : f.val < 256
  · rw [halves_lo _ _ r f h, lo_apply]
    simp only [rows_apply, colLo_apply, iblk_2 m c t ht, iblk_3 m c t ht]
  · have e : 256 + (f.val - 256) = f.val := by omega
    rw [halves_hi _ _ r f h, hi_apply]
    simp only [rows_apply, colHi_apply, iblk_2 m c t ht, iblk_3 m c t ht, e]

/-- What a point adds to the accumulator: the summands of the chunk before. -/
theorem added (t : Fin cfg0.N) (ht : t.val % 12 ≠ 0) (o : Vec Ideal S1024x2048 .f32) (r : Fin 1024) (n : Fin 2048)
    (ho : o (ix2 r n) = ∑ f ∈ Finset.range (512 * (t.val % 12 - 1)), term (m ((c : Thread nD τ).loc main_arg0)) (m ((c : Thread nD τ).loc main_arg1))
      (m ((c : Thread nD τ).loc main_arg2)) (m ((c : Thread nD τ).loc main_arg3)) (rowOf t r) n f) :
    k0_pay1 (F := Ideal) o (chunk m c (t.val - 1) (Nat.lt_of_le_of_lt (Nat.sub_le _ _) t.isLt)) (iblk m c 4 t) (ix2 r n)
      = ∑ f ∈ Finset.range (512 * (t.val % 12)), term (m ((c : Thread nD τ).loc main_arg0)) (m ((c : Thread nD τ).loc main_arg1))
          (m ((c : Thread nD τ).loc main_arg2)) (m ((c : Thread nD τ).loc main_arg3)) (rowOf t r) n f := by
  have hs : 512 * (t.val % 12) = 512 * (t.val % 12 - 1) + 512 := by omega
  rw [down_apply, ho, hs, Finset.sum_range_add]
  congr 1
  rw [Finset.sum_range]
  refine Finset.sum_congr rfl fun f _ => ?_
  have hm : (t.val - 1) % 12 = t.val % 12 - 1 := by omega
  have hl : (t.val - 1) % 12 < 11 := by omega
  have e : rowOf ⟨t.val - 1, Nat.lt_of_le_of_lt (Nat.sub_le _ _) t.isLt⟩ r = rowOf t r := Fin.ext (by
    show 1024 * ((t.val - 1) / 12) + r.val = 1024 * (t.val / 12) + r.val
    omega)
  have hc := chunk_apply m c ⟨t.val - 1, Nat.lt_of_le_of_lt (Nat.sub_le _ _) t.isLt⟩ hl r f
  have hf : 512 * (t.val % 12 - 1) + f.val < 5632 := by omega
  rw [iblk_4 m c t ht]
  unfold term
  rw [dif_pos hf]
  refine congrArg (· * _) (hc.trans ?_)
  rw [e]
  simp only [hm]

/-- The accumulator before the last point of a row block. -/
theorem acc_apply : ∀ (n : ℕ) (h : n < cfg0.N), n % 12 ≠ 11 → ∀ (r : Fin 1024) (k : Fin 2048),
    acc m c n h (ix2 r k)
      = ∑ f ∈ Finset.range (512 * (n % 12)), term (m ((c : Thread nD τ).loc main_arg0)) (m ((c : Thread nD τ).loc main_arg1))
          (m ((c : Thread nD τ).loc main_arg2)) (m ((c : Thread nD τ).loc main_arg3)) (rowOf ⟨n, h⟩ r) k f := by
  intro n
  induction n with
  | zero =>
    intro h _ r k
    exact zero_apply r k
  | succ n ih =>
    intro h hn r k
    by_cases h0 : (n + 1) % 12 = 0
    · rw [acc_first m c ⟨n + 1, h⟩ h0, h0]
      exact zero_apply r k
    · rw [acc_mid m c ⟨n + 1, h⟩ h0 hn]
      have hm : n % 12 = (n + 1) % 12 - 1 := by omega
      have e : rowOf ⟨n, Nat.lt_of_succ_lt h⟩ r = rowOf ⟨n + 1, h⟩ r := Fin.ext (by
        show 1024 * (n / 12) + r.val = 1024 * ((n + 1) / 12) + r.val
        omega)
      have ho := ih (Nat.lt_of_succ_lt h) (by omega) r k
      rw [e, hm] at ho
      exact added m c ⟨n + 1, h⟩ h0 _ r k ho

/-- The output block at the point that writes it back, at an index. -/
theorem out_apply (t : Fin cfg0.N) (ht : t.val % 12 = 11) (r : Fin 1024) (n : Fin 2048) :
    acc m c t.val t.isLt (ix2 r n)
      = result (m ((c : Thread nD τ).loc main_arg0)) (m ((c : Thread nD τ).loc main_arg1)) (m ((c : Thread nD τ).loc main_arg2))
          (m ((c : Thread nD τ).loc main_arg3)) (m ((c : Thread nD τ).loc main_arg4)) (rowOf t r) n := by
  have e : rowOf ⟨t.val - 1, Nat.lt_of_le_of_lt (Nat.sub_le _ _) t.isLt⟩ r = rowOf t r := Fin.ext (by
    show 1024 * ((t.val - 1) / 12) + r.val = 1024 * (t.val / 12) + r.val
    omega)
  have hm : (t.val - 1) % 12 = t.val % 12 - 1 := by omega
  have hd : ∀ k : Fin 2048, k0_pay1 (F := Ideal) (acc m c (t.val - 1) (Nat.lt_of_le_of_lt (Nat.sub_le _ _) t.isLt))
      (chunk m c (t.val - 1) (Nat.lt_of_le_of_lt (Nat.sub_le _ _) t.isLt)) (iblk m c 4 t) (ix2 r k)
      = downed (m ((c : Thread nD τ).loc main_arg0)) (m ((c : Thread nD τ).loc main_arg1)) (m ((c : Thread nD τ).loc main_arg2))
          (m ((c : Thread nD τ).loc main_arg3)) (rowOf t r) k := fun k => by
    have ho := acc_apply m c (t.val - 1) (Nat.lt_of_le_of_lt (Nat.sub_le _ _) t.isLt) (by omega) r k
    rw [e, hm] at ho
    rw [added m c t (by omega) _ r k ho, ht, downed_eq]
  rw [acc_last m c t ht, last_apply]
  unfold result
  simp only [hd, iblk_0, iblk_5]

/-- The result array as one function of the arguments. -/
def G : Buf (Elt Ideal) ((c : Thread nD τ).loc main_v5) := fun i : S16384x2048.Idx =>
  result (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem out_at (t : Fin cfg0.N) : win0_6.index t 0 = t.val / 12 ∧ win0_6.index t 1 = 0 :=
  (by decide +kernel : ∀ t : Fin grid0.N, win0_6.index t 0 = t.val / 12 ∧ win0_6.index t 1 = 0) t

/-- What a point writes back is its block of `G`. -/
theorem flushed_eq (t : Fin cfg0.N) (hf : (cfg0.win 6).flush t = true) :
    (dats m 0 c).flushed 6 t = ((cfg0.win 6).blk t).view.read (Elt Ideal) (G m c) := by
  show (cfg0.win 6).cut (grid0.coords t) ((dats m 0 c).after 6 t) = _
  rw [after0_6]
  funext j
  obtain ⟨r, k, rfl⟩ : ∃ (r : Fin 1024) (k : Fin 2048), j = (ix2 r k : S1024x2048.Idx) :=
    ⟨j 0, j 1, funext fun a => by fin_cases a <;> rfl⟩
  rw [View.read_apply]
  have e : ((cfg0.win 6).blk t).view.emb (ix2 r k) = (ix2 (rowOf t r) k : S16384x2048.Idx) := by
    funext a
    apply Fin.ext
    match a with
    | ⟨0, _⟩ => show win0_6.index t 0 * 1024 + 1 * r.val = 1024 * (t.val / 12) + r.val; rw [(out_at t).1]; omega
    | ⟨1, _⟩ => show win0_6.index t 1 * 2048 + 1 * k.val = k.val; rw [(out_at t).2]; omega
  rw [e]
  exact out_apply m c t ((flush0_6 t).mp hf) r k

/-- The result array after the run. -/
theorem final : (dats m 0 c).arrAt 6 cfg0.N = G m c :=
  (dats m 0 c).arrAt_eq_of_cover 6 (G m c) (flushed_eq m c) fun i => by
    have h0 : (i 0 : Nat) < 16384 := (i 0).isLt
    have h1 : (i 1 : Nat) < 2048 := (i 1).isLt
    obtain ⟨t, ht⟩ : ∃ t : Fin cfg0.N, t.val = 12 * ((i 0 : Nat) / 1024) + 11 :=
      ⟨⟨12 * ((i 0 : Nat) / 1024) + 11, show _ < 192 by omega⟩, rfl⟩
    refine ⟨t, (flush0_6 t).mpr (by omega), ?_⟩
    show i ∈ ((View.whole main_v5).slice (win0_6.rect t)).set
    rw [View.set_slice_whole, Rect.mem_set_unit]
    intro a
    match a with
    | ⟨0, _⟩ =>
      show win0_6.index t 0 * 1024 ≤ (i 0 : Nat) ∧ (i 0 : Nat) < win0_6.index t 0 * 1024 + 1024
      rw [(out_at t).1]; omega
    | ⟨1, _⟩ =>
      show win0_6.index t 1 * 2048 ≤ (i 1 : Nat) ∧ (i 1 : Nat) < win0_6.index t 1 * 2048 + 2048
      rw [(out_at t).2]; omega

end Cert.FfnIdeal.Block
-- ==== Proof.Ffn.Ref.lean ====
module

public import proofs.«01_k».proof.Proof.Gen.FfnRefIdeal.Run
public import proofs.«01_k».proof.Proof.Gen.FfnRefIdeal.Read
public import Idealize.ShloMosaic.Lib.Pointwise
public import proofs.«01_k».proof.Proof.Ffn.Block

@[expose] public section

noncomputable section

namespace Cert.FfnRefIdeal.Block

open Idealize.ShloMosaic Idealize.SL.Sem Cert.FfnRefIdeal Cert.FfnRefIdeal.Value Cert.FfnRefIdeal.Read Cert.Proof.Ffn Cert.Proof.Rows
open Idealize.ShloMosaic.TcCoe

variable (x0 : (⟨S4x4096x2048, .f32⟩ : BufTy).Contents (Elt Ideal)) (x1 : (⟨S2x2048, .f32⟩ : BufTy).Contents (Elt Ideal))
  (x2 : (⟨S2x2048x11264, .f32⟩ : BufTy).Contents (Elt Ideal)) (x3 : (⟨S2x5632x2048, .f32⟩ : BufTy).Contents (Elt Ideal))
  (x4 : (⟨S2x2048, .f32⟩ : BufTy).Contents (Elt Ideal))

/-- The reference's normed row. -/
theorem normedRow_apply (R : Fin 16384) (k : Fin 2048) :
    val_main_v14 (F := Ideal) x0 x1 (ix3 (seqOf R) (posOf R) k) = normedRow x0 x1 R k := by
  unfold normedRow normed
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference's joint gate and up product. -/
theorem joint_apply (R : Fin 16384) (f : Fin 11264) :
    val_main_v19 (F := Ideal) x0 x1 x2 (ix3 (seqOf R) (posOf R) f) = ∑ k : Fin 2048, normedRow x0 x1 R k * x2 (ix3 0 k f) := by
  have h : val_main_v19 (F := Ideal) x0 x1 x2 (ix3 (seqOf R) (posOf R) f)
      = ∑ k : Fin 2048, val_main_v14 (F := Ideal) x0 x1 (ix3 (seqOf R) (posOf R) k) * x2 (ix3 0 k f) := by
    pointwise [val_main_v19, val_main_v16, val_main_v15]
  rw [h]
  simp only [normedRow_apply]

/-- The reference's activation. -/
theorem act_apply (R : Fin 16384) (f : Fin 5632) :
    val_main_v23 (F := Ideal) x0 x1 x2 (ix3 (seqOf R) (posOf R) f) = actOf x0 x1 x2 R f := by
  have h : val_main_v23 (F := Ideal) x0 x1 x2 (ix3 (seqOf R) (posOf R) f)
      = val_main_v19 (F := Ideal) x0 x1 x2 (ix3 (seqOf R) (posOf R) ⟨f.val, by omega⟩)
        * Ideal.logistic (val_main_v19 (F := Ideal) x0 x1 x2 (ix3 (seqOf R) (posOf R) ⟨f.val, by omega⟩))
        * val_main_v19 (F := Ideal) x0 x1 x2 (ix3 (seqOf R) (posOf R) ⟨5632 + f.val, by omega⟩) := by
    unfold Ideal.logistic
    pointwise [val_main_v23, val_main_v22, val_main_v21, val_main_v20, val_main_call0_v5, val_main_call0_v4, val_main_call0_v3, val_main_call0_v2, val_main_call0_v1, val_main_call0_v0, val_main_call0_cst, val_main_call0_cst_0]
  rw [h]
  simp only [joint_apply]
  rfl

/-- The reference's down-projected row. -/
theorem downed_apply (R : Fin 16384) (n : Fin 2048) :
    val_main_v24 (F := Ideal) x0 x1 x2 x3 (ix3 (seqOf R) (posOf R) n) = downed x0 x1 x2 x3 R n := by
  have h : val_main_v24 (F := Ideal) x0 x1 x2 x3 (ix3 (seqOf R) (posOf R) n)
      = ∑ f : Fin 5632, val_main_v23 (F := Ideal) x0 x1 x2 (ix3 (seqOf R) (posOf R) f) * x3 (ix3 0 f n) := by
    pointwise [val_main_v24, val_main_v18, val_main_v17]
  rw [h]
  simp only [act_apply]
  rfl

/-- The reference's result at an index. -/
theorem out_apply (R : Fin 16384) (n : Fin 2048) :
    val_main_v43 (F := Ideal) x0 x1 x2 x3 x4 (ix2 R n) = result x0 x1 x2 x3 x4 R n := by
  have h : val_main_v42 (F := Ideal) x0 x1 x2 x3 x4 (ix3 (seqOf R) (posOf R) n)
      = x0 (ix3 (seqOf R) (posOf R) n) + Ideal.ofBits .f32 0x3F000000#32
        * normed (fun k => val_main_v24 (F := Ideal) x0 x1 x2 x3 (ix3 (seqOf R) (posOf R) k)) (fun k => x4 (ix2 0 k)) n := by
    unfold normed
    pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_2, val_main_cst_3, val_main_cst_4, val_main_cst_5]
  unfold val_main_v43
  rw [flat_apply, h]
  simp only [downed_apply]
  rfl

end Cert.FfnRefIdeal.Block
-- ==== Proof.Ffn.Value.lean ====
module

public import proofs.«01_k».proof.Defs
public import proofs.«01_k».proof.Proof.Ffn.Block
public import proofs.«01_k».proof.Proof.Ffn.Ref

@[expose] public section

noncomputable section

namespace Cert.Proof.Ffn

open Idealize.ShloMosaic Idealize.SL.Sem Cert.Proof.Rows Idealize.ShloMosaic.TcCoe

/-- The kernel's run, read: the result array and the arguments. -/
theorem kernel_run (m : (ℓ : Loc Cert.FfnIdeal.nD Cert.FfnIdeal.τ Cert.FfnIdeal.sig) → Buf (Elt Ideal) ℓ) (ρ : Dev Cert.FfnIdeal.nD → PrngReg) :
    θ_run Cert.FfnIdeal.defs (onTc (τ := Cert.FfnIdeal.τ) (Cert.FfnIdeal.main (F := Ideal))) ⟨m, fun _ => 0, ρ⟩ (fun r => ∀ c : Dev Cert.FfnIdeal.nD,
      r.2.mem ((c.tc : Thread Cert.FfnIdeal.nD Cert.FfnIdeal.τ).loc Cert.FfnIdeal.main_v5) = Cert.FfnIdeal.Block.G m c
      ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)) :=
  (θ_run _ _ _).mono (fun r h c => ⟨((h.1 c).1 6).trans (Cert.FfnIdeal.Block.final m c), h.2 c⟩)
    (θ_run_and (run_main (F := Ideal) m ρ) (Cert.FfnIdeal.Gen.frame_of m ρ (dats m) (A_eq m) (run_main m ρ)))

/-- The reference's result array is the same function of the same arguments. -/
theorem ref_eq (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) :
    Cert.FfnRefIdeal.Read.val_main_v43 (F := Ideal) (m' ((c.tc : Thread Cert.FfnRefIdeal.nD Cert.FfnRefIdeal.τ).loc Cert.FfnRefIdeal.main_arg0))
      (m' ((c.tc : Thread Cert.FfnRefIdeal.nD Cert.FfnRefIdeal.τ).loc Cert.FfnRefIdeal.main_arg1))
      (m' ((c.tc : Thread Cert.FfnRefIdeal.nD Cert.FfnRefIdeal.τ).loc Cert.FfnRefIdeal.main_arg2))
      (m' ((c.tc : Thread Cert.FfnRefIdeal.nD Cert.FfnRefIdeal.τ).loc Cert.FfnRefIdeal.main_arg3))
      (m' ((c.tc : Thread Cert.FfnRefIdeal.nD Cert.FfnRefIdeal.τ).loc Cert.FfnRefIdeal.main_arg4)) = Cert.FfnIdeal.Block.G m c := by
  rw [h0, h1, h2, h3, h4]
  funext j
  obtain ⟨R, k, rfl⟩ : ∃ (R : Fin 16384) (k : Fin 2048), j = (ix2 R k : Cert.FfnRefIdeal.S16384x2048.Idx) :=
    ⟨j 0, j 1, funext fun a => by fin_cases a <;> rfl⟩
  exact Cert.FfnRefIdeal.Block.out_apply _ _ _ _ _ R k

theorem algebraic : Cert.algebraic_FfnIdeal_FfnRefIdeal (hFfnIdeal := Cert.FfnIdeal.Gen.facts) (hFfnRefIdeal := Cert.FfnRefIdeal.Gen.facts) :=
  fun m g m' g' _ hagree => ⟨fun c => Cert.FfnIdeal.Block.G m c,
    kernel_run m g,
    (θ_run _ _ _).mono (fun _ h c => ⟨(h c).1.trans ((Cert.FfnRefIdeal.Read.val_main_v43_eq _ _).trans
        (ref_eq m m' c (hagree c).1 (hagree c).2.1 (hagree c).2.2.1 (hagree c).2.2.2.1 (hagree c).2.2.2.2)), (h c).2⟩)
      (Cert.FfnRefIdeal.Value.run (F := Ideal) m' g')⟩

end Cert.Proof.Ffn
-- ==== Proof.Ffn.Words.lean ====
/- The feed-forward kernel over the machine's words: its program has the ideal kernel's text, so the run of that program over any
   element values is its run too. -/
module

public import proofs.«01_k».proof.Defs
public import proofs.«01_k».proof.Proof.Gen.Ffn
public import proofs.«01_k».proof.Proof.Ffn.Frame

@[expose] public section

noncomputable section

namespace Cert.Proof.Ffn

open Idealize.ShloMosaic Idealize.SL.Sem

variable {F : FTy → Type} [FloatOps F]

/-- The two programs' kernel bodies are the same. -/
theorem bodies_eq : Cert.Ffn.defs₀ (F := F) = Cert.FfnIdeal.defs₀ := by
  unfold Cert.Ffn.defs₀ Cert.FfnIdeal.defs₀
  refine congrArg (Defs.onTc (nD := Cert.Ffn.nD) (τ := Cert.Ffn.τ) (sig := Cert.Ffn.sig) (Λ := Cert.Ffn.Λ₀) (Val := Elt F)) ?_
  funext l a
  match l, a with
  | ⟨0, _⟩, (t, s) => rfl

/-- The two programs' procedures are the same. -/
theorem procedures_eq : Cert.Ffn.defs (F := F) = Cert.FfnIdeal.defs := by
  unfold Cert.Ffn.defs Cert.FfnIdeal.defs
  rw [bodies_eq]
  rfl

/-- The frame of the kernel over the machine's words. -/
theorem frame_words : Cert.quiescent_Ffn (hFfn := Cert.Ffn.Gen.facts) := fun m ρ _ => by
  rw [procedures_eq]
  exact frame (F := Bits) m ρ

end Cert.Proof.Ffn
-- ==== Proof.Inproj.Block.lean ====
module

public import proofs.«01_k».proof.Proof.Gen.InprojIdeal.Value
public import Idealize.ShloMosaic.Lib.Pointwise
public import proofs.«01_k».proof.Proof.Rows

@[expose] public section

noncomputable section

namespace Cert.Proof.Inproj

open Idealize.ShloMosaic Idealize.SL.Sem Cert.Proof.Rows

/-- One entry of the projected row: the normed row against a column of the weight. -/
def result (x : FVec Ideal ⟨3, ![4, 4096, 2048]⟩ .f32) (g : FVec Ideal ⟨2, ![2, 2048]⟩ .f32)
    (w : FVec Ideal ⟨3, ![2, 2048, 10240]⟩ .f32) (R : Fin 16384) (n : Fin 10240) : EReal :=
  ∑ k : Fin 2048, normed (fun k => x (ix3 (seqOf R) (posOf R) k)) (fun k => g (ix2 0 k)) k * w (ix3 0 k n)

end Cert.Proof.Inproj

namespace Cert.InprojIdeal.Block

open Idealize.ShloMosaic Idealize.ShloMosaic.Tactic Idealize.SL.Sem Cert.InprojIdeal Cert.Proof.Inproj Cert.Proof.Rows
open Cert.InprojIdeal.Gen Idealize.ShloMosaic.TcCoe
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

/-! What each kind of point leaves, in terms of the blocks it reads. -/

theorem out_A (c : Dev nD) (i : grid0.Coords) (a2 : Memref sig .tc .vmem S1024x2048 .f32) (h2 : a2.IsWhole) (a3 : Memref sig .tc .vmem S1x1x2048 .f32) (h3 : a3.IsWhole)
    (a4 : Memref sig .tc .vmem S1x2048x2048 .bf16) (h4 : a4.IsWhole) (a5 : Memref sig .tc .vmem S1024x2048 .bf16) (h5 : a5.IsWhole)
    (a6 : Memref sig .tc .vmem S1024x2048 .bf16) (h6 : a6.IsWhole) (hc : cond0_0 i)
    (x0 : Vec Ideal S1024x2048 .f32) (x1 : Vec Ideal S1x1x2048 .f32) (x2 : Vec Ideal S1x2048x2048 .bf16) :
    out0_A_3 (F := Ideal) c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1024x2048) hz2]
  simp only [View.readCov_unit_zero (S := S1024x2048) _ hz2, View.readAt_eq_ld, h2.read_unread, h3.read_unread, h4.read_unread,
    View.ld_unit_zero (S := S1024x2048) hz2, View.ld_unit_zero (S := S1x1x2048) hz3, View.ld_unit_zero (S := S1x2048x2048) hz3]

theorem sout_A (c : Dev nD) (i : grid0.Coords) (a2 : Memref sig .tc .vmem S1024x2048 .f32) (h2 : a2.IsWhole) (a3 : Memref sig .tc .vmem S1x1x2048 .f32) (h3 : a3.IsWhole)
    (a4 : Memref sig .tc .vmem S1x2048x2048 .bf16) (h4 : a4.IsWhole) (a5 : Memref sig .tc .vmem S1024x2048 .bf16) (h5 : a5.IsWhole)
    (a6 : Memref sig .tc .vmem S1024x2048 .bf16) (h6 : a6.IsWhole) (hc : cond0_0 i)
    (x0 : Vec Ideal S1024x2048 .f32) (x1 : Vec Ideal S1x1x2048 .f32) (x2 : Vec Ideal S1x2048x2048 .bf16) :
    sout0_A_0 (F := Ideal) c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_cons_unit_zero (S := S1024x2048) hz2]
  simp only [View.readCov_unit_zero (S := S1024x2048) _ hz2, View.readAt_eq_ld, h2.read_unread, h3.read_unread, h4.read_unread,
    View.ld_unit_zero (S := S1024x2048) hz2, View.ld_unit_zero (S := S1x1x2048) hz3, View.ld_unit_zero (S := S1x2048x2048) hz3]

theorem out_B (c : Dev nD) (i : grid0.Coords) (a2 : Memref sig .tc .vmem S1024x2048 .f32) (h2 : a2.IsWhole) (a3 : Memref sig .tc .vmem S1x1x2048 .f32) (h3 : a3.IsWhole)
    (a4 : Memref sig .tc .vmem S1x2048x2048 .bf16) (h4 : a4.IsWhole) (a5 : Memref sig .tc .vmem S1024x2048 .bf16) (h5 : a5.IsWhole)
    (a6 : Memref sig .tc .vmem S1024x2048 .bf16) (h6 : a6.IsWhole) (hc : ¬cond0_0 i)
    (x0 : Vec Ideal S1024x2048 .f32) (x1 : Vec Ideal S1x1x2048 .f32) (x2 : Vec Ideal S1x2048x2048 .bf16) (xs : Vec Ideal S1024x2048 .bf16) :
    out0_B_3 (F := Ideal) c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_cons_unit_zero (S := S1024x2048) hz2]
  simp only [View.readAt_eq_ld, h2.read_unread, h3.read_unread, h4.read_unread, h6.read_unread,
    View.ld_unit_zero (S := S1024x2048) hz2, View.ld_unit_zero (S := S1x1x2048) hz3, View.ld_unit_zero (S := S1x2048x2048) hz3]

/-! The payloads at an index. -/

theorem normed_apply (x0 : Vec Ideal S1024x2048 .f32) (x1 : Vec Ideal S1x1x2048 .f32) (r : Fin 1024) (k : Fin 2048) :
    k0_pay1 (F := Ideal) x0 x1 (ix2 r k) = normed (fun k => x0 (ix2 r k)) (fun k => x1 (ix3 0 0 k)) k := by
  unfold_payloads
  unfold normed
  pointwise

theorem projected_apply (xs : Vec Ideal S1024x2048 .bf16) (x2 : Vec Ideal S1x2048x2048 .bf16) (r : Fin 1024) (n : Fin 2048) :
    k0_pay2 (F := Ideal) xs x2 (ix2 r n) = ∑ k : Fin 2048, xs (ix2 r k) * x2 (ix3 0 k n) := by
  unfold_payloads
  pointwise

variable (m : (ℓ : Loc nD τ sig) → Buf (Elt Ideal) ℓ) (c : Dev nD)

/-! The arrays the windows stage, in terms of the arguments as launched. -/

theorem V_v0 : V m c main_v0 = shapeCast S16384x2048 (m ((c : Thread nD τ).loc main_arg0)) shapeCasts_S4x4096x2048_S16384x2048 := by
  unfold V hostOps0; after_results_simp <;> rfl
theorem V_v1 : V m c main_v1 = broadcastInDim S2x1x2048 ![0, 2] bcast_S2x2048_S2x1x2048_0_2 (m ((c : Thread nD τ).loc main_arg1)) := by
  unfold V hostOps0; after_results_simp <;> rfl
theorem V_v2 : V m c main_v2 = (truncf .bf16 (m ((c : Thread nD τ).loc main_arg2) : FVec Ideal S2x2048x10240 .f32) bitsLt_bf16_f32 : FVec Ideal S2x2048x10240 .bf16) := by
  unfold V hostOps0; after_results_simp <;> rfl

/-! The blocks at a grid point, at an index. Point `t` is row block `t / 5` and column block `t % 5`. -/

/-- The flat row of the array that row `r` of point `t`'s block is. -/
def rowOf (t : Fin cfg0.N) (r : Fin 1024) : Fin 16384 := ⟨1024 * (t.val / 5) + r.val, by have h : t.val < 80 := t.isLt; omega⟩
/-- The column of the array that column `n` of point `t`'s block is. -/
def colOf (t : Fin cfg0.N) (n : Fin 2048) : Fin 10240 := ⟨2048 * (t.val % 5) + n.val, by omega⟩

theorem iblk_0 (t : Fin cfg0.N) (r : Fin 1024) (k : Fin 2048) :
    (iblk m c 0 t : Vec Ideal S1024x2048 .f32) (ix2 r k) = (m ((c : Thread nD τ).loc main_arg0) : FVec Ideal S4x4096x2048 .f32) (ix3 (seqOf (rowOf t r)) (posOf (rowOf t r)) k) := by
  have hi : win0_0.index t 0 = t.val / 5 ∧ win0_0.index t 1 = 0 :=
    (by decide +kernel : ∀ t : Fin grid0.N, win0_0.index t 0 = t.val / 5 ∧ win0_0.index t 1 = 0) t
  have e : ((cfg0.win 0).blk t).view.emb (ix2 r k) = (ix2 (rowOf t r) k : S16384x2048.Idx) := by
    funext a
    apply Fin.ext
    match a with
    | ⟨0, _⟩ => show win0_0.index t 0 * 1024 + 1 * r.val = 1024 * (t.val / 5) + r.val; rw [hi.1]; omega
    | ⟨1, _⟩ => show win0_0.index t 1 * 2048 + 1 * k.val = k.val; rw [hi.2]; omega
  unfold iblk
  rw [View.read_apply, e]
  show V m c main_v0 _ = _
  rw [V_v0, flat_apply]

theorem iblk_1 (t : Fin cfg0.N) (k : Fin 2048) :
    (iblk m c 1 t : Vec Ideal S1x1x2048 .f32) (ix3 0 0 k) = (m ((c : Thread nD τ).loc main_arg1) : FVec Ideal S2x2048 .f32) (ix2 0 k) := by
  have hi : win0_1.index t 0 = 0 ∧ win0_1.index t 1 = 0 ∧ win0_1.index t 2 = 0 :=
    (by decide +kernel : ∀ t : Fin grid0.N, win0_1.index t 0 = 0 ∧ win0_1.index t 1 = 0 ∧ win0_1.index t 2 = 0) t
  have e : ((cfg0.win 1).blk t).view.emb (ix3 0 0 k) = (ix3 0 0 k : S2x1x2048.Idx) := by
    funext d
    apply Fin.ext
    match d with
    | ⟨0, _⟩ => show win0_1.index t 0 * 1 + 1 * 0 = 0; rw [hi.1]
    | ⟨1, _⟩ => show win0_1.index t 1 * 1 + 1 * 0 = 0; rw [hi.2.1]
    | ⟨2, _⟩ => show win0_1.index t 2 * 2048 + 1 * k.val = k.val; rw [hi.2.2]; omega
  unfold iblk
  rw [View.read_apply, e]
  show V m c main_v1 _ = _
  rw [V_v1]
  pointwise

theorem iblk_2 (t : Fin cfg0.N) (k : Fin 2048) (n : Fin 2048) :
    (iblk m c 2 t : Vec Ideal S1x2048x2048 .bf16) (ix3 0 k n) = (m ((c : Thread nD τ).loc main_arg2) : FVec Ideal S2x2048x10240 .f32) (ix3 0 k (colOf t n)) := by
  have hi : win0_2.index t 0 = 0 ∧ win0_2.index t 1 = 0 ∧ win0_2.index t 2 = t.val % 5 :=
    (by decide +kernel : ∀ t : Fin grid0.N, win0_2.index t 0 = 0 ∧ win0_2.index t 1 = 0 ∧ win0_2.index t 2 = t.val % 5) t
  have e : ((cfg0.win 2).blk t).view.emb (ix3 0 k n) = (ix3 0 k (colOf t n) : S2x2048x10240.Idx) := by
    funext d
    apply Fin.ext
    match d with
    | ⟨0, _⟩ => show win0_2.index t 0 * 1 + 1 * 0 = 0; rw [hi.1]
    | ⟨1, _⟩ => show win0_2.index t 1 * 2048 + 1 * k.val = k.val; rw [hi.2.1]; omega
    | ⟨2, _⟩ => show win0_2.index t 2 * 2048 + 1 * n.val = 2048 * (t.val % 5) + n.val; rw [hi.2.2]; omega
  unfold iblk
  rw [View.read_apply, e]
  show V m c main_v2 _ = _
  rw [V_v2]
  rfl

/-- The carried scratch after every point: the normed rows of the point's row block, written at the row block's first point. -/
theorem carried : ∀ (n : ℕ) (h : n < cfg0.N) (r : Fin 1024) (k : Fin 2048),
    (outsAt0 (F := Ideal) m c n h).2 (ix2 r k)
      = normed (fun k => (m ((c : Thread nD τ).loc main_arg0) : FVec Ideal S4x4096x2048 .f32) (ix3 (seqOf (rowOf ⟨n, h⟩ r)) (posOf (rowOf ⟨n, h⟩ r)) k))
          (fun k => (m ((c : Thread nD τ).loc main_arg1) : FVec Ideal S2x2048 .f32) (ix2 0 k)) k := by
  intro n
  induction n with
  | zero =>
    intro h r k
    rw [outsAt0_A m c ⟨0, h⟩ rfl]
    dsimp only
    rw [sout_A, normed_apply]
    simp only [iblk_0, iblk_1]
  | succ n ih =>
    intro h r k
    by_cases h0 : (n + 1) % 5 = 0
    · rw [outsAt0_A m c ⟨n + 1, h⟩ h0]
      dsimp only
      rw [sout_A, normed_apply]
      simp only [iblk_0, iblk_1]
    · rw [outsAt0_B m c ⟨n + 1, h⟩ h0]
      dsimp only
      unfold sout0_B_0
      have e : rowOf ⟨n + 1, h⟩ r = rowOf ⟨n, Nat.lt_of_succ_lt h⟩ r := Fin.ext (by
        show 1024 * ((n + 1) / 5) + r.val = 1024 * (n / 5) + r.val
        have : (n + 1) / 5 = n / 5 := by omega
        rw [this])
      rw [e]
      exact ih (Nat.lt_of_succ_lt h) r k

/-- The output block after a point, at an index. -/
theorem out_apply (t : Fin cfg0.N) (r : Fin 1024) (n : Fin 2048) :
    (outsAt0 (F := Ideal) m c t.val t.isLt).1 (ix2 r n)
      = result (m ((c : Thread nD τ).loc main_arg0)) (m ((c : Thread nD τ).loc main_arg1)) (m ((c : Thread nD τ).loc main_arg2)) (rowOf t r) (colOf t n) := by
  have hc := carried m c t.val t.isLt
  by_cases h0 : t.val % 5 = 0
  · rw [outsAt0_A m c t h0] at hc ⊢
    dsimp only at hc ⊢
    rw [out_A, projected_apply]
    simp only [sout_A] at hc
    unfold result
    simp only [hc, iblk_2]
  · rw [outsAt0_B m c t h0] at hc ⊢
    dsimp only at hc ⊢
    rw [out_B, projected_apply]
    unfold sout0_B_0 at hc
    unfold result
    simp only [hc, iblk_2]

/-- The result array as one function of the arguments. -/
def G : Buf (Elt Ideal) ((c : Thread nD τ).loc main_v3) := fun i : S16384x10240.Idx =>
  result (m ((c : Thread nD τ).loc main_arg0)) (m ((c : Thread nD τ).loc main_arg1)) (m ((c : Thread nD τ).loc main_arg2)) (i 0) (i 1)

theorem out_at (t : Fin cfg0.N) : win0_3.index t 0 = t.val / 5 ∧ win0_3.index t 1 = t.val % 5 :=
  (by decide +kernel : ∀ t : Fin grid0.N, win0_3.index t 0 = t.val / 5 ∧ win0_3.index t 1 = t.val % 5) t

/-- What a point writes back is its block of `G`. -/
theorem flushed_eq (t : Fin cfg0.N) (_ : (cfg0.win 3).flush t = true) :
    (dats m 0 c).flushed 3 t = ((cfg0.win 3).blk t).view.read (Elt Ideal) (G m c) := by
  rw [Value.flushed3]
  funext j
  obtain ⟨r, k, rfl⟩ : ∃ (r : Fin 1024) (k : Fin 2048), j = (ix2 r k : S1024x2048.Idx) :=
    ⟨j 0, j 1, funext fun a => by fin_cases a <;> rfl⟩
  rw [View.read_apply]
  have e : ((cfg0.win 3).blk t).view.emb (ix2 r k) = (ix2 (rowOf t r) (colOf t k) : S16384x10240.Idx) := by
    funext a
    apply Fin.ext
    match a with
    | ⟨0, _⟩ => show win0_3.index t 0 * 1024 + 1 * r.val = 1024 * (t.val / 5) + r.val; rw [(out_at t).1]; omega
    | ⟨1, _⟩ => show win0_3.index t 1 * 2048 + 1 * k.val = 2048 * (t.val % 5) + k.val; rw [(out_at t).2]; omega
  rw [e]
  exact out_apply m c t r k

/-- The result array after the run. -/
theorem final : (dats m 0 c).arrAt 3 cfg0.N = G m c :=
  (dats m 0 c).arrAt_eq_of_cover 3 (G m c) (flushed_eq m c) fun i => by
    have h0 : (i 0 : Nat) < 16384 := (i 0).isLt
    have h1 : (i 1 : Nat) < 10240 := (i 1).isLt
    obtain ⟨t, ht⟩ : ∃ t : Fin cfg0.N, t.val = 5 * ((i 0 : Nat) / 1024) + (i 1 : Nat) / 2048 :=
      ⟨⟨5 * ((i 0 : Nat) / 1024) + (i 1 : Nat) / 2048, show _ < 80 by omega⟩, rfl⟩
    refine ⟨t, flush0_3 t, ?_⟩
    show i ∈ ((View.whole main_v3).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [(out_at t).1]; omega
    | ⟨1, _⟩ =>
      show win0_3.index t 1 * 2048 ≤ (i 1 : Nat) ∧ (i 1 : Nat) < win0_3.index t 1 * 2048 + 2048
      rw [(out_at t).2]; omega

end Cert.InprojIdeal.Block
-- ==== Proof.Inproj.Ref.lean ====
module

public import proofs.«01_k».proof.Proof.Gen.InprojRefIdeal.Run
public import proofs.«01_k».proof.Proof.Gen.InprojRefIdeal.Read
public import Idealize.ShloMosaic.Lib.Pointwise
public import proofs.«01_k».proof.Proof.Inproj.Block

@[expose] public section

noncomputable section

namespace Cert.InprojRefIdeal.Block

open Idealize.ShloMosaic Idealize.SL.Sem Cert.InprojRefIdeal Cert.InprojRefIdeal.Value Cert.InprojRefIdeal.Read Cert.Proof.Inproj Cert.Proof.Rows
open Idealize.ShloMosaic.TcCoe

/-- The reference's result at an index: the row's projected entry. -/
theorem out_apply (x0 : (⟨S4x4096x2048, .f32⟩ : BufTy).Contents (Elt Ideal)) (x1 : (⟨S2x2048, .f32⟩ : BufTy).Contents (Elt Ideal))
    (x2 : (⟨S2x2048x10240, .f32⟩ : BufTy).Contents (Elt Ideal)) (R : Fin 16384) (n : Fin 10240) :
    val_main_v19 (F := Ideal) x0 x1 x2 (ix2 R n) = result x0 x1 x2 R n := by
  unfold val_main_v19 result normed
  rw [flat_apply]
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

end Cert.InprojRefIdeal.Block
-- ==== Proof.Inproj.Value.lean ====
module

public import proofs.«01_k».proof.Defs
public import proofs.«01_k».proof.Proof.Inproj.Block
public import proofs.«01_k».proof.Proof.Inproj.Ref

@[expose] public section

noncomputable section

namespace Cert.Proof.Inproj

open Idealize.ShloMosaic Idealize.SL.Sem Cert.Proof.Rows Idealize.ShloMosaic.TcCoe

/-- The reference's result array is the same function of the same arguments. -/
theorem ref_eq (m : (ℓ : Loc Cert.InprojIdeal.nD Cert.InprojIdeal.τ Cert.InprojIdeal.sig) → Buf (Elt Ideal) ℓ)
    (m' : (ℓ : Loc Cert.InprojRefIdeal.nD Cert.InprojRefIdeal.τ Cert.InprojRefIdeal.sig) → Buf (Elt Ideal) ℓ) (c : Dev Cert.InprojIdeal.nD)
    (h0 : m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0))
    (h1 : m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1))
    (h2 : m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) :
    Cert.InprojRefIdeal.Read.val_main_v19 (F := Ideal) (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2)) = Cert.InprojIdeal.Block.G m c := by
  rw [h0, h1, h2]
  funext j
  obtain ⟨R, k, rfl⟩ : ∃ (R : Fin 16384) (k : Fin 10240), j = (ix2 R k : Cert.InprojRefIdeal.S16384x10240.Idx) :=
    ⟨j 0, j 1, funext fun a => by fin_cases a <;> rfl⟩
  exact Cert.InprojRefIdeal.Block.out_apply _ _ _ R k

theorem algebraic : Cert.algebraic_InprojIdeal_InprojRefIdeal (hInprojIdeal := Cert.InprojIdeal.Gen.facts) (hInprojRefIdeal := Cert.InprojRefIdeal.Gen.facts) :=
  fun m g m' g' _ hagree => ⟨fun c => Cert.InprojIdeal.Block.G m c,
    (θ_run _ _ _).mono (fun _ h c => ⟨(h c).1.trans (Cert.InprojIdeal.Block.final m c), (h c).2⟩) (Cert.InprojIdeal.Value.run_blocks (F := Ideal) m g),
    (θ_run _ _ _).mono (fun _ h c => ⟨(h c).1.trans ((Cert.InprojRefIdeal.Read.val_main_v19_eq _ _ _).trans (ref_eq m m' c (hagree c).1 (hagree c).2.1 (hagree c).2.2)), (h c).2⟩)
      (Cert.InprojRefIdeal.Value.run (F := Ideal) m' g')⟩

end Cert.Proof.Inproj
-- ==== Proof.Merge.Block.lean ====
module

public import proofs.«01_k».proof.Proof.Gen.MergeIdeal.Value
public import Idealize.ShloMosaic.Lib.Pointwise
public import proofs.«01_k».proof.Proof.Rows

@[expose] public section

noncomputable section

namespace Cert.Proof.Merge

open Idealize.ShloMosaic Idealize.SL.Sem Cert.Proof.Rows

/-- One entry of a row before its norm: the two projected mixer outputs, each under its gate, mixed by the output weight. -/
def mixed (ya yb : Fin 1024 → EReal) (ga gb : Fin 2048 → EReal) (wa wb : Fin 1024 → Fin 2048 → EReal)
    (wo : Fin 2048 → Fin 2048 → EReal) (n : Fin 2048) : EReal :=
  ∑ x, (Ideal.logistic (ga x) * (∑ k, ya k * wa k x) + Ideal.logistic (gb x) * (∑ k, yb k * wb k x)) * wo x n

/-- One entry of a row of the residual stream with the normed branch added. -/
def added (x y g : Fin 2048 → EReal) (n : Fin 2048) : EReal :=
  x n + y n * Ideal.rsqrt (Ideal.div (∑ j, y j * y j) (Ideal.ofBits .f32 0x45000000#32) + Ideal.ofBits .f32 0x358637BD#32) * g n

/-- A gate's column in the projected row: the first gate begins at 6144, the second at 8192. -/
def gateA (k : Fin 2048) : Fin 10240 := ⟨6144 + k.val, by omega⟩
def gateB (k : Fin 2048) : Fin 10240 := ⟨8192 + k.val, by omega⟩

/-- The merged residual stream, entry by entry, of the arguments as launched. -/
def result (ya yb : FVec Ideal ⟨3, ![4, 4096, 1024]⟩ .bf16) (p : FVec Ideal ⟨3, ![4, 4096, 10240]⟩ .bf16)
    (x : FVec Ideal ⟨3, ![4, 4096, 2048]⟩ .f32) (wa wb : FVec Ideal ⟨3, ![2, 1024, 2048]⟩ .f32)
    (wo : FVec Ideal ⟨3, ![2, 2048, 2048]⟩ .f32) (g : FVec Ideal ⟨2, ![2, 2048]⟩ .f32) (R : Fin 16384) (n : Fin 2048) : EReal :=
  added (fun k => x (ix3 (seqOf R) (posOf R) k))
    (mixed (fun k => ya (ix3 (seqOf R) (posOf R) k)) (fun k => yb (ix3 (seqOf R) (posOf R) k))
      (fun k => p (ix3 (seqOf R) (posOf R) (gateA k))) (fun k => p (ix3 (seqOf R) (posOf R) (gateB k)))
      (fun a b => wa (ix3 0 a b)) (fun a b => wb (ix3 0 a b)) (fun a b => wo (ix3 0 a b)))
    (fun k => g (ix2 0 k)) n

end Cert.Proof.Merge

namespace Cert.MergeIdeal.Block

open Idealize.ShloMosaic Idealize.SL.Sem Cert.MergeIdeal Cert.Proof.Merge Cert.Proof.Rows
open Cert.MergeIdeal.Gen Idealize.ShloMosaic.TcCoe
open Idealize.ShloMosaic.Pipeline (Dat Cfg Window)

theorem mixed_apply (x0 : Vec Ideal S512x1024 .bf16) (x5 : Vec Ideal S1x1024x2048 .bf16) (x1 : Vec Ideal S512x1024 .bf16)
    (x6 : Vec Ideal S1x1024x2048 .bf16) (x2 x3 : Vec Ideal S512x2048 .bf16) (x7 : Vec Ideal S1x2048x2048 .bf16)
    (r : Fin 512) (k : Fin 2048) : k0_pay2 (F := Ideal) x0 x5 x1 x6 x2 x3 x7 (ix2 r k)
      = mixed (fun k => x0 (ix2 r k)) (fun k => x1 (ix2 r k)) (fun k => x2 (ix2 r k)) (fun k => x3 (ix2 r k))
          (fun a b => x5 (ix3 0 a b)) (fun a b => x6 (ix3 0 a b)) (fun a b => x7 (ix3 0 a b)) k := by
  unfold_payloads
  unfold mixed
  pointwise

theorem squares_apply (x0 : Vec Ideal S512x1024 .bf16) (x5 : Vec Ideal S1x1024x2048 .bf16) (x1 : Vec Ideal S512x1024 .bf16)
    (x6 : Vec Ideal S1x1024x2048 .bf16) (x2 x3 : Vec Ideal S512x2048 .bf16) (x7 : Vec Ideal S1x2048x2048 .bf16)
    (r : Fin 512) : k0_pay5 (F := Ideal) x0 x5 x1 x6 x2 x3 x7 (ix2 r 0)
      = ∑ j : Fin 2048, k0_pay2 (F := Ideal) x0 x5 x1 x6 x2 x3 x7 (ix2 r j) * k0_pay2 (F := Ideal) x0 x5 x1 x6 x2 x3 x7 (ix2 r j) := by
  unfold k0_pay5
  pointwise

theorem added_apply (x4 y : Vec Ideal S512x2048 .f32) (x8 : Vec Ideal S1x1x2048 .f32) (z : FVec Ideal S512x1 .f32)
    (r : Fin 512) (k : Fin 2048) (hz : z (ix2 r 0) = ∑ j : Fin 2048, y (ix2 r j) * y (ix2 r j)) :
    k0_pay1 (F := Ideal) y (k0_pay3 x4) (k0_pay4 x8) z (Scalar.ofBits .f32 0x45000000#32) (ix2 r k)
      = added (fun k => x4 (ix2 r k)) (fun k => y (ix2 r k)) (fun k => x8 (ix3 0 0 k)) k := by
  unfold_payloads
  unfold added
  rw [← hz]
  pointwise

/-- The block one grid point leaves, at an index: the row's merged entry. -/
theorem out_apply (x0 : Vec Ideal S512x1024 .bf16) (x1 : Vec Ideal S512x1024 .bf16) (x2 x3 : Vec Ideal S512x2048 .bf16)
    (x4 : Vec Ideal S512x2048 .f32) (x5 x6 : Vec Ideal S1x1024x2048 .bf16) (x7 : Vec Ideal S1x2048x2048 .bf16)
    (x8 : Vec Ideal S1x1x2048 .f32) (r : Fin 512) (k : Fin 2048) :
    out0_9 (F := Ideal) x0 x1 x2 x3 x4 x5 x6 x7 x8 (ix2 r k)
      = added (fun k => x4 (ix2 r k))
          (mixed (fun k => x0 (ix2 r k)) (fun k => x1 (ix2 r k)) (fun k => x2 (ix2 r k)) (fun k => x3 (ix2 r k))
            (fun a b => x5 (ix3 0 a b)) (fun a b => x6 (ix3 0 a b)) (fun a b => x7 (ix3 0 a b)))
          (fun k => x8 (ix3 0 0 k)) k := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_9
  rw [View.canon_unit_zero hz2]
  simp only [View.ld_unit_zero (S := S512x1024) hz2, View.ld_unit_zero (S := S512x2048) hz2,
    View.ld_unit_zero (S := S1x1024x2048) hz3, View.ld_unit_zero (S := S1x2048x2048) hz3,
    View.ld_unit_zero (S := S1x1x2048) hz3]
  rw [added_apply _ _ _ _ _ _ (squares_apply x0 x5 x1 x6 x2 x3 x7 r)]
  simp only [mixed_apply]

variable (m : (ℓ : Loc nD τ sig) → Buf (Elt Ideal) ℓ) (c : Dev nD)

/-! The arrays the windows stage, in terms of the arguments as launched. -/

theorem V_v0 : V m c main_v0 = shapeCast S16384x1024 (m ((c : Thread nD τ).loc main_arg0)) shapeCasts_S4x4096x1024_S16384x1024 := by
  unfold V hostOps0; after_results_simp <;> rfl
theorem V_v1 : V m c main_v1 = shapeCast S16384x1024 (m ((c : Thread nD τ).loc main_arg1)) shapeCasts_S4x4096x1024_S16384x1024 := by
  unfold V hostOps0; after_results_simp <;> rfl
theorem V_v2 : V m c main_v2 = shapeCast S16384x10240 (m ((c : Thread nD τ).loc main_arg2)) shapeCasts_S4x4096x10240_S16384x10240 := by
  unfold V hostOps0; after_results_simp <;> rfl
theorem V_v3 : V m c main_v3 = shapeCast S16384x2048 (m ((c : Thread nD τ).loc main_arg3)) shapeCasts_S4x4096x2048_S16384x2048 := by
  unfold V hostOps0; after_results_simp <;> rfl
theorem V_v4 : V m c main_v4 = (truncf .bf16 (m ((c : Thread nD τ).loc main_arg4) : FVec Ideal S2x1024x2048 .f32) bitsLt_bf16_f32 : FVec Ideal S2x1024x2048 .bf16) := by
  unfold V hostOps0; after_results_simp <;> rfl
theorem V_v5 : V m c main_v5 = (truncf .bf16 (m ((c : Thread nD τ).loc main_arg5) : FVec Ideal S2x1024x2048 .f32) bitsLt_bf16_f32 : FVec Ideal S2x1024x2048 .bf16) := by
  unfold V hostOps0; after_results_simp <;> rfl
theorem V_v6 : V m c main_v6 = (truncf .bf16 (m ((c : Thread nD τ).loc main_arg6) : FVec Ideal S2x2048x2048 .f32) bitsLt_bf16_f32 : FVec Ideal S2x2048x2048 .bf16) := by
  unfold V hostOps0; after_results_simp <;> rfl
theorem V_v7 : V m c main_v7 = broadcastInDim S2x1x2048 ![0, 2] bcast_S2x2048_S2x1x2048_0_2 (m ((c : Thread nD τ).loc main_arg7)) := by
  unfold V hostOps0; after_results_simp <;> rfl

/-! The blocks at a grid point, at an index. -/

/-- The flat row of the array that row `r` of block `t` is. -/
def rowOf (t : Fin cfg0.N) (r : Fin 512) : Fin 16384 := ⟨512 * t.val + r.val, by have h : t.val < 32 := t.isLt; omega⟩

theorem iblk_0 (t : Fin cfg0.N) (r : Fin 512) (k : Fin 1024) :
    (iblk m c 0 t : Vec Ideal S512x1024 .bf16) (ix2 r k) = (m ((c : Thread nD τ).loc main_arg0) : FVec Ideal S4x4096x1024 .bf16) (ix3 (seqOf (rowOf t r)) (posOf (rowOf t r)) k) := by
  have hi : win0_0.index t 0 = t.val ∧ win0_0.index t 1 = 0 :=
    (by decide +kernel : ∀ t : Fin grid0.N, win0_0.index t 0 = t.val ∧ win0_0.index t 1 = 0) t
  have e : ((cfg0.win 0).blk t).view.emb (ix2 r k) = (ix2 (rowOf t r) (k) : S16384x1024.Idx) := by
    funext a
    apply Fin.ext
    match a with
    | ⟨0, _⟩ => show win0_0.index t 0 * 512 + 1 * r.val = 512 * t.val + r.val; rw [hi.1]; omega
    | ⟨1, _⟩ => show win0_0.index t 1 * 1024 + 1 * k.val = k.val; rw [hi.2]; omega
  unfold iblk
  rw [View.read_apply, e]
  show V m c main_v0 _ = _
  rw [V_v0, flat_apply]

theorem iblk_1 (t : Fin cfg0.N) (r : Fin 512) (k : Fin 1024) :
    (iblk m c 1 t : Vec Ideal S512x1024 .bf16) (ix2 r k) = (m ((c : Thread nD τ).loc main_arg1) : FVec Ideal S4x4096x1024 .bf16) (ix3 (seqOf (rowOf t r)) (posOf (rowOf t r)) k) := by
  have hi : win0_1.index t 0 = t.val ∧ win0_1.index t 1 = 0 :=
    (by decide +kernel : ∀ t : Fin grid0.N, win0_1.index t 0 = t.val ∧ win0_1.index t 1 = 0) t
  have e : ((cfg0.win 1).blk t).view.emb (ix2 r k) = (ix2 (rowOf t r) (k) : S16384x1024.Idx) := by
    funext a
    apply Fin.ext
    match a with
    | ⟨0, _⟩ => show win0_1.index t 0 * 512 + 1 * r.val = 512 * t.val + r.val; rw [hi.1]; omega
    | ⟨1, _⟩ => show win0_1.index t 1 * 1024 + 1 * k.val = k.val; rw [hi.2]; omega
  unfold iblk
  rw [View.read_apply, e]
  show V m c main_v1 _ = _
  rw [V_v1, flat_apply]

theorem iblk_2 (t : Fin cfg0.N) (r : Fin 512) (k : Fin 2048) :
    (iblk m c 2 t : Vec Ideal S512x2048 .bf16) (ix2 r k) = (m ((c : Thread nD τ).loc main_arg2) : FVec Ideal S4x4096x10240 .bf16) (ix3 (seqOf (rowOf t r)) (posOf (rowOf t r)) (gateA k)) := by
  have hi : win0_2.index t 0 = t.val ∧ win0_2.index t 1 = 3 :=
    (by decide +kernel : ∀ t : Fin grid0.N, win0_2.index t 0 = t.val ∧ win0_2.index t 1 = 3) t
  have e : ((cfg0.win 2).blk t).view.emb (ix2 r k) = (ix2 (rowOf t r) ((gateA k)) : S16384x10240.Idx) := by
    funext a
    apply Fin.ext
    match a with
    | ⟨0, _⟩ => show win0_2.index t 0 * 512 + 1 * r.val = 512 * t.val + r.val; rw [hi.1]; omega
    | ⟨1, _⟩ => show win0_2.index t 1 * 2048 + 1 * k.val = 6144 + k.val; rw [hi.2]; omega
  unfold iblk
  rw [View.read_apply, e]
  show V m c main_v2 _ = _
  rw [V_v2, flat_apply]

theorem iblk_3 (t : Fin cfg0.N) (r : Fin 512) (k : Fin 2048) :
    (iblk m c 3 t : Vec Ideal S512x2048 .bf16) (ix2 r k) = (m ((c : Thread nD τ).loc main_arg2) : FVec Ideal S4x4096x10240 .bf16) (ix3 (seqOf (rowOf t r)) (posOf (rowOf t r)) (gateB k)) := by
  have hi : win0_3.index t 0 = t.val ∧ win0_3.index t 1 = 4 :=
    (by decide +kernel : ∀ t : Fin grid0.N, win0_3.index t 0 = t.val ∧ win0_3.index t 1 = 4) t
  have e : ((cfg0.win 3).blk t).view.emb (ix2 r k) = (ix2 (rowOf t r) ((gateB k)) : S16384x10240.Idx) := by
    funext a
    apply Fin.ext
    match a with
    | ⟨0, _⟩ => show win0_3.index t 0 * 512 + 1 * r.val = 512 * t.val + r.val; rw [hi.1]; omega
    | ⟨1, _⟩ => show win0_3.index t 1 * 2048 + 1 * k.val = 8192 + k.val; rw [hi.2]; omega
  unfold iblk
  rw [View.read_apply, e]
  show V m c main_v2 _ = _
  rw [V_v2, flat_apply]

theorem iblk_4 (t : Fin cfg0.N) (r : Fin 512) (k : Fin 2048) :
    (iblk m c 4 t : Vec Ideal S512x2048 .f32) (ix2 r k) = (m ((c : Thread nD τ).loc main_arg3) : FVec Ideal S4x4096x2048 .f32) (ix3 (seqOf (rowOf t r)) (posOf (rowOf t r)) k) := by
  have hi : win0_4.index t 0 = t.val ∧ win0_4.index t 1 = 0 :=
    (by decide +kernel : ∀ t : Fin grid0.N, win0_4.index t 0 = t.val ∧ win0_4.index t 1 = 0) t
  have e : ((cfg0.win 4).blk t).view.emb (ix2 r k) = (ix2 (rowOf t r) (k) : S16384x2048.Idx) := by
    funext a
    apply Fin.ext
    match a with
    | ⟨0, _⟩ => show win0_4.index t 0 * 512 + 1 * r.val = 512 * t.val + r.val; rw [hi.1]; omega
    | ⟨1, _⟩ => show win0_4.index t 1 * 2048 + 1 * k.val = k.val; rw [hi.2]; omega
  unfold iblk
  rw [View.read_apply, e]
  show V m c main_v3 _ = _
  rw [V_v3, flat_apply]

theorem iblk_5 (t : Fin cfg0.N) (a : Fin 1024) (b : Fin 2048) :
    (iblk m c 5 t : Vec Ideal S1x1024x2048 .bf16) (ix3 0 a b) = (m ((c : Thread nD τ).loc main_arg4) : FVec Ideal S2x1024x2048 .f32) (ix3 0 a b) := by
  have hi : win0_5.index t 0 = 0 ∧ win0_5.index t 1 = 0 ∧ win0_5.index t 2 = 0 :=
    (by decide +kernel : ∀ t : Fin grid0.N, win0_5.index t 0 = 0 ∧ win0_5.index t 1 = 0 ∧ win0_5.index t 2 = 0) t
  have e : ((cfg0.win 5).blk t).view.emb (ix3 0 a b) = (ix3 0 a b : S2x1024x2048.Idx) := by
    funext d
    apply Fin.ext
    match d with
    | ⟨0, _⟩ => show win0_5.index t 0 * 1 + 1 * 0 = 0; rw [hi.1]
    | ⟨1, _⟩ => show win0_5.index t 1 * 1024 + 1 * a.val = a.val; rw [hi.2.1]; omega
    | ⟨2, _⟩ => show win0_5.index t 2 * 2048 + 1 * b.val = b.val; rw [hi.2.2]; omega
  unfold iblk
  rw [View.read_apply, e]
  show V m c main_v4 _ = _
  rw [V_v4]
  rfl

theorem iblk_6 (t : Fin cfg0.N) (a : Fin 1024) (b : Fin 2048) :
    (iblk m c 6 t : Vec Ideal S1x1024x2048 .bf16) (ix3 0 a b) = (m ((c : Thread nD τ).loc main_arg5) : FVec Ideal S2x1024x2048 .f32) (ix3 0 a b) := by
  have hi : win0_6.index t 0 = 0 ∧ win0_6.index t 1 = 0 ∧ win0_6.index t 2 = 0 :=
    (by decide +kernel : ∀ t : Fin grid0.N, win0_6.index t 0 = 0 ∧ win0_6.index t 1 = 0 ∧ win0_6.index t 2 = 0) t
  have e : ((cfg0.win 6).blk t).view.emb (ix3 0 a b) = (ix3 0 a b : S2x1024x2048.Idx) := by
    funext d
    apply Fin.ext
    match d with
    | ⟨0, _⟩ => show win0_6.index t 0 * 1 + 1 * 0 = 0; rw [hi.1]
    | ⟨1, _⟩ => show win0_6.index t 1 * 1024 + 1 * a.val = a.val; rw [hi.2.1]; omega
    | ⟨2, _⟩ => show win0_6.index t 2 * 2048 + 1 * b.val = b.val; rw [hi.2.2]; omega
  unfold iblk
  rw [View.read_apply, e]
  show V m c main_v5 _ = _
  rw [V_v5]
  rfl

theorem iblk_7 (t : Fin cfg0.N) (a : Fin 2048) (b : Fin 2048) :
    (iblk m c 7 t : Vec Ideal S1x2048x2048 .bf16) (ix3 0 a b) = (m ((c : Thread nD τ).loc main_arg6) : FVec Ideal S2x2048x2048 .f32) (ix3 0 a b) := by
  have hi : win0_7.index t 0 = 0 ∧ win0_7.index t 1 = 0 ∧ win0_7.index t 2 = 0 :=
    (by decide +kernel : ∀ t : Fin grid0.N, win0_7.index t 0 = 0 ∧ win0_7.index t 1 = 0 ∧ win0_7.index t 2 = 0) t
  have e : ((cfg0.win 7).blk t).view.emb (ix3 0 a b) = (ix3 0 a b : S2x2048x2048.Idx) := by
    funext d
    apply Fin.ext
    match d with
    | ⟨0, _⟩ => show win0_7.index t 0 * 1 + 1 * 0 = 0; rw [hi.1]
    | ⟨1, _⟩ => show win0_7.index t 1 * 2048 + 1 * a.val = a.val; rw [hi.2.1]; omega
    | ⟨2, _⟩ => show win0_7.index t 2 * 2048 + 1 * b.val = b.val; rw [hi.2.2]; omega
  unfold iblk
  rw [View.read_apply, e]
  show V m c main_v6 _ = _
  rw [V_v6]
  rfl

theorem iblk_8 (t : Fin cfg0.N) (k : Fin 2048) :
    (iblk m c 8 t : Vec Ideal S1x1x2048 .f32) (ix3 0 0 k) = (m ((c : Thread nD τ).loc main_arg7) : FVec Ideal S2x2048 .f32) (ix2 0 k) := by
  have hi : win0_8.index t 0 = 0 ∧ win0_8.index t 1 = 0 ∧ win0_8.index t 2 = 0 :=
    (by decide +kernel : ∀ t : Fin grid0.N, win0_8.index t 0 = 0 ∧ win0_8.index t 1 = 0 ∧ win0_8.index t 2 = 0) t
  have e : ((cfg0.win 8).blk t).view.emb (ix3 0 0 k) = (ix3 0 0 k : S2x1x2048.Idx) := by
    funext d
    apply Fin.ext
    match d with
    | ⟨0, _⟩ => show win0_8.index t 0 * 1 + 1 * 0 = 0; rw [hi.1]
    | ⟨1, _⟩ => show win0_8.index t 1 * 1 + 1 * 0 = 0; rw [hi.2.1]
    | ⟨2, _⟩ => show win0_8.index t 2 * 2048 + 1 * k.val = k.val; rw [hi.2.2]; omega
  unfold iblk
  rw [View.read_apply, e]
  show V m c main_v7 _ = _
  rw [V_v7]
  pointwise

end Cert.MergeIdeal.Block
-- ==== Proof.Merge.Ref.lean ====
module

public import proofs.«01_k».proof.Proof.Gen.MergeRefIdeal.Run
public import proofs.«01_k».proof.Proof.Gen.MergeRefIdeal.Read
public import Idealize.ShloMosaic.Lib.Pointwise
public import proofs.«01_k».proof.Proof.Merge.Block

@[expose] public section

noncomputable section

namespace Cert.MergeRefIdeal.Block

open Idealize.ShloMosaic Idealize.SL.Sem Cert.MergeRefIdeal Cert.MergeRefIdeal.Value Cert.MergeRefIdeal.Read Cert.Proof.Merge Cert.Proof.Rows
open Idealize.ShloMosaic.TcCoe

/-- The reference's result at an index: the row's merged entry. -/
theorem out_apply (x0 x1 : (⟨S4x4096x1024, .bf16⟩ : BufTy).Contents (Elt Ideal)) (x2 : (⟨S4x4096x10240, .bf16⟩ : BufTy).Contents (Elt Ideal))
    (x3 : (⟨S4x4096x2048, .f32⟩ : BufTy).Contents (Elt Ideal)) (x4 x5 : (⟨S2x1024x2048, .f32⟩ : BufTy).Contents (Elt Ideal))
    (x6 : (⟨S2x2048x2048, .f32⟩ : BufTy).Contents (Elt Ideal)) (x7 : (⟨S2x2048, .f32⟩ : BufTy).Contents (Elt Ideal))
    (R : Fin 16384) (k : Fin 2048) :
    val_main_v45 (F := Ideal) x0 x1 x2 x3 x4 x5 x6 x7 (ix2 R k)
      = result x0 x1 x2 x3 x4 x5 x6 x7 R k := by
  unfold val_main_v45 result added mixed Ideal.logistic gateA gateB
  rw [flat_apply]
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5]

end Cert.MergeRefIdeal.Block
-- ==== Proof.Merge.Value.lean ====
module

public import proofs.«01_k».proof.Defs
public import proofs.«01_k».proof.Proof.Merge.Block
public import proofs.«01_k».proof.Proof.Merge.Ref

@[expose] public section

noncomputable section

namespace Cert.MergeIdeal.Block

open Idealize.ShloMosaic Idealize.SL.Sem Cert.MergeIdeal Cert.Proof.Merge Cert.Proof.Rows
open Cert.MergeIdeal.Gen Idealize.ShloMosaic.TcCoe
open Idealize.ShloMosaic.Pipeline (Dat Cfg Window)

variable (m : (ℓ : Loc nD τ sig) → Buf (Elt Ideal) ℓ) (c : Dev nD)

/-- The result array as one function of the arguments. -/
def G : Buf (Elt Ideal) ((c : Thread nD τ).loc main_v8) := fun i : S16384x2048.Idx =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

/-- The output window's block `t` begins at row `512 t`. -/
theorem out_at (t : Fin cfg0.N) : win0_9.index t 0 = t.val ∧ win0_9.index t 1 = 0 :=
  (by decide +kernel : ∀ t : Fin grid0.N, win0_9.index t 0 = t.val ∧ win0_9.index t 1 = 0) t

/-- What a point writes back is its block of `G`. -/
theorem flushed_eq (t : Fin cfg0.N) (_ : (cfg0.win 9).flush t = true) :
    (dats m 0 c).flushed 9 t = ((cfg0.win 9).blk t).view.read (Elt Ideal) (G m c) := by
  rw [Value.flushed9]
  funext j
  obtain ⟨r, k, rfl⟩ : ∃ (r : Fin 512) (k : Fin 2048), j = (ix2 r k : S512x2048.Idx) :=
    ⟨j 0, j 1, funext fun a => by fin_cases a <;> rfl⟩
  rw [View.read_apply]
  have e : ((cfg0.win 9).blk t).view.emb (ix2 r k) = (ix2 (rowOf t r) k : S16384x2048.Idx) := by
    funext a
    apply Fin.ext
    match a with
    | ⟨0, _⟩ => show win0_9.index t 0 * 512 + 1 * r.val = 512 * t.val + r.val; rw [(out_at t).1]; omega
    | ⟨1, _⟩ => show win0_9.index t 1 * 2048 + 1 * k.val = k.val; rw [(out_at t).2]; omega
  rw [e]
  show out0_9 (F := Ideal) (iblk m c 0 t) (iblk m c 1 t) (iblk m c 2 t) (iblk m c 3 t) (iblk m c 4 t) (iblk m c 5 t)
    (iblk m c 6 t) (iblk m c 7 t) (iblk m c 8 t) (ix2 r k) = result _ _ _ _ _ _ _ _ (rowOf t r) k
  rw [out_apply]
  unfold result
  simp only [iblk_0, iblk_1, iblk_2, iblk_3, iblk_4, iblk_5, iblk_6, iblk_7, iblk_8]

/-- The result array after the run. -/
theorem final : (dats m 0 c).arrAt 9 cfg0.N = G m c :=
  (dats m 0 c).arrAt_eq_of_cover 9 (G m c) (flushed_eq m c) fun i => by
    have h0 : (i 0 : Nat) < 16384 := (i 0).isLt
    have h1 : (i 1 : Nat) < 2048 := (i 1).isLt
    obtain ⟨t, ht⟩ : ∃ t : Fin cfg0.N, t.val = (i 0 : Nat) / 512 := ⟨⟨(i 0 : Nat) / 512, show _ < 32 by omega⟩, rfl⟩
    refine ⟨t, (by decide +kernel : ∀ t : Fin grid0.N, win0_9.flush t = true) t, ?_⟩
    show i ∈ ((View.whole main_v8).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [(out_at t).1]; omega
    | ⟨1, _⟩ =>
      show win0_9.index t 1 * 2048 ≤ (i 1 : Nat) ∧ (i 1 : Nat) < win0_9.index t 1 * 2048 + 2048
      rw [(out_at t).2]; omega

end Cert.MergeIdeal.Block

namespace Cert.Proof.Merge

open Idealize.ShloMosaic Idealize.SL.Sem Cert.Proof.Rows Idealize.ShloMosaic.TcCoe

/-- The reference's result array is the same function of the same arguments. -/
theorem ref_eq (m : (ℓ : Loc Cert.MergeIdeal.nD Cert.MergeIdeal.τ Cert.MergeIdeal.sig) → Buf (Elt Ideal) ℓ)
    (m' : (ℓ : Loc Cert.MergeRefIdeal.nD Cert.MergeRefIdeal.τ Cert.MergeRefIdeal.sig) → Buf (Elt Ideal) ℓ) (c : Dev Cert.MergeIdeal.nD)
    (h0 : m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0))
    (h1 : m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1))
    (h2 : m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2))
    (h3 : m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3))
    (h4 : m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4))
    (h5 : m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5))
    (h6 : m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6))
    (h7 : m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) :
    Cert.MergeRefIdeal.Value.res_main_v45 m' c = Cert.MergeIdeal.Block.G m c := by
  rw [Cert.MergeRefIdeal.Read.val_main_v45_eq, h0, h1, h2, h3, h4, h5, h6, h7]
  funext j
  obtain ⟨R, k, rfl⟩ : ∃ (R : Fin 16384) (k : Fin 2048), j = (ix2 R k : Cert.MergeRefIdeal.S16384x2048.Idx) :=
    ⟨j 0, j 1, funext fun a => by fin_cases a <;> rfl⟩
  exact Cert.MergeRefIdeal.Block.out_apply _ _ _ _ _ _ _ _ R k

theorem algebraic : Cert.algebraic_MergeIdeal_MergeRefIdeal (hMergeIdeal := Cert.MergeIdeal.Gen.facts) (hMergeRefIdeal := Cert.MergeRefIdeal.Gen.facts) :=
  fun m g m' g' _ hagree => ⟨fun c => Cert.MergeIdeal.Block.G m c,
    (θ_run _ _ _).mono (fun _ h c => ⟨(h c).1.trans (Cert.MergeIdeal.Block.final m c), (h c).2⟩) (Cert.MergeIdeal.Value.run_blocks (F := Ideal) m g),
    (θ_run _ _ _).mono (fun _ h c => ⟨(h c).1.trans (ref_eq m m' c (hagree c).1 (hagree c).2.1 (hagree c).2.2.1 (hagree c).2.2.2.1
      (hagree c).2.2.2.2.1 (hagree c).2.2.2.2.2.1 (hagree c).2.2.2.2.2.2.1 (hagree c).2.2.2.2.2.2.2), (h c).2⟩)
      (Cert.MergeRefIdeal.Value.run (F := Ideal) m' g')⟩

end Cert.Proof.Merge
-- ==== Proof.Mixers.Safe.lean ====
/- Programs that keep what they hold: a program run from `A` that ends with `A` again, whatever it reads and writes on the way. Built up
   line by line, it says of a kernel body of any length that it runs to its end and owns what it owned. -/
module

public import Idealize.ShloMosaic.Lib.Scf
public import Idealize.ShloMosaic.Lib.Exec
public import Idealize.ShloMosaic.Lib.Tactic
public import Idealize.ShloMosaic.Lib.Pipeline.Kit

@[expose] public section

noncomputable section

namespace Cert.Proof.Mixers

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}
local notation "𝕄" => MT nD τ sig Unit Val ℕ U ℕ

/-- From `A`, the program runs to its end and holds `A` again. -/
def Safe (defs : Defs nD τ sig Val Λ) (c : Thread nD τ) (A : sProp 𝕄) {α : Type} (p : Prog (TpuEff nD τ sig Val Λ c.2) α) : Prop :=
  ∀ Q : α → sProp 𝕄, iprop(A ∗ (∀ a, A -∗ Q a)) ⊢ wp frame (wpE defs Variants.none c none) Set.univ p Q

/-- `A` holds the memref's buffer whole, at some contents, and is indifferent to which. -/
def Holds (c : Thread nD τ) (A : sProp 𝕄) {cs : CoreSpace} {s : Shape} {e : EltTy} (m : Memref sig c.2.kind cs s e) : Prop :=
  A ⊢ iprop((∃ f : Buf Val (m.view.loc c), m.view.loc c ↦[Finset.univ]{fullShare} f)
    ∗ ((∃ f : Buf Val (m.view.loc c), m.view.loc c ↦[Finset.univ]{fullShare} f) -∗ A))

variable {defs : Defs nD τ sig Val Λ} {c : Thread nD τ}

theorem Safe.pure {A : sProp 𝕄} {α : Type} (a : α) : Safe defs c A (pure a : Prog (TpuEff nD τ sig Val Λ c.2) α) := fun Q => by
  rw [wp_pure]
  iintro ⟨HA, HQ⟩
  imodintro
  iapply HQ; iexact HA

theorem Safe.bind {A : sProp 𝕄} {α β : Type} {p : Prog (TpuEff nD τ sig Val Λ c.2) α} {k : α → Prog (TpuEff nD τ sig Val Λ c.2) β}
    (hp : Safe defs c A p) (hk : ∀ a, Safe defs c A (k a)) : Safe defs c A (p >>= k) := fun Q => by
  rw [wp_bind]
  iintro ⟨HA, HQ⟩
  iapply (hp _)
  isplitl [HA]; · iexact HA
  iintro %a HA
  iapply (hk a Q)
  isplitl [HA]; · iexact HA
  iexact HQ

theorem Safe.load {A : sProp 𝕄} {cs : CoreSpace} {s : Shape} {e : EltTy} {m : Memref sig c.2.kind cs s e} {r : LoadRect s} {hl : m.view.LoadsAt r}
    (h : Holds c A m) : Safe defs c A (Prog.lift (.load m r hl)) := fun Q => by
  unfold Holds at h
  unfold Prog.lift
  iintro ⟨HA, HQ⟩
  ihave H := h $$ HA
  icases H with ⟨⟨%f, Hf⟩, Hb⟩
  iapply (wp_load Variants.none c none Set.univ (S := Finset.univ) (q := fullShare) (f := f) (Finset.subset_univ _)) $$ Hf
  iintro Hf
  rw [wp_ret]
  imodintro
  iapply HQ
  iapply Hb
  iexists f; iexact Hf

theorem Safe.store {A : sProp 𝕄} {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1}
    (h : Holds c A m) : Safe defs c A (Prog.lift (.store m r w Mk hx hm)) := fun Q => by
  unfold Holds at h
  unfold Prog.lift
  iintro ⟨HA, HQ⟩
  ihave H := h $$ HA
  icases H with ⟨⟨%f, Hf⟩, Hb⟩
  iapply (wp_store Variants.none c none Set.univ (m := m) (r := r) (S := Finset.univ) (f := (f : Buf Val ((m.access r).loc c))) (Finset.subset_univ _)) $$ [Hf]
  · iexact Hf
  iintro Hf
  rw [wp_ret]
  imodintro
  iapply HQ
  iapply Hb
  iexists _; iexact Hf

theorem Safe.dite {A : sProp 𝕄} {α : Type} {P : Prop} [Decidable P] {p : P → Prog (TpuEff nD τ sig Val Λ c.2) α}
    {q : ¬ P → Prog (TpuEff nD τ sig Val Λ c.2) α}
    (hp : ∀ h, Safe defs c A (p h)) (hq : ∀ h, Safe defs c A (q h)) : Safe defs c A (if h : P then p h else q h) := by
  by_cases h : P
  · rw [dif_pos h]; exact hp h
  · rw [dif_neg h]; exact hq h

theorem Safe.loop {A : sProp 𝕄} {σ : Type} {w : Nat} (lb ub st : BitVec w) (hok : Scf.OK lb ub st) (init : σ)
    {body : Fin (Scf.trips lb ub st) → σ → Prog (TpuEff nD τ sig Val Λ c.2) σ}
    (hb : ∀ k acc, Safe defs c A (body k acc)) : Safe defs c A (Scf.for lb ub st hok init body) := fun Q => by
  refine BIBase.Entails.trans ?_ (Scf.wp_for frame (wpE defs Variants.none c none) Set.univ lb ub st hok init body (fun _ _ => A) (fun k acc => ?_))
  · exact .rfl
  · refine BIBase.Entails.trans ?_ (hb k acc _)
    iintro HA
    isplitl [HA]; · iexact HA
    iintro %a HA
    iexact HA

/-- A part of a memref, or one of its other shapes, lies in the same buffer. -/
theorem Holds.slice {A : sProp 𝕄} {cs : CoreSpace} {s : Shape} {e : EltTy} {m : Memref sig c.2.kind cs s e} (h : Holds c A m) (r : Rect s) (hr : ∀ a, r.stride a = 1) :
    Holds c A (m.slice r hr) := h

theorem Holds.squeeze {A : sProp 𝕄} {cs : CoreSpace} {s s' : Shape} {e : EltTy} {m : Memref sig c.2.kind cs s e} (h : Holds c A m) (hs : s.Squeezes s') :
    Holds c A (m.squeeze s' hs) := h

theorem Holds.left {A B : sProp 𝕄} {cs : CoreSpace} {s : Shape} {e : EltTy} {m : Memref sig c.2.kind cs s e} (h : Holds c A m) :
    Holds c iprop(A ∗ B) m := by
  unfold Holds at h ⊢
  iintro ⟨HA, HB⟩
  ihave H := h $$ HA
  icases H with ⟨Hm, Hb⟩
  isplitl [Hm]; · iexact Hm
  iintro Hm
  isplitl [Hm Hb]; · iapply Hb; iexact Hm
  iexact HB

theorem Holds.right {A B : sProp 𝕄} {cs : CoreSpace} {s : Shape} {e : EltTy} {m : Memref sig c.2.kind cs s e} (h : Holds c B m) :
    Holds c iprop(A ∗ B) m := by
  unfold Holds at h ⊢
  iintro ⟨HA, HB⟩
  ihave H := h $$ HB
  icases H with ⟨Hm, Hb⟩
  isplitl [Hm]; · iexact Hm
  iintro Hm
  isplitl [HA]; · iexact HA
  iapply Hb; iexact Hm

/-- A whole memref owned at some contents. -/
theorem Holds.owned {cs : CoreSpace} {s : Shape} {e : EltTy} {m : Memref sig c.2.kind cs s e} (hm : m.IsWhole) :
    Holds c (iprop(∃ X, owns c m fullShare X) : sProp 𝕄) m := by
  unfold Holds owns
  rw [hm.set_eq_univ]
  iintro ⟨%X, %f, -, Hf⟩
  isplitl [Hf]; · iexists f; iexact Hf
  iintro ⟨%g, Hg⟩
  iexists _, g
  isplitr; · ipureintro; rfl
  iexact Hg

/-- A buffer of the core's own, whole at some contents. -/
theorem Holds.whole {cs : CoreSpace} {i : Fin (sig.nNear c.2.kind cs)} {hκ : sig.names c.2.kind cs i = true} :
    Holds c (iprop(∃ f : Buf Val (c.loc ⟨cs, i, hκ⟩), c.loc ⟨cs, i, hκ⟩ ↦{fullShare} f) : sProp 𝕄) (Memref.whole ⟨cs, i, hκ⟩) := by
  unfold Holds
  iintro H
  isplitl [H]; · iexact H
  iintro H
  iexact H

/-- What is not part of `A` stays by. -/
theorem Safe.beside {S R O W : sProp 𝕄} {α : Type} {p : Prog (TpuEff nD τ sig Val Λ c.2) α} (h : Safe defs c iprop(S ∗ W) p) :
    iprop((S ∗ R) ∗ O ∗ W) ⊢ wp frame (wpE defs Variants.none c none) Set.univ p (fun _ => iprop((S ∗ R) ∗ O ∗ W)) := by
  iintro ⟨⟨HS, HR⟩, HO, HW⟩
  iapply (h _)
  isplitl [HS HW]
  · isplitl [HS]; · iexact HS
    iexact HW
  iintro %a ⟨HS, HW⟩
  isplitl [HS HR]
  · isplitl [HS]; · iexact HS
    iexact HR
  isplitl [HO]; · iexact HO
  iexact HW

end Cert.Proof.Mixers

end
-- ==== Proof.Diff.Steps1.lean ====
/- The body of the call, stretch by stretch: each runs to its end holding what it held. -/
module

public import proofs.«01_k».proof.DiffIdeal
public import proofs.«01_k».proof.Proof.Mixers.Safe

@[expose] public section

set_option maxRecDepth 16384

noncomputable section

namespace Cert.Proof.Diff

open Cert.DiffIdeal Cert.Proof.Mixers Cert.DiffIdeal.Facts₀ Cert.DiffIdeal.Facts
open Idealize.ShloMosaic Idealize.ShloMosaic.TcCoe
open Idealize.SL Idealize.SL.RA Idealize.SL.BI Idealize.SL.Sem

variable {F : FTy → Type} [FloatOps F] [Facts] {U : Type} [URA U]
variable {c : Dev nD} {A : sProp (MT nD τ sig Unit (Elt F) ℕ U ℕ)}
variable (i : grid0.Coords)
variable (arg3 : Memref sig .tc .vmem S1x1x64 .f32) (harg3 : arg3.IsWhole)
variable (arg4 : Memref sig .tc .vmem S1x1x64 .f32) (harg4 : arg4.IsWhole)
variable (arg5 : Memref sig .tc .vmem S1x1x64 .f32) (harg5 : arg5.IsWhole)
variable (arg6 : Memref sig .tc .vmem S1x1x64 .f32) (harg6 : arg6.IsWhole)
variable (arg7 : Memref sig .tc .vmem S1x1x128 .f32) (harg7 : arg7.IsWhole)
variable (arg8 : Memref sig .tc .vmem S8x256 .f32) (harg8 : arg8.IsWhole)
variable (arg9 : Memref sig .tc .vmem S8x256 .f32) (harg9 : arg9.IsWhole)
variable (arg10 : Memref sig .tc .vmem S8x4096 .f32) (harg10 : arg10.IsWhole)
variable (arg11 : Memref sig .tc .vmem S8x4096 .f32) (harg11 : arg11.IsWhole)
variable (arg12 : Memref sig .tc .vmem S2x512x512 .f32) (harg12 : arg12.IsWhole)
variable (arg13 : Memref sig .tc .vmem S1x256x512 .bf16) (harg13 : arg13.IsWhole)
variable (arg14 : Memref sig .tc .vmem S1x4096x512 .bf16) (harg14 : arg14.IsWhole)
variable (arg15 : Memref sig .tc .vmem S1x4096x512 .bf16) (harg15 : arg15.IsWhole)
variable (arg16 : Memref sig .tc .vmem S1x256x512 .bf16) (harg16 : arg16.IsWhole)
variable (arg17 : Memref sig .tc .vmem S4x128x512 .bf16) (harg17 : arg17.IsWhole)
variable (arg18 : Memref sig .tc .vmem S4x4096x128 .bf16) (harg18 : arg18.IsWhole)
variable (arg19 : Memref sig .tc .vmem S4x8x144x512 .bf16) (harg19 : arg19.IsWhole)
variable (arg20 : Memref sig .tc .vmem S4x2x512x512 .f32) (harg20 : arg20.IsWhole)
variable (arg21 : Memref sig .tc .vmem S4x2x1x512 .f32) (harg21 : arg21.IsWhole)
variable (arg22 : Memref sig .tc .vmem S4x1x512 .f32) (harg22 : arg22.IsWhole)
variable (arg23 : Memref sig .tc .vmem S4x144x512 .f32) (harg23 : arg23.IsWhole)
variable (h3 : Holds (c : Thread nD τ) A arg3)
variable (h4 : Holds (c : Thread nD τ) A arg4)
variable (h5 : Holds (c : Thread nD τ) A arg5)
variable (h6 : Holds (c : Thread nD τ) A arg6)
variable (h7 : Holds (c : Thread nD τ) A arg7)
variable (h8 : Holds (c : Thread nD τ) A arg8)
variable (h9 : Holds (c : Thread nD τ) A arg9)
variable (h10 : Holds (c : Thread nD τ) A arg10)
variable (h11 : Holds (c : Thread nD τ) A arg11)
variable (h12 : Holds (c : Thread nD τ) A arg12)
variable (h13 : Holds (c : Thread nD τ) A arg13)
variable (h14 : Holds (c : Thread nD τ) A arg14)
variable (h15 : Holds (c : Thread nD τ) A arg15)
variable (h16 : Holds (c : Thread nD τ) A arg16)
variable (h17 : Holds (c : Thread nD τ) A arg17)
variable (h18 : Holds (c : Thread nD τ) A arg18)
variable (h19 : Holds (c : Thread nD τ) A arg19)
variable (h20 : Holds (c : Thread nD τ) A arg20)
variable (h21 : Holds (c : Thread nD τ) A arg21)
variable (h22 : Holds (c : Thread nD τ) A arg22)
variable (h23 : Holds (c : Thread nD τ) A arg23)
include h3 h4 h5 h6 h7 h8 h9 h10 h11 h12 h13 h14 h15 h16 h17 h18 h19 h20 h21 h22 h23

theorem part1 : Safe (defs₀ (F := F)) (c : Thread nD τ) A (k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  unfold k0_part1
  with_reducible repeat' first | refine Safe.bind ?_ fun _ => ?_ | exact Safe.pure _ | refine Safe.load ?_ | refine Safe.store ?_ | refine Holds.squeeze ?_ _ | refine Holds.slice ?_ _ _ | assumption

theorem part2 (v68 : FVec F S16x512 .bf16) : Safe (defs₀ (F := F)) (c : Thread nD τ) A (k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v68) := by
  unfold k0_part2
  with_reducible repeat' first | refine Safe.bind ?_ fun _ => ?_ | exact Safe.pure _ | refine Safe.load ?_ | refine Safe.store ?_ | refine Holds.squeeze ?_ _ | refine Holds.slice ?_ _ _ | assumption

theorem part3 (v68 : FVec F S16x512 .bf16) (v121 : FVec F S128x512 .f32) (v123 : FVec F S8x512 .f32) (v125 : FVec F S8x512 .f32) (v130 : FVec F S8x512 .f32) (v133 : FVec F S8x512 .f32) (v134 : FVec F S48x512 .f32) (v135 : FVec F S8x512 .f32) (v136 : FVec F S8x512 .f32) : Safe (defs₀ (F := F)) (c : Thread nD τ) A (k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v68 v121 v123 v125 v130 v133 v134 v135 v136) := by
  unfold k0_part3
  with_reducible repeat' first | refine Safe.bind ?_ fun _ => ?_ | exact Safe.pure _ | refine Safe.load ?_ | refine Safe.store ?_ | refine Holds.squeeze ?_ _ | refine Holds.slice ?_ _ _ | assumption

theorem part4 : Safe (defs₀ (F := F)) (c : Thread nD τ) A (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  unfold k0_part4
  with_reducible repeat' first | refine Safe.bind ?_ fun _ => ?_ | exact Safe.pure _ | refine Safe.load ?_ | refine Safe.store ?_ | refine Holds.squeeze ?_ _ | refine Holds.slice ?_ _ _ | assumption

theorem part5 (v68 : FVec F S16x512 .bf16) (v205 : FVec F S128x512 .bf16) : Safe (defs₀ (F := F)) (c : Thread nD τ) A (k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v68 v205) := by
  unfold k0_part5
  with_reducible repeat' first | refine Safe.bind ?_ fun _ => ?_ | exact Safe.pure _ | refine Safe.load ?_ | refine Safe.store ?_ | refine Holds.squeeze ?_ _ | refine Holds.slice ?_ _ _ | assumption

theorem part6 (v68 : FVec F S16x512 .bf16) (v244 : FVec F S512x128 .bf16) : Safe (defs₀ (F := F)) (c : Thread nD τ) A (k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v68 v244) := by
  unfold k0_part6
  with_reducible repeat' first | refine Safe.bind ?_ fun _ => ?_ | exact Safe.pure _ | refine Safe.load ?_ | refine Safe.store ?_ | refine Holds.squeeze ?_ _ | refine Holds.slice ?_ _ _ | assumption

theorem part7 (v268 : FVec F S128x512 .f32) (v270 : FVec F S8x512 .f32) (v271 : Vec F S8x512 .f32) : Safe (defs₀ (F := F)) (c : Thread nD τ) A (k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v268 v270 v271) := by
  unfold k0_part7
  with_reducible repeat' first | refine Safe.bind ?_ fun _ => ?_ | exact Safe.pure _ | refine Safe.load ?_ | refine Safe.store ?_ | refine Holds.squeeze ?_ _ | refine Holds.slice ?_ _ _ | assumption

theorem part8 (v68 : FVec F S16x512 .bf16) : Safe (defs₀ (F := F)) (c : Thread nD τ) A (k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v68) := by
  unfold k0_part8
  with_reducible repeat' first | refine Safe.bind ?_ fun _ => ?_ | exact Safe.pure _ | refine Safe.load ?_ | refine Safe.store ?_ | refine Holds.squeeze ?_ _ | refine Holds.slice ?_ _ _ | assumption

theorem part9 (v68 : FVec F S16x512 .bf16) : Safe (defs₀ (F := F)) (c : Thread nD τ) A (k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v68) := by
  unfold k0_part9
  with_reducible repeat' first | refine Safe.bind ?_ fun _ => ?_ | exact Safe.pure _ | refine Safe.load ?_ | refine Safe.store ?_ | refine Holds.squeeze ?_ _ | refine Holds.slice ?_ _ _ | assumption

theorem part10 (v68 : FVec F S16x512 .bf16) (v366 : FVec F S128x512 .f32) (v368 : FVec F S8x512 .f32) (v370 : FVec F S8x512 .f32) (v375 : FVec F S8x512 .f32) (v378 : FVec F S8x512 .f32) (v379 : FVec F S48x512 .f32) (v380 : FVec F S8x512 .f32) (v381 : FVec F S8x512 .f32) : Safe (defs₀ (F := F)) (c : Thread nD τ) A (k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v68 v366 v368 v370 v375 v378 v379 v380 v381) := by
  unfold k0_part10
  with_reducible repeat' first | refine Safe.bind ?_ fun _ => ?_ | exact Safe.pure _ | refine Safe.load ?_ | refine Safe.store ?_ | refine Holds.squeeze ?_ _ | refine Holds.slice ?_ _ _ | assumption

theorem part11 : Safe (defs₀ (F := F)) (c : Thread nD τ) A (k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  unfold k0_part11
  with_reducible repeat' first | refine Safe.bind ?_ fun _ => ?_ | exact Safe.pure _ | refine Safe.load ?_ | refine Safe.store ?_ | refine Holds.squeeze ?_ _ | refine Holds.slice ?_ _ _ | assumption

theorem part12 (v68 : FVec F S16x512 .bf16) (v450 : FVec F S128x512 .bf16) : Safe (defs₀ (F := F)) (c : Thread nD τ) A (k0_part12 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v68 v450) := by
  unfold k0_part12
  with_reducible repeat' first | refine Safe.bind ?_ fun _ => ?_ | exact Safe.pure _ | refine Safe.load ?_ | refine Safe.store ?_ | refine Holds.squeeze ?_ _ | refine Holds.slice ?_ _ _ | assumption

theorem part13 (v467 : FVec F S16x512 .bf16) (v471 : FVec F S128x512 .f32) (v473 : FVec F S8x512 .f32) (v475 : FVec F S8x512 .f32) (v480 : FVec F S8x512 .f32) (v483 : FVec F S8x512 .f32) (v484 : FVec F S48x512 .f32) (v485 : FVec F S8x512 .f32) (v486 : FVec F S8x512 .f32) (v487 : FVec F S8x512 .f32) (v488 : FVec F S8x512 .f32) : Safe (defs₀ (F := F)) (c : Thread nD τ) A (k0_part13 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v467 v471 v473 v475 v480 v483 v484 v485 v486 v487 v488) := by
  unfold k0_part13
  with_reducible repeat' first | refine Safe.bind ?_ fun _ => ?_ | exact Safe.pure _ | refine Safe.load ?_ | refine Safe.store ?_ | refine Holds.squeeze ?_ _ | refine Holds.slice ?_ _ _ | assumption

theorem part14 (v517 : Vec F S1x512x128 .bf16) : Safe (defs₀ (F := F)) (c : Thread nD τ) A (k0_part14 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v517) := by
  unfold k0_part14
  with_reducible repeat' first | refine Safe.bind ?_ fun _ => ?_ | exact Safe.pure _ | refine Safe.load ?_ | refine Safe.store ?_ | refine Holds.squeeze ?_ _ | refine Holds.slice ?_ _ _ | assumption

theorem part15 (v467 : FVec F S16x512 .bf16) (v555 : FVec F S128x512 .bf16) : Safe (defs₀ (F := F)) (c : Thread nD τ) A (k0_part15 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v467 v555) := by
  unfold k0_part15
  with_reducible repeat' first | refine Safe.bind ?_ fun _ => ?_ | exact Safe.pure _ | refine Safe.load ?_ | refine Safe.store ?_ | refine Holds.squeeze ?_ _ | refine Holds.slice ?_ _ _ | assumption

theorem part16 (v467 : FVec F S16x512 .bf16) (v594 : FVec F S512x128 .bf16) : Safe (defs₀ (F := F)) (c : Thread nD τ) A (k0_part16 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v467 v594) := by
  unfold k0_part16
  with_reducible repeat' first | refine Safe.bind ?_ fun _ => ?_ | exact Safe.pure _ | refine Safe.load ?_ | refine Safe.store ?_ | refine Holds.squeeze ?_ _ | refine Holds.slice ?_ _ _ | assumption

theorem part17 (v618 : FVec F S128x512 .f32) (v620 : FVec F S8x512 .f32) (v622 : FVec F S8x512 .f32) (v623 : FVec F S8x512 .f32) : Safe (defs₀ (F := F)) (c : Thread nD τ) A (k0_part17 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v618 v620 v622 v623) := by
  unfold k0_part17
  with_reducible repeat' first | refine Safe.bind ?_ fun _ => ?_ | exact Safe.pure _ | refine Safe.load ?_ | refine Safe.store ?_ | refine Holds.squeeze ?_ _ | refine Holds.slice ?_ _ _ | assumption

theorem part18 (v467 : FVec F S16x512 .bf16) : Safe (defs₀ (F := F)) (c : Thread nD τ) A (k0_part18 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v467) := by
  unfold k0_part18
  with_reducible repeat' first | refine Safe.bind ?_ fun _ => ?_ | exact Safe.pure _ | refine Safe.load ?_ | refine Safe.store ?_ | refine Holds.squeeze ?_ _ | refine Holds.slice ?_ _ _ | assumption

theorem part19 (v467 : FVec F S16x512 .bf16) (v698 : Vec F S1x512x128 .bf16) : Safe (defs₀ (F := F)) (c : Thread nD τ) A (k0_part19 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v467 v698) := by
  unfold k0_part19
  with_reducible repeat' first | refine Safe.bind ?_ fun _ => ?_ | exact Safe.pure _ | refine Safe.load ?_ | refine Safe.store ?_ | refine Holds.squeeze ?_ _ | refine Holds.slice ?_ _ _ | assumption

theorem part20 (v467 : FVec F S16x512 .bf16) (v716 : FVec F S128x512 .f32) (v718 : FVec F S8x512 .f32) (v720 : FVec F S8x512 .f32) (v725 : FVec F S8x512 .f32) (v728 : FVec F S8x512 .f32) (v729 : FVec F S48x512 .f32) (v730 : FVec F S8x512 .f32) (v731 : FVec F S8x512 .f32) (v732 : FVec F S8x512 .f32) (v733 : FVec F S8x512 .f32) : Safe (defs₀ (F := F)) (c : Thread nD τ) A (k0_part20 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v467 v716 v718 v720 v725 v728 v729 v730 v731 v732 v733) := by
  unfold k0_part20
  with_reducible repeat' first | refine Safe.bind ?_ fun _ => ?_ | exact Safe.pure _ | refine Safe.load ?_ | refine Safe.store ?_ | refine Holds.squeeze ?_ _ | refine Holds.slice ?_ _ _ | assumption

theorem part21 (v762 : Vec F S1x512x128 .bf16) : Safe (defs₀ (F := F)) (c : Thread nD τ) A (k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v762) := by
  unfold k0_part21
  with_reducible repeat' first | refine Safe.bind ?_ fun _ => ?_ | exact Safe.pure _ | refine Safe.load ?_ | refine Safe.store ?_ | refine Holds.squeeze ?_ _ | refine Holds.slice ?_ _ _ | assumption

theorem part22 (v467 : FVec F S16x512 .bf16) (v800 : FVec F S128x512 .bf16) : Safe (defs₀ (F := F)) (c : Thread nD τ) A (k0_part22 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v467 v800) := by
  unfold k0_part22
  with_reducible repeat' first | refine Safe.bind ?_ fun _ => ?_ | exact Safe.pure _ | refine Safe.load ?_ | refine Safe.store ?_ | refine Holds.squeeze ?_ _ | refine Holds.slice ?_ _ _ | assumption

theorem part23 (v467 : FVec F S16x512 .bf16) (v839 : FVec F S512x128 .bf16) : Safe (defs₀ (F := F)) (c : Thread nD τ) A (k0_part23 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v467 v839) := by
  unfold k0_part23
  with_reducible repeat' first | refine Safe.bind ?_ fun _ => ?_ | exact Safe.pure _ | refine Safe.load ?_ | refine Safe.store ?_ | refine Holds.squeeze ?_ _ | refine Holds.slice ?_ _ _ | assumption

theorem part24 (v869 : FVec F S512x128 .f32) : Safe (defs₀ (F := F)) (c : Thread nD τ) A (k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v869) := by
  unfold k0_part24
  with_reducible repeat' first | refine Safe.bind ?_ fun _ => ?_ | exact Safe.pure _ | refine Safe.load ?_ | refine Safe.store ?_ | refine Holds.squeeze ?_ _ | refine Holds.slice ?_ _ _ | assumption

theorem part25 (v866 : FVec F S16x512 .bf16) (v905 : FVec F S128x512 .bf16) (v908 : Vec F S1x128x512 .bf16) : Safe (defs₀ (F := F)) (c : Thread nD τ) A (k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v866 v905 v908) := by
  unfold k0_part25
  with_reducible repeat' first | refine Safe.bind ?_ fun _ => ?_ | exact Safe.pure _ | refine Safe.load ?_ | refine Safe.store ?_ | refine Holds.squeeze ?_ _ | refine Holds.slice ?_ _ _ | assumption

theorem part26 (v866 : FVec F S16x512 .bf16) (v944 : FVec F S512x128 .bf16) : Safe (defs₀ (F := F)) (c : Thread nD τ) A (k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v866 v944) := by
  unfold k0_part26
  with_reducible repeat' first | refine Safe.bind ?_ fun _ => ?_ | exact Safe.pure _ | refine Safe.load ?_ | refine Safe.store ?_ | refine Holds.squeeze ?_ _ | refine Holds.slice ?_ _ _ | assumption

theorem part27 (v968 : FVec F S128x512 .f32) (v970 : FVec F S8x512 .f32) (v972 : FVec F S8x512 .f32) (v973 : FVec F S8x512 .f32) (v974 : FVec F S8x512 .f32) (v975 : FVec F S8x512 .f32) : Safe (defs₀ (F := F)) (c : Thread nD τ) A (k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v968 v970 v972 v973 v974 v975) := by
  unfold k0_part27
  with_reducible repeat' first | refine Safe.bind ?_ fun _ => ?_ | exact Safe.pure _ | refine Safe.load ?_ | refine Safe.store ?_ | refine Holds.squeeze ?_ _ | refine Holds.slice ?_ _ _ | assumption

theorem part28 (v866 : FVec F S16x512 .bf16) : Safe (defs₀ (F := F)) (c : Thread nD τ) A (k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v866) := by
  unfold k0_part28
  with_reducible repeat' first | refine Safe.bind ?_ fun _ => ?_ | exact Safe.pure _ | refine Safe.load ?_ | refine Safe.store ?_ | refine Holds.squeeze ?_ _ | refine Holds.slice ?_ _ _ | assumption

theorem part29 (v866 : FVec F S16x512 .bf16) (v1050 : FVec F S512x128 .f32) : Safe (defs₀ (F := F)) (c : Thread nD τ) A (k0_part29 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v866 v1050) := by
  unfold k0_part29
  with_reducible repeat' first | refine Safe.bind ?_ fun _ => ?_ | exact Safe.pure _ | refine Safe.load ?_ | refine Safe.store ?_ | refine Holds.squeeze ?_ _ | refine Holds.slice ?_ _ _ | assumption

theorem part30 (v866 : FVec F S16x512 .bf16) (v1066 : FVec F S128x512 .f32) (v1070 : FVec F S8x512 .f32) (v1075 : FVec F S8x512 .f32) (v1078 : FVec F S8x512 .f32) (v1079 : FVec F S48x512 .f32) (v1080 : FVec F S8x512 .f32) (v1084 : FVec F S8x512 .f32) (v1085 : FVec F S8x512 .f32) : Safe (defs₀ (F := F)) (c : Thread nD τ) A (k0_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v866 v1066 v1070 v1075 v1078 v1079 v1080 v1084 v1085) := by
  unfold k0_part30
  with_reducible repeat' first | refine Safe.bind ?_ fun _ => ?_ | exact Safe.pure _ | refine Safe.load ?_ | refine Safe.store ?_ | refine Holds.squeeze ?_ _ | refine Holds.slice ?_ _ _ | assumption

theorem part31 (v1114 : FVec F S512x128 .f32) : Safe (defs₀ (F := F)) (c : Thread nD τ) A (k0_part31 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1114) := by
  unfold k0_part31
  with_reducible repeat' first | refine Safe.bind ?_ fun _ => ?_ | exact Safe.pure _ | refine Safe.load ?_ | refine Safe.store ?_ | refine Holds.squeeze ?_ _ | refine Holds.slice ?_ _ _ | assumption

theorem part32 (v866 : FVec F S16x512 .bf16) (v1150 : FVec F S128x512 .bf16) (v1153 : Vec F S1x128x512 .bf16) : Safe (defs₀ (F := F)) (c : Thread nD τ) A (k0_part32 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v866 v1150 v1153) := by
  unfold k0_part32
  with_reducible repeat' first | refine Safe.bind ?_ fun _ => ?_ | exact Safe.pure _ | refine Safe.load ?_ | refine Safe.store ?_ | refine Holds.squeeze ?_ _ | refine Holds.slice ?_ _ _ | assumption

theorem part33 (v866 : FVec F S16x512 .bf16) (v1189 : FVec F S512x128 .bf16) : Safe (defs₀ (F := F)) (c : Thread nD τ) A (k0_part33 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v866 v1189) := by
  unfold k0_part33
  with_reducible repeat' first | refine Safe.bind ?_ fun _ => ?_ | exact Safe.pure _ | refine Safe.load ?_ | refine Safe.store ?_ | refine Holds.squeeze ?_ _ | refine Holds.slice ?_ _ _ | assumption

theorem part34 (v1213 : FVec F S128x512 .f32) (v1215 : FVec F S8x512 .f32) (v1217 : FVec F S8x512 .f32) (v1218 : FVec F S8x512 .f32) (v1219 : FVec F S8x512 .f32) (v1220 : FVec F S8x512 .f32) : Safe (defs₀ (F := F)) (c : Thread nD τ) A (k0_part34 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1213 v1215 v1217 v1218 v1219 v1220) := by
  unfold k0_part34
  with_reducible repeat' first | refine Safe.bind ?_ fun _ => ?_ | exact Safe.pure _ | refine Safe.load ?_ | refine Safe.store ?_ | refine Holds.squeeze ?_ _ | refine Holds.slice ?_ _ _ | assumption

theorem part35 (v866 : FVec F S16x512 .bf16) : Safe (defs₀ (F := F)) (c : Thread nD τ) A (k0_part35 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v866) := by
  unfold k0_part35
  with_reducible repeat' first | refine Safe.bind ?_ fun _ => ?_ | exact Safe.pure _ | refine Safe.load ?_ | refine Safe.store ?_ | refine Holds.squeeze ?_ _ | refine Holds.slice ?_ _ _ | assumption

theorem part36 (v1265 : FVec F S16x512 .bf16) (v1294 : FVec F S512x128 .bf16) (v1297 : Vec F S512x128 .bf16) : Safe (defs₀ (F := F)) (c : Thread nD τ) A (k0_part36 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1265 v1294 v1297) := by
  unfold k0_part36
  with_reducible repeat' first | refine Safe.bind ?_ fun _ => ?_ | exact Safe.pure _ | refine Safe.load ?_ | refine Safe.store ?_ | refine Holds.squeeze ?_ _ | refine Holds.slice ?_ _ _ | assumption

theorem part37 (v1318 : FVec F S128x512 .f32) (v1320 : FVec F S8x512 .f32) (v1322 : FVec F S8x512 .f32) (v1323 : FVec F S8x512 .f32) (v1324 : FVec F S8x512 .f32) (v1327 : FVec F S8x512 .f32) : Safe (defs₀ (F := F)) (c : Thread nD τ) A (k0_part37 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1318 v1320 v1322 v1323 v1324 v1327) := by
  unfold k0_part37
  with_reducible repeat' first | refine Safe.bind ?_ fun _ => ?_ | exact Safe.pure _ | refine Safe.load ?_ | refine Safe.store ?_ | refine Holds.squeeze ?_ _ | refine Holds.slice ?_ _ _ | assumption

theorem part38 (v1265 : FVec F S16x512 .bf16) (v1361 : Vec F S1x16x512 .bf16) : Safe (defs₀ (F := F)) (c : Thread nD τ) A (k0_part38 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1265 v1361) := by
  unfold k0_part38
  with_reducible repeat' first | refine Safe.bind ?_ fun _ => ?_ | exact Safe.pure _ | refine Safe.load ?_ | refine Safe.store ?_ | refine Holds.squeeze ?_ _ | refine Holds.slice ?_ _ _ | assumption

theorem part39 (v1265 : FVec F S16x512 .bf16) (v1402 : FVec F S128x512 .bf16) : Safe (defs₀ (F := F)) (c : Thread nD τ) A (k0_part39 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1265 v1402) := by
  unfold k0_part39
  with_reducible repeat' first | refine Safe.bind ?_ fun _ => ?_ | exact Safe.pure _ | refine Safe.load ?_ | refine Safe.store ?_ | refine Holds.squeeze ?_ _ | refine Holds.slice ?_ _ _ | assumption

theorem part40 (v1265 : FVec F S16x512 .bf16) (v1416 : FVec F S128x512 .f32) (v1425 : FVec F S8x512 .f32) (v1428 : FVec F S8x512 .f32) (v1429 : FVec F S48x512 .f32) (v1434 : FVec F S8x512 .f32) (v1437 : FVec F S8x512 .f32) : Safe (defs₀ (F := F)) (c : Thread nD τ) A (k0_part40 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1265 v1416 v1425 v1428 v1429 v1434 v1437) := by
  unfold k0_part40
  with_reducible repeat' first | refine Safe.bind ?_ fun _ => ?_ | exact Safe.pure _ | refine Safe.load ?_ | refine Safe.store ?_ | refine Holds.squeeze ?_ _ | refine Holds.slice ?_ _ _ | assumption

theorem part41 (v1465 : FVec F S128x512 .f32) : Safe (defs₀ (F := F)) (c : Thread nD τ) A (k0_part41 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1465) := by
  unfold k0_part41
  with_reducible repeat' first | refine Safe.bind ?_ fun _ => ?_ | exact Safe.pure _ | refine Safe.load ?_ | refine Safe.store ?_ | refine Holds.squeeze ?_ _ | refine Holds.slice ?_ _ _ | assumption

theorem part42 (v1265 : FVec F S16x512 .bf16) (v1505 : FVec F S1x128x512 .bf16) : Safe (defs₀ (F := F)) (c : Thread nD τ) A (k0_part42 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1265 v1505) := by
  unfold k0_part42
  with_reducible repeat' first | refine Safe.bind ?_ fun _ => ?_ | exact Safe.pure _ | refine Safe.load ?_ | refine Safe.store ?_ | refine Holds.squeeze ?_ _ | refine Holds.slice ?_ _ _ | assumption

theorem part43 (v1265 : FVec F S16x512 .bf16) (v1539 : FVec F S512x128 .bf16) (v1542 : Vec F S512x128 .bf16) : Safe (defs₀ (F := F)) (c : Thread nD τ) A (k0_part43 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1265 v1539 v1542) := by
  unfold k0_part43
  with_reducible repeat' first | refine Safe.bind ?_ fun _ => ?_ | exact Safe.pure _ | refine Safe.load ?_ | refine Safe.store ?_ | refine Holds.squeeze ?_ _ | refine Holds.slice ?_ _ _ | assumption

theorem part44 (v1563 : FVec F S128x512 .f32) (v1565 : FVec F S8x512 .f32) (v1567 : FVec F S8x512 .f32) (v1568 : FVec F S8x512 .f32) (v1569 : FVec F S8x512 .f32) (v1572 : FVec F S8x512 .f32) : Safe (defs₀ (F := F)) (c : Thread nD τ) A (k0_part44 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1563 v1565 v1567 v1568 v1569 v1572) := by
  unfold k0_part44
  with_reducible repeat' first | refine Safe.bind ?_ fun _ => ?_ | exact Safe.pure _ | refine Safe.load ?_ | refine Safe.store ?_ | refine Holds.squeeze ?_ _ | refine Holds.slice ?_ _ _ | assumption

theorem part45 (v1265 : FVec F S16x512 .bf16) (v1606 : Vec F S1x16x512 .bf16) : Safe (defs₀ (F := F)) (c : Thread nD τ) A (k0_part45 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1265 v1606) := by
  unfold k0_part45
  with_reducible repeat' first | refine Safe.bind ?_ fun _ => ?_ | exact Safe.pure _ | refine Safe.load ?_ | refine Safe.store ?_ | refine Holds.squeeze ?_ _ | refine Holds.slice ?_ _ _ | assumption

theorem part47 : Safe (defs₀ (F := F)) (c : Thread nD τ) A (k0_part47 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  unfold k0_part47
  with_reducible repeat' first | refine Safe.bind ?_ fun _ => ?_ | exact Safe.pure _ | refine Safe.load ?_ | refine Safe.store ?_ | refine Holds.squeeze ?_ _ | refine Holds.slice ?_ _ _ | assumption

theorem part48 (v62 : IVec S128x256 32) (v104 : FVec F S128x256 .bf16) : Safe (defs₀ (F := F)) (c : Thread nD τ) A (k0_part48 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v104) := by
  unfold k0_part48
  with_reducible repeat' first | refine Safe.bind ?_ fun _ => ?_ | exact Safe.pure _ | refine Safe.load ?_ | refine Safe.store ?_ | refine Holds.squeeze ?_ _ | refine Holds.slice ?_ _ _ | assumption

theorem part49 (v62 : IVec S128x256 32) (v136 : FVec F S128x256 .f32) (v146 : IVec S128x256 1) : Safe (defs₀ (F := F)) (c : Thread nD τ) A (k0_part49 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v136 v146) := by
  unfold k0_part49
  with_reducible repeat' first | refine Safe.bind ?_ fun _ => ?_ | exact Safe.pure _ | refine Safe.load ?_ | refine Safe.store ?_ | refine Holds.squeeze ?_ _ | refine Holds.slice ?_ _ _ | assumption

theorem part50 (v62 : IVec S128x256 32) (v181 : FVec F S128x256 .f32) (v186 : FVec F S128x256 .bf16) : Safe (defs₀ (F := F)) (c : Thread nD τ) A (k0_part50 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v181 v186) := by
  unfold k0_part50
  with_reducible repeat' first | refine Safe.bind ?_ fun _ => ?_ | exact Safe.pure _ | refine Safe.load ?_ | refine Safe.store ?_ | refine Holds.squeeze ?_ _ | refine Holds.slice ?_ _ _ | assumption

theorem part51 (v62 : IVec S128x256 32) (v226 : FVec F S128x256 .f32) (v231 : FVec F S128x256 .bf16) : Safe (defs₀ (F := F)) (c : Thread nD τ) A (k0_part51 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v226 v231) := by
  unfold k0_part51
  with_reducible repeat' first | refine Safe.bind ?_ fun _ => ?_ | exact Safe.pure _ | refine Safe.load ?_ | refine Safe.store ?_ | refine Holds.squeeze ?_ _ | refine Holds.slice ?_ _ _ | assumption

theorem part52 (v257 : FVec F S256x512 .f32) : Safe (defs₀ (F := F)) (c : Thread nD τ) A (k0_part52 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v257) := by
  unfold k0_part52
  with_reducible repeat' first | refine Safe.bind ?_ fun _ => ?_ | exact Safe.pure _ | refine Safe.load ?_ | refine Safe.store ?_ | refine Holds.squeeze ?_ _ | refine Holds.slice ?_ _ _ | assumption

theorem part53 (arg2 : BitVec 32) (c0_i32_24 : BitVec 32) (c0_i32_25 : BitVec 32) (k0_h2 : k0_cond2 i = 1#1) : Safe (defs₀ (F := F)) (c : Thread nD τ) A (k0_part53 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 c0_i32_24 c0_i32_25 k0_h2) := by
  unfold k0_part53
  with_reducible repeat' first | refine Safe.bind ?_ fun _ => ?_ | exact Safe.pure _ | refine Safe.load ?_ | refine Safe.store ?_ | refine Holds.squeeze ?_ _ | refine Holds.slice ?_ _ _ | assumption

theorem part54 (arg2 : BitVec 32) (c1_i32_27 : BitVec 32) (k0_h2 : k0_cond2 i = 1#1) (v306 : FVec F S1x512 .f32) : Safe (defs₀ (F := F)) (c : Thread nD τ) A (k0_part54 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 c1_i32_27 k0_h2 v306) := by
  unfold k0_part54
  with_reducible repeat' first | refine Safe.bind ?_ fun _ => ?_ | exact Safe.pure _ | refine Safe.load ?_ | refine Safe.store ?_ | refine Holds.squeeze ?_ _ | refine Holds.slice ?_ _ _ | assumption

theorem part55 (arg2 : BitVec 32) (c1_i32_28 : BitVec 32) (c2_i32_30 : BitVec 32) (k0_h2 : k0_cond2 i = 1#1) (v343 : FVec F S1x512 .f32) : Safe (defs₀ (F := F)) (c : Thread nD τ) A (k0_part55 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 c1_i32_28 c2_i32_30 k0_h2 v343) := by
  unfold k0_part55
  with_reducible repeat' first | refine Safe.bind ?_ fun _ => ?_ | exact Safe.pure _ | refine Safe.load ?_ | refine Safe.store ?_ | refine Holds.squeeze ?_ _ | refine Holds.slice ?_ _ _ | assumption

theorem part56 (arg2 : BitVec 32) (c2_i32_31 : BitVec 32) (k0_h2 : k0_cond2 i = 1#1) (v380 : FVec F S1x512 .f32) (v385 : FVec F S144x512 .f32) : Safe (defs₀ (F := F)) (c : Thread nD τ) A (k0_part56 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 c2_i32_31 k0_h2 v380 v385) := by
  unfold k0_part56
  with_reducible repeat' first | refine Safe.bind ?_ fun _ => ?_ | exact Safe.pure _ | refine Safe.load ?_ | refine Safe.store ?_ | refine Holds.squeeze ?_ _ | refine Holds.slice ?_ _ _ | assumption

theorem part57 (c3_i32_33 : BitVec 32) (c3_i32_34 : BitVec 32) (v401 : FVec F S144x256 .bf16) (v417 : FVec F S1x512 .f32) (v420 : FVec F S256x512 .f32) : Safe (defs₀ (F := F)) (c : Thread nD τ) A (k0_part57 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c3_i32_33 c3_i32_34 v401 v417 v420) := by
  unfold k0_part57
  with_reducible repeat' first | refine Safe.bind ?_ fun _ => ?_ | exact Safe.pure _ | refine Safe.load ?_ | refine Safe.store ?_ | refine Holds.squeeze ?_ _ | refine Holds.slice ?_ _ _ | assumption

theorem part58 (v449 : FVec F S1x1 .f32) (v451 : FVec F S1x512 .f32) (v452 : Vec F S1x128x512 .f32) : Safe (defs₀ (F := F)) (c : Thread nD τ) A (k0_part58 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v449 v451 v452) := by
  unfold k0_part58
  with_reducible repeat' first | refine Safe.bind ?_ fun _ => ?_ | exact Safe.pure _ | refine Safe.load ?_ | refine Safe.store ?_ | refine Holds.squeeze ?_ _ | refine Holds.slice ?_ _ _ | assumption

theorem part59 (v449 : FVec F S1x1 .f32) (v492 : FVec F S128x256 .f32) (v493 : FVec F S128x256 .f32) : Safe (defs₀ (F := F)) (c : Thread nD τ) A (k0_part59 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v449 v492 v493) := by
  unfold k0_part59
  with_reducible repeat' first | refine Safe.bind ?_ fun _ => ?_ | exact Safe.pure _ | refine Safe.load ?_ | refine Safe.store ?_ | refine Holds.squeeze ?_ _ | refine Holds.slice ?_ _ _ | assumption

theorem part60 (v449 : FVec F S1x1 .f32) (v531 : FVec F S256x128 .f32) (v532 : Vec F S1x1x128 .f32) : Safe (defs₀ (F := F)) (c : Thread nD τ) A (k0_part60 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v449 v531 v532) := by
  unfold k0_part60
  with_reducible repeat' first | refine Safe.bind ?_ fun _ => ?_ | exact Safe.pure _ | refine Safe.load ?_ | refine Safe.store ?_ | refine Holds.squeeze ?_ _ | refine Holds.slice ?_ _ _ | assumption

theorem part61 : Safe (defs₀ (F := F)) (c : Thread nD τ) A (k0_part61 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  unfold k0_part61
  with_reducible repeat' first | refine Safe.bind ?_ fun _ => ?_ | exact Safe.pure _ | refine Safe.load ?_ | refine Safe.store ?_ | refine Holds.squeeze ?_ _ | refine Holds.slice ?_ _ _ | assumption

theorem part62 (v62 : IVec S128x256 32) (v104 : FVec F S128x256 .bf16) : Safe (defs₀ (F := F)) (c : Thread nD τ) A (k0_part62 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v104) := by
  unfold k0_part62
  with_reducible repeat' first | refine Safe.bind ?_ fun _ => ?_ | exact Safe.pure _ | refine Safe.load ?_ | refine Safe.store ?_ | refine Holds.squeeze ?_ _ | refine Holds.slice ?_ _ _ | assumption

theorem part63 (v62 : IVec S128x256 32) (v136 : FVec F S128x256 .f32) (v146 : IVec S128x256 1) : Safe (defs₀ (F := F)) (c : Thread nD τ) A (k0_part63 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v136 v146) := by
  unfold k0_part63
  with_reducible repeat' first | refine Safe.bind ?_ fun _ => ?_ | exact Safe.pure _ | refine Safe.load ?_ | refine Safe.store ?_ | refine Holds.squeeze ?_ _ | refine Holds.slice ?_ _ _ | assumption

theorem part64 (v62 : IVec S128x256 32) (v181 : FVec F S128x256 .f32) (v186 : FVec F S128x256 .bf16) : Safe (defs₀ (F := F)) (c : Thread nD τ) A (k0_part64 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v181 v186) := by
  unfold k0_part64
  with_reducible repeat' first | refine Safe.bind ?_ fun _ => ?_ | exact Safe.pure _ | refine Safe.load ?_ | refine Safe.store ?_ | refine Holds.squeeze ?_ _ | refine Holds.slice ?_ _ _ | assumption

theorem part65 (v42 : BitVec 32) (k0_h3 : k0_cond3 i = 1#1) (v62 : IVec S128x256 32) (v226 : FVec F S128x256 .f32) (v231 : FVec F S128x256 .bf16) : Safe (defs₀ (F := F)) (c : Thread nD τ) A (k0_part65 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v42 k0_h3 v62 v226 v231) := by
  unfold k0_part65
  with_reducible repeat' first | refine Safe.bind ?_ fun _ => ?_ | exact Safe.pure _ | refine Safe.load ?_ | refine Safe.store ?_ | refine Holds.squeeze ?_ _ | refine Holds.slice ?_ _ _ | assumption

theorem part66 (v42 : BitVec 32) (k0_h3 : k0_cond3 i = 1#1) (v260 : FVec F S256x128 .bf16) (v261 : Vec F S1x128x512 .bf16) : Safe (defs₀ (F := F)) (c : Thread nD τ) A (k0_part66 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v42 k0_h3 v260 v261) := by
  unfold k0_part66
  with_reducible repeat' first | refine Safe.bind ?_ fun _ => ?_ | exact Safe.pure _ | refine Safe.load ?_ | refine Safe.store ?_ | refine Holds.squeeze ?_ _ | refine Holds.slice ?_ _ _ | assumption

theorem part67 (v289 : FVec F S256x512 .f32) : Safe (defs₀ (F := F)) (c : Thread nD τ) A (k0_part67 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v289) := by
  unfold k0_part67
  with_reducible repeat' first | refine Safe.bind ?_ fun _ => ?_ | exact Safe.pure _ | refine Safe.load ?_ | refine Safe.store ?_ | refine Holds.squeeze ?_ _ | refine Holds.slice ?_ _ _ | assumption

theorem part68 (v316 : FVec F S512x512 .f32) : Safe (defs₀ (F := F)) (c : Thread nD τ) A (k0_part68 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v316) := by
  unfold k0_part68
  with_reducible repeat' first | refine Safe.bind ?_ fun _ => ?_ | exact Safe.pure _ | refine Safe.load ?_ | refine Safe.store ?_ | refine Holds.squeeze ?_ _ | refine Holds.slice ?_ _ _ | assumption

theorem part69 (v333 : FVec F S512x512 .f32) : Safe (defs₀ (F := F)) (c : Thread nD τ) A (k0_part69 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v333) := by
  unfold k0_part69
  with_reducible repeat' first | refine Safe.bind ?_ fun _ => ?_ | exact Safe.pure _ | refine Safe.load ?_ | refine Safe.store ?_ | refine Holds.squeeze ?_ _ | refine Holds.slice ?_ _ _ | assumption

theorem part70 (arg2 : BitVec 32) (v42 : BitVec 32) (c0_i32_46 : BitVec 32) (c0_i32_47 : BitVec 32) (k0_h3 : k0_cond3 i = 1#1) (v366 : FVec F S256x512 .f32) : Safe (defs₀ (F := F)) (c : Thread nD τ) A (k0_part70 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v42 c0_i32_46 c0_i32_47 k0_h3 v366) := by
  unfold k0_part70
  with_reducible repeat' first | refine Safe.bind ?_ fun _ => ?_ | exact Safe.pure _ | refine Safe.load ?_ | refine Safe.store ?_ | refine Holds.squeeze ?_ _ | refine Holds.slice ?_ _ _ | assumption

theorem part71 (arg2 : BitVec 32) (v42 : BitVec 32) (c1_i32_49 : BitVec 32) (c1_i32_50 : BitVec 32) (k0_h3 : k0_cond3 i = 1#1) (v404 : FVec F S256x512 .f32) : Safe (defs₀ (F := F)) (c : Thread nD τ) A (k0_part71 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v42 c1_i32_49 c1_i32_50 k0_h3 v404) := by
  unfold k0_part71
  with_reducible repeat' first | refine Safe.bind ?_ fun _ => ?_ | exact Safe.pure _ | refine Safe.load ?_ | refine Safe.store ?_ | refine Holds.squeeze ?_ _ | refine Holds.slice ?_ _ _ | assumption

theorem part72 (arg2 : BitVec 32) (v42 : BitVec 32) (c2_i32_52 : BitVec 32) (c2_i32_53 : BitVec 32) (k0_h3 : k0_cond3 i = 1#1) : Safe (defs₀ (F := F)) (c : Thread nD τ) A (k0_part72 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v42 c2_i32_52 c2_i32_53 k0_h3) := by
  unfold k0_part72
  with_reducible repeat' first | refine Safe.bind ?_ fun _ => ?_ | exact Safe.pure _ | refine Safe.load ?_ | refine Safe.store ?_ | refine Holds.squeeze ?_ _ | refine Holds.slice ?_ _ _ | assumption

theorem part73 (arg2 : BitVec 32) (v42 : BitVec 32) (c3_i32_55 : BitVec 32) (c3_i32_56 : BitVec 32) (k0_h3 : k0_cond3 i = 1#1) : Safe (defs₀ (F := F)) (c : Thread nD τ) A (k0_part73 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v42 c3_i32_55 c3_i32_56 k0_h3) := by
  unfold k0_part73
  with_reducible repeat' first | refine Safe.bind ?_ fun _ => ?_ | exact Safe.pure _ | refine Safe.load ?_ | refine Safe.store ?_ | refine Holds.squeeze ?_ _ | refine Holds.slice ?_ _ _ | assumption

theorem part74 : Safe (defs₀ (F := F)) (c : Thread nD τ) A (k0_part74 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  unfold k0_part74
  with_reducible repeat' first | refine Safe.bind ?_ fun _ => ?_ | exact Safe.pure _ | refine Safe.load ?_ | refine Safe.store ?_ | refine Holds.squeeze ?_ _ | refine Holds.slice ?_ _ _ | assumption

theorem part75 (v62 : IVec S128x256 32) (v104 : FVec F S128x256 .bf16) : Safe (defs₀ (F := F)) (c : Thread nD τ) A (k0_part75 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v104) := by
  unfold k0_part75
  with_reducible repeat' first | refine Safe.bind ?_ fun _ => ?_ | exact Safe.pure _ | refine Safe.load ?_ | refine Safe.store ?_ | refine Holds.squeeze ?_ _ | refine Holds.slice ?_ _ _ | assumption

theorem part76 (v62 : IVec S128x256 32) (v136 : FVec F S128x256 .f32) (v146 : IVec S128x256 1) : Safe (defs₀ (F := F)) (c : Thread nD τ) A (k0_part76 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v136 v146) := by
  unfold k0_part76
  with_reducible repeat' first | refine Safe.bind ?_ fun _ => ?_ | exact Safe.pure _ | refine Safe.load ?_ | refine Safe.store ?_ | refine Holds.squeeze ?_ _ | refine Holds.slice ?_ _ _ | assumption

end Cert.Proof.Diff

end
-- ==== Proof.Diff.Steps2.lean ====
/- The body of the call, stretch by stretch: each runs to its end holding what it held. -/
module

public import proofs.«01_k».proof.DiffIdeal
public import proofs.«01_k».proof.Proof.Mixers.Safe

@[expose] public section

set_option maxRecDepth 16384

noncomputable section

namespace Cert.Proof.Diff

open Cert.DiffIdeal Cert.Proof.Mixers Cert.DiffIdeal.Facts₀ Cert.DiffIdeal.Facts
open Idealize.ShloMosaic Idealize.ShloMosaic.TcCoe
open Idealize.SL Idealize.SL.RA Idealize.SL.BI Idealize.SL.Sem

variable {F : FTy → Type} [FloatOps F] [Facts] {U : Type} [URA U]
variable {c : Dev nD} {A : sProp (MT nD τ sig Unit (Elt F) ℕ U ℕ)}
variable (i : grid0.Coords)
variable (arg3 : Memref sig .tc .vmem S1x1x64 .f32) (harg3 : arg3.IsWhole)
variable (arg4 : Memref sig .tc .vmem S1x1x64 .f32) (harg4 : arg4.IsWhole)
variable (arg5 : Memref sig .tc .vmem S1x1x64 .f32) (harg5 : arg5.IsWhole)
variable (arg6 : Memref sig .tc .vmem S1x1x64 .f32) (harg6 : arg6.IsWhole)
variable (arg7 : Memref sig .tc .vmem S1x1x128 .f32) (harg7 : arg7.IsWhole)
variable (arg8 : Memref sig .tc .vmem S8x256 .f32) (harg8 : arg8.IsWhole)
variable (arg9 : Memref sig .tc .vmem S8x256 .f32) (harg9 : arg9.IsWhole)
variable (arg10 : Memref sig .tc .vmem S8x4096 .f32) (harg10 : arg10.IsWhole)
variable (arg11 : Memref sig .tc .vmem S8x4096 .f32) (harg11 : arg11.IsWhole)
variable (arg12 : Memref sig .tc .vmem S2x512x512 .f32) (harg12 : arg12.IsWhole)
variable (arg13 : Memref sig .tc .vmem S1x256x512 .bf16) (harg13 : arg13.IsWhole)
variable (arg14 : Memref sig .tc .vmem S1x4096x512 .bf16) (harg14 : arg14.IsWhole)
variable (arg15 : Memref sig .tc .vmem S1x4096x512 .bf16) (harg15 : arg15.IsWhole)
variable (arg16 : Memref sig .tc .vmem S1x256x512 .bf16) (harg16 : arg16.IsWhole)
variable (arg17 : Memref sig .tc .vmem S4x128x512 .bf16) (harg17 : arg17.IsWhole)
variable (arg18 : Memref sig .tc .vmem S4x4096x128 .bf16) (harg18 : arg18.IsWhole)
variable (arg19 : Memref sig .tc .vmem S4x8x144x512 .bf16) (harg19 : arg19.IsWhole)
variable (arg20 : Memref sig .tc .vmem S4x2x512x512 .f32) (harg20 : arg20.IsWhole)
variable (arg21 : Memref sig .tc .vmem S4x2x1x512 .f32) (harg21 : arg21.IsWhole)
variable (arg22 : Memref sig .tc .vmem S4x1x512 .f32) (harg22 : arg22.IsWhole)
variable (arg23 : Memref sig .tc .vmem S4x144x512 .f32) (harg23 : arg23.IsWhole)
variable (h3 : Holds (c : Thread nD τ) A arg3)
variable (h4 : Holds (c : Thread nD τ) A arg4)
variable (h5 : Holds (c : Thread nD τ) A arg5)
variable (h6 : Holds (c : Thread nD τ) A arg6)
variable (h7 : Holds (c : Thread nD τ) A arg7)
variable (h8 : Holds (c : Thread nD τ) A arg8)
variable (h9 : Holds (c : Thread nD τ) A arg9)
variable (h10 : Holds (c : Thread nD τ) A arg10)
variable (h11 : Holds (c : Thread nD τ) A arg11)
variable (h12 : Holds (c : Thread nD τ) A arg12)
variable (h13 : Holds (c : Thread nD τ) A arg13)
variable (h14 : Holds (c : Thread nD τ) A arg14)
variable (h15 : Holds (c : Thread nD τ) A arg15)
variable (h16 : Holds (c : Thread nD τ) A arg16)
variable (h17 : Holds (c : Thread nD τ) A arg17)
variable (h18 : Holds (c : Thread nD τ) A arg18)
variable (h19 : Holds (c : Thread nD τ) A arg19)
variable (h20 : Holds (c : Thread nD τ) A arg20)
variable (h21 : Holds (c : Thread nD τ) A arg21)
variable (h22 : Holds (c : Thread nD τ) A arg22)
variable (h23 : Holds (c : Thread nD τ) A arg23)
include h3 h4 h5 h6 h7 h8 h9 h10 h11 h12 h13 h14 h15 h16 h17 h18 h19 h20 h21 h22 h23

theorem part77 (v62 : IVec S128x256 32) (v181 : FVec F S128x256 .f32) (v186 : FVec F S128x256 .bf16) : Safe (defs₀ (F := F)) (c : Thread nD τ) A (k0_part77 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v181 v186) := by
  unfold k0_part77
  with_reducible repeat' first | refine Safe.bind ?_ fun _ => ?_ | exact Safe.pure _ | refine Safe.load ?_ | refine Safe.store ?_ | refine Holds.squeeze ?_ _ | refine Holds.slice ?_ _ _ | assumption

theorem part78 (v62 : IVec S128x256 32) (v226 : FVec F S128x256 .f32) (v231 : FVec F S128x256 .bf16) : Safe (defs₀ (F := F)) (c : Thread nD τ) A (k0_part78 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v226 v231) := by
  unfold k0_part78
  with_reducible repeat' first | refine Safe.bind ?_ fun _ => ?_ | exact Safe.pure _ | refine Safe.load ?_ | refine Safe.store ?_ | refine Holds.squeeze ?_ _ | refine Holds.slice ?_ _ _ | assumption

theorem part79 (v257 : FVec F S512x512 .f32) : Safe (defs₀ (F := F)) (c : Thread nD τ) A (k0_part79 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v257) := by
  unfold k0_part79
  with_reducible repeat' first | refine Safe.bind ?_ fun _ => ?_ | exact Safe.pure _ | refine Safe.load ?_ | refine Safe.store ?_ | refine Holds.squeeze ?_ _ | refine Holds.slice ?_ _ _ | assumption

theorem part80 (arg2 : BitVec 32) (c0_i32_64 : BitVec 32) (c0_i32_65 : BitVec 32) (k0_h4 : k0_cond4 i = 1#1) : Safe (defs₀ (F := F)) (c : Thread nD τ) A (k0_part80 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 c0_i32_64 c0_i32_65 k0_h4) := by
  unfold k0_part80
  with_reducible repeat' first | refine Safe.bind ?_ fun _ => ?_ | exact Safe.pure _ | refine Safe.load ?_ | refine Safe.store ?_ | refine Holds.squeeze ?_ _ | refine Holds.slice ?_ _ _ | assumption

theorem part81 (arg2 : BitVec 32) (c1_i32_67 : BitVec 32) (k0_h4 : k0_cond4 i = 1#1) (v306 : FVec F S1x512 .f32) : Safe (defs₀ (F := F)) (c : Thread nD τ) A (k0_part81 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 c1_i32_67 k0_h4 v306) := by
  unfold k0_part81
  with_reducible repeat' first | refine Safe.bind ?_ fun _ => ?_ | exact Safe.pure _ | refine Safe.load ?_ | refine Safe.store ?_ | refine Holds.squeeze ?_ _ | refine Holds.slice ?_ _ _ | assumption

theorem part82 (arg2 : BitVec 32) (c1_i32_68 : BitVec 32) (c2_i32_70 : BitVec 32) (k0_h4 : k0_cond4 i = 1#1) (v343 : FVec F S1x512 .f32) : Safe (defs₀ (F := F)) (c : Thread nD τ) A (k0_part82 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 c1_i32_68 c2_i32_70 k0_h4 v343) := by
  unfold k0_part82
  with_reducible repeat' first | refine Safe.bind ?_ fun _ => ?_ | exact Safe.pure _ | refine Safe.load ?_ | refine Safe.store ?_ | refine Holds.squeeze ?_ _ | refine Holds.slice ?_ _ _ | assumption

theorem part83 (arg2 : BitVec 32) (c2_i32_71 : BitVec 32) (k0_h4 : k0_cond4 i = 1#1) (v380 : FVec F S1x512 .f32) (v385 : FVec F S144x512 .f32) : Safe (defs₀ (F := F)) (c : Thread nD τ) A (k0_part83 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 c2_i32_71 k0_h4 v380 v385) := by
  unfold k0_part83
  with_reducible repeat' first | refine Safe.bind ?_ fun _ => ?_ | exact Safe.pure _ | refine Safe.load ?_ | refine Safe.store ?_ | refine Holds.squeeze ?_ _ | refine Holds.slice ?_ _ _ | assumption

theorem part84 (c3_i32_73 : BitVec 32) (c3_i32_74 : BitVec 32) (v401 : FVec F S144x512 .bf16) (v417 : FVec F S1x512 .f32) (v420 : FVec F S512x512 .f32) : Safe (defs₀ (F := F)) (c : Thread nD τ) A (k0_part84 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c3_i32_73 c3_i32_74 v401 v417 v420) := by
  unfold k0_part84
  with_reducible repeat' first | refine Safe.bind ?_ fun _ => ?_ | exact Safe.pure _ | refine Safe.load ?_ | refine Safe.store ?_ | refine Holds.squeeze ?_ _ | refine Holds.slice ?_ _ _ | assumption

theorem part85 (v449 : FVec F S1x1 .f32) (v451 : FVec F S1x512 .f32) (v452 : Vec F S1x128x512 .f32) : Safe (defs₀ (F := F)) (c : Thread nD τ) A (k0_part85 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v449 v451 v452) := by
  unfold k0_part85
  with_reducible repeat' first | refine Safe.bind ?_ fun _ => ?_ | exact Safe.pure _ | refine Safe.load ?_ | refine Safe.store ?_ | refine Holds.squeeze ?_ _ | refine Holds.slice ?_ _ _ | assumption

theorem part86 (v449 : FVec F S1x1 .f32) (v492 : FVec F S128x256 .f32) (v493 : FVec F S128x256 .f32) : Safe (defs₀ (F := F)) (c : Thread nD τ) A (k0_part86 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v449 v492 v493) := by
  unfold k0_part86
  with_reducible repeat' first | refine Safe.bind ?_ fun _ => ?_ | exact Safe.pure _ | refine Safe.load ?_ | refine Safe.store ?_ | refine Holds.squeeze ?_ _ | refine Holds.slice ?_ _ _ | assumption

theorem part87 (v449 : FVec F S1x1 .f32) (v531 : FVec F S256x128 .f32) (v532 : Vec F S1x1x128 .f32) : Safe (defs₀ (F := F)) (c : Thread nD τ) A (k0_part87 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v449 v531 v532) := by
  unfold k0_part87
  with_reducible repeat' first | refine Safe.bind ?_ fun _ => ?_ | exact Safe.pure _ | refine Safe.load ?_ | refine Safe.store ?_ | refine Holds.squeeze ?_ _ | refine Holds.slice ?_ _ _ | assumption

theorem part88 : Safe (defs₀ (F := F)) (c : Thread nD τ) A (k0_part88 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  unfold k0_part88
  with_reducible repeat' first | refine Safe.bind ?_ fun _ => ?_ | exact Safe.pure _ | refine Safe.load ?_ | refine Safe.store ?_ | refine Holds.squeeze ?_ _ | refine Holds.slice ?_ _ _ | assumption

theorem part89 (v62 : IVec S128x256 32) (v104 : FVec F S128x256 .bf16) : Safe (defs₀ (F := F)) (c : Thread nD τ) A (k0_part89 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v104) := by
  unfold k0_part89
  with_reducible repeat' first | refine Safe.bind ?_ fun _ => ?_ | exact Safe.pure _ | refine Safe.load ?_ | refine Safe.store ?_ | refine Holds.squeeze ?_ _ | refine Holds.slice ?_ _ _ | assumption

theorem part90 (v62 : IVec S128x256 32) (v136 : FVec F S128x256 .f32) (v146 : IVec S128x256 1) : Safe (defs₀ (F := F)) (c : Thread nD τ) A (k0_part90 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v136 v146) := by
  unfold k0_part90
  with_reducible repeat' first | refine Safe.bind ?_ fun _ => ?_ | exact Safe.pure _ | refine Safe.load ?_ | refine Safe.store ?_ | refine Holds.squeeze ?_ _ | refine Holds.slice ?_ _ _ | assumption

theorem part91 (v62 : IVec S128x256 32) (v181 : FVec F S128x256 .f32) (v186 : FVec F S128x256 .bf16) : Safe (defs₀ (F := F)) (c : Thread nD τ) A (k0_part91 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v62 v181 v186) := by
  unfold k0_part91
  with_reducible repeat' first | refine Safe.bind ?_ fun _ => ?_ | exact Safe.pure _ | refine Safe.load ?_ | refine Safe.store ?_ | refine Holds.squeeze ?_ _ | refine Holds.slice ?_ _ _ | assumption

theorem part92 (v42 : BitVec 32) (k0_h5 : k0_cond5 i = 1#1) (v62 : IVec S128x256 32) (v226 : FVec F S128x256 .f32) (v231 : FVec F S128x256 .bf16) : Safe (defs₀ (F := F)) (c : Thread nD τ) A (k0_part92 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v42 k0_h5 v62 v226 v231) := by
  unfold k0_part92
  with_reducible repeat' first | refine Safe.bind ?_ fun _ => ?_ | exact Safe.pure _ | refine Safe.load ?_ | refine Safe.store ?_ | refine Holds.squeeze ?_ _ | refine Holds.slice ?_ _ _ | assumption

theorem part93 (v42 : BitVec 32) (k0_h5 : k0_cond5 i = 1#1) (v260 : FVec F S512x128 .bf16) (v261 : Vec F S1x128x512 .bf16) : Safe (defs₀ (F := F)) (c : Thread nD τ) A (k0_part93 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v42 k0_h5 v260 v261) := by
  unfold k0_part93
  with_reducible repeat' first | refine Safe.bind ?_ fun _ => ?_ | exact Safe.pure _ | refine Safe.load ?_ | refine Safe.store ?_ | refine Holds.squeeze ?_ _ | refine Holds.slice ?_ _ _ | assumption

theorem part94 (v289 : FVec F S512x512 .f32) : Safe (defs₀ (F := F)) (c : Thread nD τ) A (k0_part94 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v289) := by
  unfold k0_part94
  with_reducible repeat' first | refine Safe.bind ?_ fun _ => ?_ | exact Safe.pure _ | refine Safe.load ?_ | refine Safe.store ?_ | refine Holds.squeeze ?_ _ | refine Holds.slice ?_ _ _ | assumption

theorem part95 (v316 : FVec F S512x512 .f32) : Safe (defs₀ (F := F)) (c : Thread nD τ) A (k0_part95 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v316) := by
  unfold k0_part95
  with_reducible repeat' first | refine Safe.bind ?_ fun _ => ?_ | exact Safe.pure _ | refine Safe.load ?_ | refine Safe.store ?_ | refine Holds.squeeze ?_ _ | refine Holds.slice ?_ _ _ | assumption

theorem part96 (v333 : FVec F S512x512 .f32) : Safe (defs₀ (F := F)) (c : Thread nD τ) A (k0_part96 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v333) := by
  unfold k0_part96
  with_reducible repeat' first | refine Safe.bind ?_ fun _ => ?_ | exact Safe.pure _ | refine Safe.load ?_ | refine Safe.store ?_ | refine Holds.squeeze ?_ _ | refine Holds.slice ?_ _ _ | assumption

theorem part97 (arg2 : BitVec 32) (v42 : BitVec 32) (c0_i32_86 : BitVec 32) (c0_i32_87 : BitVec 32) (k0_h5 : k0_cond5 i = 1#1) (v366 : FVec F S512x512 .f32) : Safe (defs₀ (F := F)) (c : Thread nD τ) A (k0_part97 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v42 c0_i32_86 c0_i32_87 k0_h5 v366) := by
  unfold k0_part97
  with_reducible repeat' first | refine Safe.bind ?_ fun _ => ?_ | exact Safe.pure _ | refine Safe.load ?_ | refine Safe.store ?_ | refine Holds.squeeze ?_ _ | refine Holds.slice ?_ _ _ | assumption

theorem part98 (arg2 : BitVec 32) (v42 : BitVec 32) (c1_i32_89 : BitVec 32) (c1_i32_90 : BitVec 32) (k0_h5 : k0_cond5 i = 1#1) (v404 : FVec F S512x512 .f32) : Safe (defs₀ (F := F)) (c : Thread nD τ) A (k0_part98 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v42 c1_i32_89 c1_i32_90 k0_h5 v404) := by
  unfold k0_part98
  with_reducible repeat' first | refine Safe.bind ?_ fun _ => ?_ | exact Safe.pure _ | refine Safe.load ?_ | refine Safe.store ?_ | refine Holds.squeeze ?_ _ | refine Holds.slice ?_ _ _ | assumption

theorem part99 (arg2 : BitVec 32) (v42 : BitVec 32) (c2_i32_92 : BitVec 32) (c2_i32_93 : BitVec 32) (k0_h5 : k0_cond5 i = 1#1) : Safe (defs₀ (F := F)) (c : Thread nD τ) A (k0_part99 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v42 c2_i32_92 c2_i32_93 k0_h5) := by
  unfold k0_part99
  with_reducible repeat' first | refine Safe.bind ?_ fun _ => ?_ | exact Safe.pure _ | refine Safe.load ?_ | refine Safe.store ?_ | refine Holds.squeeze ?_ _ | refine Holds.slice ?_ _ _ | assumption

theorem part100 (arg2 : BitVec 32) (v42 : BitVec 32) (c3_i32_95 : BitVec 32) (c3_i32_96 : BitVec 32) (k0_h5 : k0_cond5 i = 1#1) : Safe (defs₀ (F := F)) (c : Thread nD τ) A (k0_part100 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v42 c3_i32_95 c3_i32_96 k0_h5) := by
  unfold k0_part100
  with_reducible repeat' first | refine Safe.bind ?_ fun _ => ?_ | exact Safe.pure _ | refine Safe.load ?_ | refine Safe.store ?_ | refine Holds.squeeze ?_ _ | refine Holds.slice ?_ _ _ | assumption

theorem part101 (k0_h6 : k0_cond6 i = 1#1) (c0_i32_129 : BitVec 32) (c1_i32_131 : BitVec 32) (k0_t1 : Fin (k0_t1_loop i).trips) : Safe (defs₀ (F := F)) (c : Thread nD τ) A (k0_part101 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 c0_i32_129 c1_i32_131 k0_t1) := by
  unfold k0_part101
  with_reducible repeat' first | refine Safe.bind ?_ fun _ => ?_ | exact Safe.pure _ | refine Safe.load ?_ | refine Safe.store ?_ | refine Holds.squeeze ?_ _ | refine Holds.slice ?_ _ _ | assumption

theorem part102 (k0_h6 : k0_cond6 i = 1#1) (k0_t1 : Fin (k0_t1_loop i).trips) (v113 : BitVec 32) (v138 : FVec F S512x128 .bf16) (v140 : FVec F S128x512 .bf16) : Safe (defs₀ (F := F)) (c : Thread nD τ) A (k0_part102 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t1 v113 v138 v140) := by
  unfold k0_part102
  with_reducible repeat' first | refine Safe.bind ?_ fun _ => ?_ | exact Safe.pure _ | refine Safe.load ?_ | refine Safe.store ?_ | refine Holds.squeeze ?_ _ | refine Holds.slice ?_ _ _ | assumption

theorem part103 (k0_h6 : k0_cond6 i = 1#1) (k0_t1 : Fin (k0_t1_loop i).trips) (v113 : BitVec 32) (v161 : FVec F S512x512 .f32) : Safe (defs₀ (F := F)) (c : Thread nD τ) A (k0_part103 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t1 v113 v161) := by
  unfold k0_part103
  with_reducible repeat' first | refine Safe.bind ?_ fun _ => ?_ | exact Safe.pure _ | refine Safe.load ?_ | refine Safe.store ?_ | refine Holds.squeeze ?_ _ | refine Holds.slice ?_ _ _ | assumption

theorem part104 (c0_i32_108 : BitVec 32) (c0_i32_109 : BitVec 32) (k0_h6 : k0_cond6 i = 1#1) (k0_t1 : Fin (k0_t1_loop i).trips) (v194 : BitVec 32) : Safe (defs₀ (F := F)) (c : Thread nD τ) A (k0_part104 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_108 c0_i32_109 k0_h6 k0_t1 v194) := by
  unfold k0_part104
  with_reducible repeat' first | refine Safe.bind ?_ fun _ => ?_ | exact Safe.pure _ | refine Safe.load ?_ | refine Safe.store ?_ | refine Holds.squeeze ?_ _ | refine Holds.slice ?_ _ _ | assumption

theorem part105 (c1_i32_111 : BitVec 32) (c1_i32_112 : BitVec 32) (k0_h6 : k0_cond6 i = 1#1) (k0_t1 : Fin (k0_t1_loop i).trips) (v194 : BitVec 32) (v232 : FVec F S1x1x512 .f32) : Safe (defs₀ (F := F)) (c : Thread nD τ) A (k0_part105 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c1_i32_111 c1_i32_112 k0_h6 k0_t1 v194 v232) := by
  unfold k0_part105
  with_reducible repeat' first | refine Safe.bind ?_ fun _ => ?_ | exact Safe.pure _ | refine Safe.load ?_ | refine Safe.store ?_ | refine Holds.squeeze ?_ _ | refine Holds.slice ?_ _ _ | assumption

theorem part106 (c1_i32_111 : BitVec 32) (c2_i32_114 : BitVec 32) (c2_i32_115 : BitVec 32) (k0_h6 : k0_cond6 i = 1#1) (k0_t1 : Fin (k0_t1_loop i).trips) (v194 : BitVec 32) (v249 : FVec F S1x512 .f32) : Safe (defs₀ (F := F)) (c : Thread nD τ) A (k0_part106 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c1_i32_111 c2_i32_114 c2_i32_115 k0_h6 k0_t1 v194 v249) := by
  unfold k0_part106
  with_reducible repeat' first | refine Safe.bind ?_ fun _ => ?_ | exact Safe.pure _ | refine Safe.load ?_ | refine Safe.store ?_ | refine Holds.squeeze ?_ _ | refine Holds.slice ?_ _ _ | assumption

theorem part107 (c2_i32_114 : BitVec 32) (c3_i32_117 : BitVec 32) (c3_i32_118 : BitVec 32) (k0_h6 : k0_cond6 i = 1#1) (k0_t1 : Fin (k0_t1_loop i).trips) (v194 : BitVec 32) (v287 : FVec F S1x512 .f32) (v300 : FVec F S144x512 .f32) : Safe (defs₀ (F := F)) (c : Thread nD τ) A (k0_part107 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c2_i32_114 c3_i32_117 c3_i32_118 k0_h6 k0_t1 v194 v287 v300) := by
  unfold k0_part107
  with_reducible repeat' first | refine Safe.bind ?_ fun _ => ?_ | exact Safe.pure _ | refine Safe.load ?_ | refine Safe.store ?_ | refine Holds.squeeze ?_ _ | refine Holds.slice ?_ _ _ | assumption

theorem part108 (c3_i32_117 : BitVec 32) (c3_i32_118 : BitVec 32) (k0_h6 : k0_cond6 i = 1#1) (k0_t1 : Fin (k0_t1_loop i).trips) (v113 : BitVec 32) (v317 : FVec F S144x512 .bf16) (v325 : FVec F S1x512 .f32) (v327 : FVec F S1x512 .f32) (v331 : FVec F S512x512 .bf16) (v334 : FVec F S144x512 .f32) : Safe (defs₀ (F := F)) (c : Thread nD τ) A (k0_part108 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c3_i32_117 c3_i32_118 k0_h6 k0_t1 v113 v317 v325 v327 v331 v334) := by
  unfold k0_part108
  with_reducible repeat' first | refine Safe.bind ?_ fun _ => ?_ | exact Safe.pure _ | refine Safe.load ?_ | refine Safe.store ?_ | refine Holds.squeeze ?_ _ | refine Holds.slice ?_ _ _ | assumption

theorem part109 (k0_h6 : k0_cond6 i = 1#1) (k0_t1 : Fin (k0_t1_loop i).trips) (v347 : BitVec 32) (v355 : FVec F S512x512 .f32) (v365 : Vec F S1x512x512 .f32) : Safe (defs₀ (F := F)) (c : Thread nD τ) A (k0_part109 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t1 v347 v355 v365) := by
  unfold k0_part109
  with_reducible repeat' first | refine Safe.bind ?_ fun _ => ?_ | exact Safe.pure _ | refine Safe.load ?_ | refine Safe.store ?_ | refine Holds.squeeze ?_ _ | refine Holds.slice ?_ _ _ | assumption

theorem part110 (k0_h6 : k0_cond6 i = 1#1) (k0_t1 : Fin (k0_t1_loop i).trips) (v347 : BitVec 32) (v395 : FVec F S512x512 .f32) : Safe (defs₀ (F := F)) (c : Thread nD τ) A (k0_part110 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t1 v347 v395) := by
  unfold k0_part110
  with_reducible repeat' first | refine Safe.bind ?_ fun _ => ?_ | exact Safe.pure _ | refine Safe.load ?_ | refine Safe.store ?_ | refine Holds.squeeze ?_ _ | refine Holds.slice ?_ _ _ | assumption

theorem part111 (c0_i32_108 : BitVec 32) (c0_i32_109 : BitVec 32) (k0_h6 : k0_cond6 i = 1#1) (k0_t1 : Fin (k0_t1_loop i).trips) (v113 : BitVec 32) (v415 : FVec F S512x512 .f32) : Safe (defs₀ (F := F)) (c : Thread nD τ) A (k0_part111 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_108 c0_i32_109 k0_h6 k0_t1 v113 v415) := by
  unfold k0_part111
  with_reducible repeat' first | refine Safe.bind ?_ fun _ => ?_ | exact Safe.pure _ | refine Safe.load ?_ | refine Safe.store ?_ | refine Holds.squeeze ?_ _ | refine Holds.slice ?_ _ _ | assumption

theorem part112 (c0_i32_108 : BitVec 32) (c0_i32_109 : BitVec 32) (c1_i32_111 : BitVec 32) (c1_i32_112 : BitVec 32) (k0_h6 : k0_cond6 i = 1#1) (k0_t1 : Fin (k0_t1_loop i).trips) (v113 : BitVec 32) (v444 : FVec F S1x512 .f32) (v455 : FVec F S144x512 .f32) (v456 : FVec F S144x512 .f32) : Safe (defs₀ (F := F)) (c : Thread nD τ) A (k0_part112 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_108 c0_i32_109 c1_i32_111 c1_i32_112 k0_h6 k0_t1 v113 v444 v455 v456) := by
  unfold k0_part112
  with_reducible repeat' first | refine Safe.bind ?_ fun _ => ?_ | exact Safe.pure _ | refine Safe.load ?_ | refine Safe.store ?_ | refine Holds.squeeze ?_ _ | refine Holds.slice ?_ _ _ | assumption

theorem part113 (c1_i32_111 : BitVec 32) (c1_i32_112 : BitVec 32) (c2_i32_114 : BitVec 32) (k0_h6 : k0_cond6 i = 1#1) (k0_t1 : Fin (k0_t1_loop i).trips) (v113 : BitVec 32) (v474 : FVec F S144x512 .bf16) (v482 : FVec F S1x512 .f32) (v484 : FVec F S1x512 .f32) (v488 : FVec F S512x512 .bf16) : Safe (defs₀ (F := F)) (c : Thread nD τ) A (k0_part113 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c1_i32_111 c1_i32_112 c2_i32_114 k0_h6 k0_t1 v113 v474 v482 v484 v488) := by
  unfold k0_part113
  with_reducible repeat' first | refine Safe.bind ?_ fun _ => ?_ | exact Safe.pure _ | refine Safe.load ?_ | refine Safe.store ?_ | refine Holds.squeeze ?_ _ | refine Holds.slice ?_ _ _ | assumption

theorem part114 (c2_i32_114 : BitVec 32) (c2_i32_115 : BitVec 32) (c3_i32_117 : BitVec 32) (k0_h6 : k0_cond6 i = 1#1) (k0_t1 : Fin (k0_t1_loop i).trips) (v113 : BitVec 32) (v507 : FVec F S512x512 .f32) (v512 : FVec F S144x512 .bf16) (v520 : FVec F S1x512 .f32) (v522 : FVec F S1x512 .f32) (v523 : FVec F S512x512 .f32) : Safe (defs₀ (F := F)) (c : Thread nD τ) A (k0_part114 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c2_i32_114 c2_i32_115 c3_i32_117 k0_h6 k0_t1 v113 v507 v512 v520 v522 v523) := by
  unfold k0_part114
  with_reducible repeat' first | refine Safe.bind ?_ fun _ => ?_ | exact Safe.pure _ | refine Safe.load ?_ | refine Safe.store ?_ | refine Holds.squeeze ?_ _ | refine Holds.slice ?_ _ _ | assumption

theorem part115 (k0_h6 : k0_cond6 i = 1#1) (v84 : BitVec 32) (c1_i32_132 : BitVec 32) (k0_t2 : Fin (k0_t2_loop i).trips) : Safe (defs₀ (F := F)) (c : Thread nD τ) A (k0_part115 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 v84 c1_i32_132 k0_t2) := by
  unfold k0_part115
  with_reducible repeat' first | refine Safe.bind ?_ fun _ => ?_ | exact Safe.pure _ | refine Safe.load ?_ | refine Safe.store ?_ | refine Holds.squeeze ?_ _ | refine Holds.slice ?_ _ _ | assumption

theorem part116 (k0_h6 : k0_cond6 i = 1#1) (k0_t2 : Fin (k0_t2_loop i).trips) (v113 : BitVec 32) (v138 : FVec F S512x128 .bf16) (v140 : FVec F S128x512 .bf16) : Safe (defs₀ (F := F)) (c : Thread nD τ) A (k0_part116 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t2 v113 v138 v140) := by
  unfold k0_part116
  with_reducible repeat' first | refine Safe.bind ?_ fun _ => ?_ | exact Safe.pure _ | refine Safe.load ?_ | refine Safe.store ?_ | refine Holds.squeeze ?_ _ | refine Holds.slice ?_ _ _ | assumption

theorem part117 (k0_h6 : k0_cond6 i = 1#1) (k0_t2 : Fin (k0_t2_loop i).trips) (v113 : BitVec 32) (v161 : FVec F S512x512 .f32) : Safe (defs₀ (F := F)) (c : Thread nD τ) A (k0_part117 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t2 v113 v161) := by
  unfold k0_part117
  with_reducible repeat' first | refine Safe.bind ?_ fun _ => ?_ | exact Safe.pure _ | refine Safe.load ?_ | refine Safe.store ?_ | refine Holds.squeeze ?_ _ | refine Holds.slice ?_ _ _ | assumption

theorem part118 (c0_i32_108 : BitVec 32) (c0_i32_109 : BitVec 32) (k0_h6 : k0_cond6 i = 1#1) (k0_t2 : Fin (k0_t2_loop i).trips) (v194 : BitVec 32) : Safe (defs₀ (F := F)) (c : Thread nD τ) A (k0_part118 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_108 c0_i32_109 k0_h6 k0_t2 v194) := by
  unfold k0_part118
  with_reducible repeat' first | refine Safe.bind ?_ fun _ => ?_ | exact Safe.pure _ | refine Safe.load ?_ | refine Safe.store ?_ | refine Holds.squeeze ?_ _ | refine Holds.slice ?_ _ _ | assumption

theorem part119 (c1_i32_111 : BitVec 32) (c1_i32_112 : BitVec 32) (k0_h6 : k0_cond6 i = 1#1) (k0_t2 : Fin (k0_t2_loop i).trips) (v194 : BitVec 32) (v232 : FVec F S1x1x512 .f32) : Safe (defs₀ (F := F)) (c : Thread nD τ) A (k0_part119 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c1_i32_111 c1_i32_112 k0_h6 k0_t2 v194 v232) := by
  unfold k0_part119
  with_reducible repeat' first | refine Safe.bind ?_ fun _ => ?_ | exact Safe.pure _ | refine Safe.load ?_ | refine Safe.store ?_ | refine Holds.squeeze ?_ _ | refine Holds.slice ?_ _ _ | assumption

theorem part120 (c1_i32_111 : BitVec 32) (c2_i32_114 : BitVec 32) (c2_i32_115 : BitVec 32) (k0_h6 : k0_cond6 i = 1#1) (k0_t2 : Fin (k0_t2_loop i).trips) (v194 : BitVec 32) (v249 : FVec F S1x512 .f32) : Safe (defs₀ (F := F)) (c : Thread nD τ) A (k0_part120 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c1_i32_111 c2_i32_114 c2_i32_115 k0_h6 k0_t2 v194 v249) := by
  unfold k0_part120
  with_reducible repeat' first | refine Safe.bind ?_ fun _ => ?_ | exact Safe.pure _ | refine Safe.load ?_ | refine Safe.store ?_ | refine Holds.squeeze ?_ _ | refine Holds.slice ?_ _ _ | assumption

theorem part121 (c2_i32_114 : BitVec 32) (c3_i32_117 : BitVec 32) (c3_i32_118 : BitVec 32) (k0_h6 : k0_cond6 i = 1#1) (k0_t2 : Fin (k0_t2_loop i).trips) (v194 : BitVec 32) (v287 : FVec F S1x512 .f32) (v300 : FVec F S144x512 .f32) : Safe (defs₀ (F := F)) (c : Thread nD τ) A (k0_part121 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c2_i32_114 c3_i32_117 c3_i32_118 k0_h6 k0_t2 v194 v287 v300) := by
  unfold k0_part121
  with_reducible repeat' first | refine Safe.bind ?_ fun _ => ?_ | exact Safe.pure _ | refine Safe.load ?_ | refine Safe.store ?_ | refine Holds.squeeze ?_ _ | refine Holds.slice ?_ _ _ | assumption

theorem part122 (c3_i32_117 : BitVec 32) (c3_i32_118 : BitVec 32) (k0_h6 : k0_cond6 i = 1#1) (k0_t2 : Fin (k0_t2_loop i).trips) (v113 : BitVec 32) (v317 : FVec F S144x512 .bf16) (v325 : FVec F S1x512 .f32) (v327 : FVec F S1x512 .f32) (v331 : FVec F S512x512 .bf16) (v334 : FVec F S144x512 .f32) : Safe (defs₀ (F := F)) (c : Thread nD τ) A (k0_part122 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c3_i32_117 c3_i32_118 k0_h6 k0_t2 v113 v317 v325 v327 v331 v334) := by
  unfold k0_part122
  with_reducible repeat' first | refine Safe.bind ?_ fun _ => ?_ | exact Safe.pure _ | refine Safe.load ?_ | refine Safe.store ?_ | refine Holds.squeeze ?_ _ | refine Holds.slice ?_ _ _ | assumption

theorem part123 (k0_h6 : k0_cond6 i = 1#1) (k0_t2 : Fin (k0_t2_loop i).trips) (v347 : BitVec 32) (v355 : FVec F S512x512 .f32) (v365 : Vec F S1x512x512 .f32) : Safe (defs₀ (F := F)) (c : Thread nD τ) A (k0_part123 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t2 v347 v355 v365) := by
  unfold k0_part123
  with_reducible repeat' first | refine Safe.bind ?_ fun _ => ?_ | exact Safe.pure _ | refine Safe.load ?_ | refine Safe.store ?_ | refine Holds.squeeze ?_ _ | refine Holds.slice ?_ _ _ | assumption

theorem part124 (k0_h6 : k0_cond6 i = 1#1) (k0_t2 : Fin (k0_t2_loop i).trips) (v347 : BitVec 32) (v395 : FVec F S512x512 .f32) : Safe (defs₀ (F := F)) (c : Thread nD τ) A (k0_part124 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t2 v347 v395) := by
  unfold k0_part124
  with_reducible repeat' first | refine Safe.bind ?_ fun _ => ?_ | exact Safe.pure _ | refine Safe.load ?_ | refine Safe.store ?_ | refine Holds.squeeze ?_ _ | refine Holds.slice ?_ _ _ | assumption

theorem part125 (c0_i32_108 : BitVec 32) (c0_i32_109 : BitVec 32) (k0_h6 : k0_cond6 i = 1#1) (k0_t2 : Fin (k0_t2_loop i).trips) (v113 : BitVec 32) (v415 : FVec F S512x512 .f32) : Safe (defs₀ (F := F)) (c : Thread nD τ) A (k0_part125 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_108 c0_i32_109 k0_h6 k0_t2 v113 v415) := by
  unfold k0_part125
  with_reducible repeat' first | refine Safe.bind ?_ fun _ => ?_ | exact Safe.pure _ | refine Safe.load ?_ | refine Safe.store ?_ | refine Holds.squeeze ?_ _ | refine Holds.slice ?_ _ _ | assumption

theorem part126 (c0_i32_108 : BitVec 32) (c0_i32_109 : BitVec 32) (c1_i32_111 : BitVec 32) (c1_i32_112 : BitVec 32) (k0_h6 : k0_cond6 i = 1#1) (k0_t2 : Fin (k0_t2_loop i).trips) (v113 : BitVec 32) (v444 : FVec F S1x512 .f32) (v455 : FVec F S144x512 .f32) (v456 : FVec F S144x512 .f32) : Safe (defs₀ (F := F)) (c : Thread nD τ) A (k0_part126 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_108 c0_i32_109 c1_i32_111 c1_i32_112 k0_h6 k0_t2 v113 v444 v455 v456) := by
  unfold k0_part126
  with_reducible repeat' first | refine Safe.bind ?_ fun _ => ?_ | exact Safe.pure _ | refine Safe.load ?_ | refine Safe.store ?_ | refine Holds.squeeze ?_ _ | refine Holds.slice ?_ _ _ | assumption

theorem part127 (c1_i32_111 : BitVec 32) (c1_i32_112 : BitVec 32) (c2_i32_114 : BitVec 32) (k0_h6 : k0_cond6 i = 1#1) (k0_t2 : Fin (k0_t2_loop i).trips) (v113 : BitVec 32) (v474 : FVec F S144x512 .bf16) (v482 : FVec F S1x512 .f32) (v484 : FVec F S1x512 .f32) (v488 : FVec F S512x512 .bf16) : Safe (defs₀ (F := F)) (c : Thread nD τ) A (k0_part127 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c1_i32_111 c1_i32_112 c2_i32_114 k0_h6 k0_t2 v113 v474 v482 v484 v488) := by
  unfold k0_part127
  with_reducible repeat' first | refine Safe.bind ?_ fun _ => ?_ | exact Safe.pure _ | refine Safe.load ?_ | refine Safe.store ?_ | refine Holds.squeeze ?_ _ | refine Holds.slice ?_ _ _ | assumption

theorem part128 (c2_i32_114 : BitVec 32) (c2_i32_115 : BitVec 32) (c3_i32_117 : BitVec 32) (k0_h6 : k0_cond6 i = 1#1) (k0_t2 : Fin (k0_t2_loop i).trips) (v113 : BitVec 32) (v507 : FVec F S512x512 .f32) (v512 : FVec F S144x512 .bf16) (v520 : FVec F S1x512 .f32) (v522 : FVec F S1x512 .f32) (v523 : FVec F S512x512 .f32) : Safe (defs₀ (F := F)) (c : Thread nD τ) A (k0_part128 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c2_i32_114 c2_i32_115 c3_i32_117 k0_h6 k0_t2 v113 v507 v512 v520 v522 v523) := by
  unfold k0_part128
  with_reducible repeat' first | refine Safe.bind ?_ fun _ => ?_ | exact Safe.pure _ | refine Safe.load ?_ | refine Safe.store ?_ | refine Holds.squeeze ?_ _ | refine Holds.slice ?_ _ _ | assumption

theorem part129 (k0_h6 : k0_cond6 i = 1#1) (v85 : BitVec 32) (k0_h7 : k0_cond7 i = 1#1) : Safe (defs₀ (F := F)) (c : Thread nD τ) A (k0_part129 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 v85 k0_h7) := by
  unfold k0_part129
  with_reducible repeat' first | refine Safe.bind ?_ fun _ => ?_ | exact Safe.pure _ | refine Safe.load ?_ | refine Safe.store ?_ | refine Holds.squeeze ?_ _ | refine Holds.slice ?_ _ _ | assumption

theorem part130 (k0_h6 : k0_cond6 i = 1#1) (k0_h7 : k0_cond7 i = 1#1) (v112 : BitVec 32) (v140 : FVec F S512x512 .f32) : Safe (defs₀ (F := F)) (c : Thread nD τ) A (k0_part130 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_h7 v112 v140) := by
  unfold k0_part130
  with_reducible repeat' first | refine Safe.bind ?_ fun _ => ?_ | exact Safe.pure _ | refine Safe.load ?_ | refine Safe.store ?_ | refine Holds.squeeze ?_ _ | refine Holds.slice ?_ _ _ | assumption

theorem part131 (k0_h6 : k0_cond6 i = 1#1) (k0_h7 : k0_cond7 i = 1#1) (v112 : BitVec 32) (v160 : FVec F S512x512 .f32) : Safe (defs₀ (F := F)) (c : Thread nD τ) A (k0_part131 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_h7 v112 v160) := by
  unfold k0_part131
  with_reducible repeat' first | refine Safe.bind ?_ fun _ => ?_ | exact Safe.pure _ | refine Safe.load ?_ | refine Safe.store ?_ | refine Holds.squeeze ?_ _ | refine Holds.slice ?_ _ _ | assumption

theorem part132 (c0_i32_108 : BitVec 32) (c0_i32_109 : BitVec 32) (k0_h6 : k0_cond6 i = 1#1) (v85 : BitVec 32) (k0_h7 : k0_cond7 i = 1#1) (v196 : FVec F S512x512 .f32) : Safe (defs₀ (F := F)) (c : Thread nD τ) A (k0_part132 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_108 c0_i32_109 k0_h6 v85 k0_h7 v196) := by
  unfold k0_part132
  with_reducible repeat' first | refine Safe.bind ?_ fun _ => ?_ | exact Safe.pure _ | refine Safe.load ?_ | refine Safe.store ?_ | refine Holds.squeeze ?_ _ | refine Holds.slice ?_ _ _ | assumption

theorem part133 (c1_i32_111 : BitVec 32) (c1_i32_112 : BitVec 32) (k0_h6 : k0_cond6 i = 1#1) (v85 : BitVec 32) (k0_h7 : k0_cond7 i = 1#1) : Safe (defs₀ (F := F)) (c : Thread nD τ) A (k0_part133 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c1_i32_111 c1_i32_112 k0_h6 v85 k0_h7) := by
  unfold k0_part133
  with_reducible repeat' first | refine Safe.bind ?_ fun _ => ?_ | exact Safe.pure _ | refine Safe.load ?_ | refine Safe.store ?_ | refine Holds.squeeze ?_ _ | refine Holds.slice ?_ _ _ | assumption

theorem part134 (c2_i32_114 : BitVec 32) (c2_i32_115 : BitVec 32) (k0_h6 : k0_cond6 i = 1#1) (v85 : BitVec 32) (k0_h7 : k0_cond7 i = 1#1) (v247 : FVec F S1x512 .f32) : Safe (defs₀ (F := F)) (c : Thread nD τ) A (k0_part134 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c2_i32_114 c2_i32_115 k0_h6 v85 k0_h7 v247) := by
  unfold k0_part134
  with_reducible repeat' first | refine Safe.bind ?_ fun _ => ?_ | exact Safe.pure _ | refine Safe.load ?_ | refine Safe.store ?_ | refine Holds.squeeze ?_ _ | refine Holds.slice ?_ _ _ | assumption

theorem part135 (c2_i32_114 : BitVec 32) (c3_i32_117 : BitVec 32) (c3_i32_118 : BitVec 32) (k0_h6 : k0_cond6 i = 1#1) (v85 : BitVec 32) (k0_h7 : k0_cond7 i = 1#1) (v285 : FVec F S1x512 .f32) (v302 : FVec F S1x144x512 .f32) : Safe (defs₀ (F := F)) (c : Thread nD τ) A (k0_part135 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c2_i32_114 c3_i32_117 c3_i32_118 k0_h6 v85 k0_h7 v285 v302) := by
  unfold k0_part135
  with_reducible repeat' first | refine Safe.bind ?_ fun _ => ?_ | exact Safe.pure _ | refine Safe.load ?_ | refine Safe.store ?_ | refine Holds.squeeze ?_ _ | refine Holds.slice ?_ _ _ | assumption

theorem part136 (c0_i32_108 : BitVec 32) (c0_i32_109 : BitVec 32) (c3_i32_117 : BitVec 32) (c3_i32_118 : BitVec 32) (k0_h6 : k0_cond6 i = 1#1) (v85 : BitVec 32) (k0_h7 : k0_cond7 i = 1#1) (v323 : FVec F S1x512 .f32) (v336 : FVec F S144x512 .f32) : Safe (defs₀ (F := F)) (c : Thread nD τ) A (k0_part136 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_108 c0_i32_109 c3_i32_117 c3_i32_118 k0_h6 v85 k0_h7 v323 v336) := by
  unfold k0_part136
  with_reducible repeat' first | refine Safe.bind ?_ fun _ => ?_ | exact Safe.pure _ | refine Safe.load ?_ | refine Safe.store ?_ | refine Holds.squeeze ?_ _ | refine Holds.slice ?_ _ _ | assumption

theorem part137 (c0_i32_108 : BitVec 32) (c0_i32_109 : BitVec 32) (c1_i32_111 : BitVec 32) (k0_h6 : k0_cond6 i = 1#1) (k0_h7 : k0_cond7 i = 1#1) (v345 : BitVec 32) (v354 : FVec F S144x512 .bf16) (v362 : FVec F S1x512 .f32) (v364 : FVec F S1x512 .f32) (v368 : FVec F S512x512 .bf16) : Safe (defs₀ (F := F)) (c : Thread nD τ) A (k0_part137 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_108 c0_i32_109 c1_i32_111 k0_h6 k0_h7 v345 v354 v362 v364 v368) := by
  unfold k0_part137
  with_reducible repeat' first | refine Safe.bind ?_ fun _ => ?_ | exact Safe.pure _ | refine Safe.load ?_ | refine Safe.store ?_ | refine Holds.squeeze ?_ _ | refine Holds.slice ?_ _ _ | assumption

theorem part138 (c1_i32_111 : BitVec 32) (c1_i32_112 : BitVec 32) (c2_i32_114 : BitVec 32) (k0_h6 : k0_cond6 i = 1#1) (k0_h7 : k0_cond7 i = 1#1) (v345 : BitVec 32) (v387 : FVec F S512x512 .f32) (v392 : FVec F S144x512 .bf16) (v400 : FVec F S1x512 .f32) (v402 : FVec F S1x512 .f32) : Safe (defs₀ (F := F)) (c : Thread nD τ) A (k0_part138 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c1_i32_111 c1_i32_112 c2_i32_114 k0_h6 k0_h7 v345 v387 v392 v400 v402) := by
  unfold k0_part138
  with_reducible repeat' first | refine Safe.bind ?_ fun _ => ?_ | exact Safe.pure _ | refine Safe.load ?_ | refine Safe.store ?_ | refine Holds.squeeze ?_ _ | refine Holds.slice ?_ _ _ | assumption

theorem part139 (c2_i32_114 : BitVec 32) (c2_i32_115 : BitVec 32) (c3_i32_117 : BitVec 32) (k0_h6 : k0_cond6 i = 1#1) (k0_h7 : k0_cond7 i = 1#1) (v345 : BitVec 32) (v425 : FVec F S512x512 .f32) (v430 : FVec F S144x512 .bf16) (v433 : FVec F S1x512 .f32) : Safe (defs₀ (F := F)) (c : Thread nD τ) A (k0_part139 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c2_i32_114 c2_i32_115 c3_i32_117 k0_h6 k0_h7 v345 v425 v430 v433) := by
  unfold k0_part139
  with_reducible repeat' first | refine Safe.bind ?_ fun _ => ?_ | exact Safe.pure _ | refine Safe.load ?_ | refine Safe.store ?_ | refine Holds.squeeze ?_ _ | refine Holds.slice ?_ _ _ | assumption

theorem part140 (c3_i32_117 : BitVec 32) (c3_i32_118 : BitVec 32) (v463 : FVec F S512x512 .f32) (v468 : FVec F S144x512 .bf16) (v471 : FVec F S1x512 .f32) : Safe (defs₀ (F := F)) (c : Thread nD τ) A (k0_part140 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c3_i32_117 c3_i32_118 v463 v468 v471) := by
  unfold k0_part140
  with_reducible repeat' first | refine Safe.bind ?_ fun _ => ?_ | exact Safe.pure _ | refine Safe.load ?_ | refine Safe.store ?_ | refine Holds.squeeze ?_ _ | refine Holds.slice ?_ _ _ | assumption

theorem part141 (v505 : FVec F S1x1 .f32) (v507 : FVec F S1x64 .f32) : Safe (defs₀ (F := F)) (c : Thread nD τ) A (k0_part141 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v505 v507) := by
  unfold k0_part141
  with_reducible repeat' first | refine Safe.bind ?_ fun _ => ?_ | exact Safe.pure _ | refine Safe.load ?_ | refine Safe.store ?_ | refine Holds.squeeze ?_ _ | refine Holds.slice ?_ _ _ | assumption

theorem part142 (v516 : FVec F S1x1 .f32) (v547 : FVec F S256x128 .bf16) : Safe (defs₀ (F := F)) (c : Thread nD τ) A (k0_part142 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v516 v547) := by
  unfold k0_part142
  with_reducible repeat' first | refine Safe.bind ?_ fun _ => ?_ | exact Safe.pure _ | refine Safe.load ?_ | refine Safe.store ?_ | refine Holds.squeeze ?_ _ | refine Holds.slice ?_ _ _ | assumption

theorem part143 (v516 : FVec F S1x1 .f32) : Safe (defs₀ (F := F)) (c : Thread nD τ) A (k0_part143 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v516) := by
  unfold k0_part143
  with_reducible repeat' first | refine Safe.bind ?_ fun _ => ?_ | exact Safe.pure _ | refine Safe.load ?_ | refine Safe.store ?_ | refine Holds.squeeze ?_ _ | refine Holds.slice ?_ _ _ | assumption

theorem part144 (c0_i32_108 : BitVec 32) (c0_i32_109 : BitVec 32) (k0_h6 : k0_cond6 i = 1#1) (v85 : BitVec 32) (k0_h8 : k0_cond8 i = 1#1) : Safe (defs₀ (F := F)) (c : Thread nD τ) A (k0_part144 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_108 c0_i32_109 k0_h6 v85 k0_h8) := by
  unfold k0_part144
  with_reducible repeat' first | refine Safe.bind ?_ fun _ => ?_ | exact Safe.pure _ | refine Safe.load ?_ | refine Safe.store ?_ | refine Holds.squeeze ?_ _ | refine Holds.slice ?_ _ _ | assumption

theorem part145 (c1_i32_111 : BitVec 32) (c1_i32_112 : BitVec 32) (k0_h6 : k0_cond6 i = 1#1) (v85 : BitVec 32) (k0_h8 : k0_cond8 i = 1#1) (v128 : FVec F S1x512 .f32) : Safe (defs₀ (F := F)) (c : Thread nD τ) A (k0_part145 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c1_i32_111 c1_i32_112 k0_h6 v85 k0_h8 v128) := by
  unfold k0_part145
  with_reducible repeat' first | refine Safe.bind ?_ fun _ => ?_ | exact Safe.pure _ | refine Safe.load ?_ | refine Safe.store ?_ | refine Holds.squeeze ?_ _ | refine Holds.slice ?_ _ _ | assumption

theorem part146 (c1_i32_111 : BitVec 32) (c2_i32_114 : BitVec 32) (c2_i32_115 : BitVec 32) (k0_h6 : k0_cond6 i = 1#1) (v85 : BitVec 32) (k0_h8 : k0_cond8 i = 1#1) (v166 : FVec F S1x512 .f32) (v179 : FVec F S144x512 .f32) : Safe (defs₀ (F := F)) (c : Thread nD τ) A (k0_part146 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c1_i32_111 c2_i32_114 c2_i32_115 k0_h6 v85 k0_h8 v166 v179) := by
  unfold k0_part146
  with_reducible repeat' first | refine Safe.bind ?_ fun _ => ?_ | exact Safe.pure _ | refine Safe.load ?_ | refine Safe.store ?_ | refine Holds.squeeze ?_ _ | refine Holds.slice ?_ _ _ | assumption

theorem part147 (c2_i32_114 : BitVec 32) (c2_i32_115 : BitVec 32) (c3_i32_117 : BitVec 32) (k0_h6 : k0_cond6 i = 1#1) (v85 : BitVec 32) (k0_h8 : k0_cond8 i = 1#1) (v196 : FVec F S144x512 .bf16) (v204 : FVec F S1x512 .f32) (v210 : FVec F S512x512 .bf16) (v213 : FVec F S144x512 .f32) (v214 : FVec F S144x512 .f32) : Safe (defs₀ (F := F)) (c : Thread nD τ) A (k0_part147 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c2_i32_114 c2_i32_115 c3_i32_117 k0_h6 v85 k0_h8 v196 v204 v210 v213 v214) := by
  unfold k0_part147
  with_reducible repeat' first | refine Safe.bind ?_ fun _ => ?_ | exact Safe.pure _ | refine Safe.load ?_ | refine Safe.store ?_ | refine Holds.squeeze ?_ _ | refine Holds.slice ?_ _ _ | assumption

theorem part148 (c3_i32_117 : BitVec 32) (c3_i32_118 : BitVec 32) (v234 : FVec F S144x512 .bf16) (v242 : FVec F S1x512 .f32) (v244 : FVec F S1x512 .f32) (v248 : FVec F S512x512 .bf16) : Safe (defs₀ (F := F)) (c : Thread nD τ) A (k0_part148 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c3_i32_117 c3_i32_118 v234 v242 v244 v248) := by
  unfold k0_part148
  with_reducible repeat' first | refine Safe.bind ?_ fun _ => ?_ | exact Safe.pure _ | refine Safe.load ?_ | refine Safe.store ?_ | refine Holds.squeeze ?_ _ | refine Holds.slice ?_ _ _ | assumption

theorem part149 (v282 : FVec F S1x1 .f32) : Safe (defs₀ (F := F)) (c : Thread nD τ) A (k0_part149 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v282) := by
  unfold k0_part149
  with_reducible repeat' first | refine Safe.bind ?_ fun _ => ?_ | exact Safe.pure _ | refine Safe.load ?_ | refine Safe.store ?_ | refine Holds.squeeze ?_ _ | refine Holds.slice ?_ _ _ | assumption

theorem part150 (v282 : FVec F S1x1 .f32) (v318 : FVec F S1x512 .f32) (v320 : FVec F S128x512 .f32) : Safe (defs₀ (F := F)) (c : Thread nD τ) A (k0_part150 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v282 v318 v320) := by
  unfold k0_part150
  with_reducible repeat' first | refine Safe.bind ?_ fun _ => ?_ | exact Safe.pure _ | refine Safe.load ?_ | refine Safe.store ?_ | refine Holds.squeeze ?_ _ | refine Holds.slice ?_ _ _ | assumption

theorem part151 (v282 : FVec F S1x1 .f32) (v359 : FVec F S128x256 .f32) (v360 : FVec F S128x256 .f32) (v361 : FVec F S128x256 .f32) : Safe (defs₀ (F := F)) (c : Thread nD τ) A (k0_part151 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v282 v359 v360 v361) := by
  unfold k0_part151
  with_reducible repeat' first | refine Safe.bind ?_ fun _ => ?_ | exact Safe.pure _ | refine Safe.load ?_ | refine Safe.store ?_ | refine Holds.squeeze ?_ _ | refine Holds.slice ?_ _ _ | assumption

end Cert.Proof.Diff

end
-- ==== Proof.Diff.Steps.lean ====
/- The body of the call, stretch by stretch: each runs to its end holding what it held. -/
module

public import proofs.«01_k».proof.DiffIdeal
public import proofs.«01_k».proof.Proof.Mixers.Safe
public import proofs.«01_k».proof.Proof.Diff.Steps1
public import proofs.«01_k».proof.Proof.Diff.Steps2

@[expose] public section

set_option maxRecDepth 16384

noncomputable section

namespace Cert.Proof.Diff

open Cert.DiffIdeal Cert.Proof.Mixers Cert.DiffIdeal.Facts₀ Cert.DiffIdeal.Facts
open Idealize.ShloMosaic Idealize.ShloMosaic.TcCoe
open Idealize.SL Idealize.SL.RA Idealize.SL.BI Idealize.SL.Sem

variable {F : FTy → Type} [FloatOps F] [Facts] {U : Type} [URA U]
variable {c : Dev nD} {A : sProp (MT nD τ sig Unit (Elt F) ℕ U ℕ)}
variable (i : grid0.Coords)
variable (arg3 : Memref sig .tc .vmem S1x1x64 .f32) (harg3 : arg3.IsWhole)
variable (arg4 : Memref sig .tc .vmem S1x1x64 .f32) (harg4 : arg4.IsWhole)
variable (arg5 : Memref sig .tc .vmem S1x1x64 .f32) (harg5 : arg5.IsWhole)
variable (arg6 : Memref sig .tc .vmem S1x1x64 .f32) (harg6 : arg6.IsWhole)
variable (arg7 : Memref sig .tc .vmem S1x1x128 .f32) (harg7 : arg7.IsWhole)
variable (arg8 : Memref sig .tc .vmem S8x256 .f32) (harg8 : arg8.IsWhole)
variable (arg9 : Memref sig .tc .vmem S8x256 .f32) (harg9 : arg9.IsWhole)
variable (arg10 : Memref sig .tc .vmem S8x4096 .f32) (harg10 : arg10.IsWhole)
variable (arg11 : Memref sig .tc .vmem S8x4096 .f32) (harg11 : arg11.IsWhole)
variable (arg12 : Memref sig .tc .vmem S2x512x512 .f32) (harg12 : arg12.IsWhole)
variable (arg13 : Memref sig .tc .vmem S1x256x512 .bf16) (harg13 : arg13.IsWhole)
variable (arg14 : Memref sig .tc .vmem S1x4096x512 .bf16) (harg14 : arg14.IsWhole)
variable (arg15 : Memref sig .tc .vmem S1x4096x512 .bf16) (harg15 : arg15.IsWhole)
variable (arg16 : Memref sig .tc .vmem S1x256x512 .bf16) (harg16 : arg16.IsWhole)
variable (arg17 : Memref sig .tc .vmem S4x128x512 .bf16) (harg17 : arg17.IsWhole)
variable (arg18 : Memref sig .tc .vmem S4x4096x128 .bf16) (harg18 : arg18.IsWhole)
variable (arg19 : Memref sig .tc .vmem S4x8x144x512 .bf16) (harg19 : arg19.IsWhole)
variable (arg20 : Memref sig .tc .vmem S4x2x512x512 .f32) (harg20 : arg20.IsWhole)
variable (arg21 : Memref sig .tc .vmem S4x2x1x512 .f32) (harg21 : arg21.IsWhole)
variable (arg22 : Memref sig .tc .vmem S4x1x512 .f32) (harg22 : arg22.IsWhole)
variable (arg23 : Memref sig .tc .vmem S4x144x512 .f32) (harg23 : arg23.IsWhole)
variable (h3 : Holds (c : Thread nD τ) A arg3)
variable (h4 : Holds (c : Thread nD τ) A arg4)
variable (h5 : Holds (c : Thread nD τ) A arg5)
variable (h6 : Holds (c : Thread nD τ) A arg6)
variable (h7 : Holds (c : Thread nD τ) A arg7)
variable (h8 : Holds (c : Thread nD τ) A arg8)
variable (h9 : Holds (c : Thread nD τ) A arg9)
variable (h10 : Holds (c : Thread nD τ) A arg10)
variable (h11 : Holds (c : Thread nD τ) A arg11)
variable (h12 : Holds (c : Thread nD τ) A arg12)
variable (h13 : Holds (c : Thread nD τ) A arg13)
variable (h14 : Holds (c : Thread nD τ) A arg14)
variable (h15 : Holds (c : Thread nD τ) A arg15)
variable (h16 : Holds (c : Thread nD τ) A arg16)
variable (h17 : Holds (c : Thread nD τ) A arg17)
variable (h18 : Holds (c : Thread nD τ) A arg18)
variable (h19 : Holds (c : Thread nD τ) A arg19)
variable (h20 : Holds (c : Thread nD τ) A arg20)
variable (h21 : Holds (c : Thread nD τ) A arg21)
variable (h22 : Holds (c : Thread nD τ) A arg22)
variable (h23 : Holds (c : Thread nD τ) A arg23)
include h3 h4 h5 h6 h7 h8 h9 h10 h11 h12 h13 h14 h15 h16 h17 h18 h19 h20 h21 h22 h23

theorem part46 : Safe (defs₀ (F := F)) (c : Thread nD τ) A (k0_part46 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  unfold k0_part46
  with_reducible repeat' first | refine Safe.bind ?_ fun _ => ?_ | exact Safe.pure _ | refine Safe.load ?_ | refine Safe.store ?_ | refine Holds.squeeze ?_ _ | refine Holds.slice ?_ _ _ | assumption | (apply part1 <;> assumption) | (apply part2 <;> assumption) | (apply part3 <;> assumption) | (apply part4 <;> assumption) | (apply part5 <;> assumption) | (apply part6 <;> assumption) | (apply part7 <;> assumption) | (apply part8 <;> assumption) | (apply part9 <;> assumption) | (apply part10 <;> assumption) | (apply part11 <;> assumption) | (apply part12 <;> assumption) | (apply part13 <;> assumption) | (apply part14 <;> assumption) | (apply part15 <;> assumption) | (apply part16 <;> assumption) | (apply part17 <;> assumption) | (apply part18 <;> assumption) | (apply part19 <;> assumption) | (apply part20 <;> assumption) | (apply part21 <;> assumption) | (apply part22 <;> assumption) | (apply part23 <;> assumption) | (apply part24 <;> assumption) | (apply part25 <;> assumption) | (apply part26 <;> assumption) | (apply part27 <;> assumption) | (apply part28 <;> assumption) | (apply part29 <;> assumption) | (apply part30 <;> assumption) | (apply part31 <;> assumption) | (apply part32 <;> assumption) | (apply part33 <;> assumption) | (apply part34 <;> assumption) | (apply part35 <;> assumption) | (apply part36 <;> assumption) | (apply part37 <;> assumption) | (apply part38 <;> assumption) | (apply part39 <;> assumption) | (apply part40 <;> assumption) | (apply part41 <;> assumption) | (apply part42 <;> assumption) | (apply part43 <;> assumption) | (apply part44 <;> assumption) | (apply part45 <;> assumption)

theorem part152 (v42 : BitVec 32) (c0_i32_108 : BitVec 32) (c0_i32_109 : BitVec 32) (c1_i32_111 : BitVec 32) (c1_i32_112 : BitVec 32) (c2_i32_114 : BitVec 32) (c2_i32_115 : BitVec 32) (c3_i32_117 : BitVec 32) (c3_i32_118 : BitVec 32) (k0_h6 : k0_cond6 i = 1#1) : Safe (defs₀ (F := F)) (c : Thread nD τ) A (k0_part152 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v42 c0_i32_108 c0_i32_109 c1_i32_111 c1_i32_112 c2_i32_114 c2_i32_115 c3_i32_117 c3_i32_118 k0_h6) := by
  unfold k0_part152
  with_reducible repeat' first | refine Safe.bind ?_ fun _ => ?_ | exact Safe.pure _ | refine Safe.load ?_ | refine Safe.store ?_ | refine Holds.squeeze ?_ _ | refine Holds.slice ?_ _ _ | assumption | refine Safe.loop _ _ _ _ _ fun _ _ => ?_ | (apply part101 <;> assumption) | (apply part102 <;> assumption) | (apply part103 <;> assumption) | (apply part104 <;> assumption) | (apply part105 <;> assumption) | (apply part106 <;> assumption) | (apply part107 <;> assumption) | (apply part108 <;> assumption) | (apply part109 <;> assumption) | (apply part110 <;> assumption) | (apply part111 <;> assumption) | (apply part112 <;> assumption) | (apply part113 <;> assumption) | (apply part114 <;> assumption) | (apply part115 <;> assumption) | (apply part116 <;> assumption) | (apply part117 <;> assumption) | (apply part118 <;> assumption) | (apply part119 <;> assumption) | (apply part120 <;> assumption) | (apply part121 <;> assumption) | (apply part122 <;> assumption) | (apply part123 <;> assumption) | (apply part124 <;> assumption) | (apply part125 <;> assumption) | (apply part126 <;> assumption) | (apply part127 <;> assumption) | (apply part128 <;> assumption)

theorem part153 : Safe (defs₀ (F := F)) (c : Thread nD τ) A (k0_part153 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  unfold k0_part153
  with_reducible repeat' first | refine Safe.bind ?_ fun _ => ?_ | exact Safe.pure _ | refine Safe.load ?_ | refine Safe.store ?_ | refine Holds.squeeze ?_ _ | refine Holds.slice ?_ _ _ | assumption | refine Safe.dite (fun _ => ?_) (fun _ => ?_) | (apply part46 <;> assumption)

theorem part154 (arg2 : BitVec 32) (v13 : BitVec 1) (v25 : BitVec 32) (c512_i32 : BitVec 32) (v26 : BitVec 32) (v31 : BitVec 32) (v33 : BitVec 32) (c0_i32_16 : BitVec 32) : Safe (defs₀ (F := F)) (c : Thread nD τ) A (k0_part154 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v13 v25 c512_i32 v26 v31 v33 c0_i32_16) := by
  unfold k0_part154
  with_reducible repeat' first | refine Safe.bind ?_ fun _ => ?_ | exact Safe.pure _ | refine Safe.load ?_ | refine Safe.store ?_ | refine Holds.squeeze ?_ _ | refine Holds.slice ?_ _ _ | assumption | refine Safe.dite (fun _ => ?_) (fun _ => ?_) | (apply part47 <;> assumption) | (apply part48 <;> assumption) | (apply part49 <;> assumption) | (apply part50 <;> assumption) | (apply part51 <;> assumption) | (apply part52 <;> assumption) | (apply part53 <;> assumption) | (apply part54 <;> assumption) | (apply part55 <;> assumption) | (apply part56 <;> assumption) | (apply part57 <;> assumption) | (apply part58 <;> assumption) | (apply part59 <;> assumption) | (apply part60 <;> assumption)

theorem part155 (arg2 : BitVec 32) (v24 : BitVec 1) (v42 : BitVec 32) (c0_i32_46 : BitVec 32) (c0_i32_47 : BitVec 32) (c1_i32_49 : BitVec 32) (c1_i32_50 : BitVec 32) (c2_i32_52 : BitVec 32) (c2_i32_53 : BitVec 32) (c3_i32_55 : BitVec 32) (c3_i32_56 : BitVec 32) : Safe (defs₀ (F := F)) (c : Thread nD τ) A (k0_part155 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v24 v42 c0_i32_46 c0_i32_47 c1_i32_49 c1_i32_50 c2_i32_52 c2_i32_53 c3_i32_55 c3_i32_56) := by
  unfold k0_part155
  with_reducible repeat' first | refine Safe.bind ?_ fun _ => ?_ | exact Safe.pure _ | refine Safe.load ?_ | refine Safe.store ?_ | refine Holds.squeeze ?_ _ | refine Holds.slice ?_ _ _ | assumption | refine Safe.dite (fun _ => ?_) (fun _ => ?_) | (apply part61 <;> assumption) | (apply part62 <;> assumption) | (apply part63 <;> assumption) | (apply part64 <;> assumption) | (apply part65 <;> assumption) | (apply part66 <;> assumption) | (apply part67 <;> assumption) | (apply part68 <;> assumption) | (apply part69 <;> assumption) | (apply part70 <;> assumption) | (apply part71 <;> assumption) | (apply part72 <;> assumption) | (apply part73 <;> assumption) | (apply part74 <;> assumption) | (apply part75 <;> assumption) | (apply part76 <;> assumption) | (apply part77 <;> assumption) | (apply part78 <;> assumption) | (apply part79 <;> assumption) | (apply part80 <;> assumption) | (apply part81 <;> assumption) | (apply part82 <;> assumption) | (apply part83 <;> assumption) | (apply part84 <;> assumption) | (apply part85 <;> assumption) | (apply part86 <;> assumption) | (apply part87 <;> assumption) | (apply part88 <;> assumption) | (apply part89 <;> assumption) | (apply part90 <;> assumption) | (apply part91 <;> assumption) | (apply part92 <;> assumption) | (apply part93 <;> assumption) | (apply part94 <;> assumption) | (apply part95 <;> assumption) | (apply part96 <;> assumption) | (apply part97 <;> assumption) | (apply part98 <;> assumption) | (apply part99 <;> assumption) | (apply part100 <;> assumption)

theorem body : Safe (defs₀ (F := F)) (c : Thread nD τ) A (cc0_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  unfold cc0_diff_attn
  with_reducible repeat' first | refine Safe.bind ?_ fun _ => ?_ | exact Safe.pure _ | refine Safe.load ?_ | refine Safe.store ?_ | refine Holds.squeeze ?_ _ | refine Holds.slice ?_ _ _ | assumption | refine Safe.dite (fun _ => ?_) (fun _ => ?_) | (apply part153 <;> assumption) | (apply part154 <;> assumption) | (apply part155 <;> assumption) | (apply part152 <;> assumption) | (apply part129 <;> assumption) | (apply part130 <;> assumption) | (apply part131 <;> assumption) | (apply part132 <;> assumption) | (apply part133 <;> assumption) | (apply part134 <;> assumption) | (apply part135 <;> assumption) | (apply part136 <;> assumption) | (apply part137 <;> assumption) | (apply part138 <;> assumption) | (apply part139 <;> assumption) | (apply part140 <;> assumption) | (apply part141 <;> assumption) | (apply part142 <;> assumption) | (apply part143 <;> assumption) | (apply part144 <;> assumption) | (apply part145 <;> assumption) | (apply part146 <;> assumption) | (apply part147 <;> assumption) | (apply part148 <;> assumption) | (apply part149 <;> assumption) | (apply part150 <;> assumption) | (apply part151 <;> assumption)

end Cert.Proof.Diff

end
-- ==== Proof.Diff.Frame.lean ====
/- The frame of the differential attention call over any element values: its body owns at a point what it owned, so every point runs, whatever
   the windows hold; what they are left with is not read. -/
module

public import proofs.«01_k».proof.Proof.Gen.DiffIdeal.Frame
public import proofs.«01_k».proof.Proof.Diff.Steps
public import Idealize.ShloMosaic.Lib.Pipeline.Frame
public import Idealize.ShloMosaic.Lib.Claim

@[expose] public section

set_option maxRecDepth 16384

noncomputable section

namespace Cert.Proof.Diff

open Cert.DiffIdeal Cert.DiffIdeal.Gen Cert.Proof.Mixers
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is said of what the body leaves in a window. -/
def unread : Fin cfg0.W → Bool := fun _ => true

/-- The arrays as the region finds them, the windows' contents unnamed, the scratch and the generator register at anything. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- The staging memrefs at a point, each owned at some contents. -/
def windows (c : Dev nD) (t : Fin cfg0.N) : sProp 𝕄 :=
  iprop((∃ X, owns (c : Thread nD τ) (win0_0.stage (cfg0.slots t 0)) fullShare X)
      ∗ (∃ X, owns (c : Thread nD τ) (win0_1.stage (cfg0.slots t 1)) fullShare X)
      ∗ (∃ X, owns (c : Thread nD τ) (win0_2.stage (cfg0.slots t 2)) fullShare X)
      ∗ (∃ X, owns (c : Thread nD τ) (win0_3.stage (cfg0.slots t 3)) fullShare X)
      ∗ (∃ X, owns (c : Thread nD τ) (win0_4.stage (cfg0.slots t 4)) fullShare X)
      ∗ (∃ X, owns (c : Thread nD τ) (win0_5.stage (cfg0.slots t 5)) fullShare X)
      ∗ (∃ X, owns (c : Thread nD τ) (win0_6.stage (cfg0.slots t 6)) fullShare X)
      ∗ (∃ X, owns (c : Thread nD τ) (win0_7.stage (cfg0.slots t 7)) fullShare X)
      ∗ (∃ X, owns (c : Thread nD τ) (win0_8.stage (cfg0.slots t 8)) fullShare X)
      ∗ (∃ X, owns (c : Thread nD τ) (win0_9.stage (cfg0.slots t 9)) fullShare X)
      ∗ (∃ X, owns (c : Thread nD τ) (win0_10.stage (cfg0.slots t 10)) fullShare X)
      ∗ (∃ X, owns (c : Thread nD τ) (win0_11.stage (cfg0.slots t 11)) fullShare X)
      ∗ (∃ X, owns (c : Thread nD τ) (win0_12.stage (cfg0.slots t 12)) fullShare X)
      ∗ (∃ X, owns (c : Thread nD τ) (win0_13.stage (cfg0.slots t 13)) fullShare X))

/-- The body at a point, from all it owns to all it owns. -/
theorem body_safe (c : Dev nD) (t : Fin cfg0.N) :
    Safe (defs₀ (F := F)) (c : Thread nD τ) iprop(Pipeline.scopedRest (Ix := Unit) (Name := ℕ) (U := UR sig nD τ) (Lvl := ℕ) (Val := Elt F) spec0 c ∗ windows c t) (bodyAt0 t) := by
  rw [scopedRest0_eq]
  unfold bodyAt0
  apply body
  · exact Holds.right (Holds.left (Holds.owned (hstage0_0 _)))
  · exact Holds.right (Holds.right (Holds.left (Holds.owned (hstage0_1 _))))
  · exact Holds.right (Holds.right (Holds.right (Holds.left (Holds.owned (hstage0_2 _)))))
  · exact Holds.right (Holds.right (Holds.right (Holds.right (Holds.left (Holds.owned (hstage0_3 _))))))
  · exact Holds.right (Holds.right (Holds.right (Holds.right (Holds.right (Holds.left (Holds.owned (hstage0_4 _)))))))
  · exact Holds.right (Holds.right (Holds.right (Holds.right (Holds.right (Holds.right (Holds.left (Holds.owned (hstage0_5 _))))))))
  · exact Holds.right (Holds.right (Holds.right (Holds.right (Holds.right (Holds.right (Holds.right (Holds.left (Holds.owned (hstage0_6 _)))))))))
  · exact Holds.right (Holds.right (Holds.right (Holds.right (Holds.right (Holds.right (Holds.right (Holds.right (Holds.left (Holds.owned (hstage0_7 _))))))))))
  · exact Holds.right (Holds.right (Holds.right (Holds.right (Holds.right (Holds.right (Holds.right (Holds.right (Holds.right (Holds.left (Holds.owned (hstage0_8 _)))))))))))
  · exact Holds.right (Holds.right (Holds.right (Holds.right (Holds.right (Holds.right (Holds.right (Holds.right (Holds.right (Holds.right (Holds.left (Holds.owned (hstage0_9 _))))))))))))
  · exact Holds.right (Holds.right (Holds.right (Holds.right (Holds.right (Holds.right (Holds.right (Holds.right (Holds.right (Holds.right (Holds.right (Holds.left (Holds.owned (hstage0_10 _)))))))))))))
  · exact Holds.right (Holds.right (Holds.right (Holds.right (Holds.right (Holds.right (Holds.right (Holds.right (Holds.right (Holds.right (Holds.right (Holds.right (Holds.left (Holds.owned (hstage0_11 _))))))))))))))
  · exact Holds.right (Holds.right (Holds.right (Holds.right (Holds.right (Holds.right (Holds.right (Holds.right (Holds.right (Holds.right (Holds.right (Holds.right (Holds.right (Holds.left (Holds.owned (hstage0_12 _)))))))))))))))
  · exact Holds.right (Holds.right (Holds.right (Holds.right (Holds.right (Holds.right (Holds.right (Holds.right (Holds.right (Holds.right (Holds.right (Holds.right (Holds.right (Holds.right (Holds.owned (hstage0_13 _)))))))))))))))
  · exact Holds.left (Holds.left Holds.whole)
  · exact Holds.left (Holds.right (Holds.left Holds.whole))
  · exact Holds.left (Holds.right (Holds.right (Holds.left Holds.whole)))
  · exact Holds.left (Holds.right (Holds.right (Holds.right (Holds.left Holds.whole))))
  · exact Holds.left (Holds.right (Holds.right (Holds.right (Holds.right (Holds.left Holds.whole)))))
  · exact Holds.left (Holds.right (Holds.right (Holds.right (Holds.right (Holds.right (Holds.left Holds.whole))))))
  · exact Holds.left (Holds.right (Holds.right (Holds.right (Holds.right (Holds.right (Holds.right Holds.whole))))))

/-- The body at a point, the generator register and what the core owes beside it. -/
theorem sound_body (c : Dev nD) (t : Fin cfg0.N) :
    iprop((dats m 0 c).Φ t.castSucc ∗ (dats m 0 c).owesAt () t.castSucc ∗ windows c t)
      ⊢ wp frame (wpE (defs₀ (F := F)) Variants.none c none) Set.univ (bodyAt0 t)
          (fun _ => iprop((dats m 0 c).Φ t.succ ∗ (dats m 0 c).owesAt () t.succ ∗ windows c t)) :=
  (body_safe c t).beside

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ unread := fun t => by
  rw [bigSep_W0, bigSep_W0, defs₀_row]
  exact triple_restated (sound_body m c t) rfl .rfl fun _ => .rfl

set_option backward.isDefEq.respectTransparency.types false in
/-- The launch over any element values: every input array as it was found, every semaphore counter at zero. -/
theorem run_main : θ_run defs (onTc (τ := τ) (main (F := F))) (s₀ m ρ)
    (fun r => Pipeline.RDat.FramePost (cfgs 0) (fun c => (dats m 0 c).toRForget unread) (V m) r ∧ r.2.sem = fun _ => 0) :=
  Pipeline.θ_run_frame_track_forget_shared (Q' := _) cfgs (dats m) (0 : Fin 1) launch₀0 defs₀ Variants.none unread m ρ main
    (hbody := fun c => (body_obligation m c).loose) (hq := fun _ _ _ => rfl)
    (howed := fun _ _ => rfl) (V := V m) (hmain := hmain m Variants.none) (hA := A_eq m)
    (hin := fun _ => .rfl) (hout := fun _ => .rfl)

/-- The array the call reads its projections from is as it was found. -/
theorem projections_kept {r : PUnit.{1} × MemSt nD τ sig (Elt F)}
    (h : Pipeline.RDat.FramePost (cfgs 0) (fun c => (dats (F := F) m 0 c).toRForget unread) (V m) r) (c : Dev nD) :
    r.2.mem ((c.tc : Thread nD τ).loc main_arg0) = m ((c.tc : Thread nD τ).loc main_arg0) := by
  have h1 := (h c).1 12
  rw [Pipeline.RDat.ArrAt_in _ 12 rfl] at h1
  exact h1.trans (V_main_arg0 m c)

/-- The frame over any element values: the arguments end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨projections_kept m h.1 c,
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩) (run_main m ρ)

end Cert.Proof.Diff

end
-- ==== Proof.Diff.Words.lean ====
/- The differential attention call over the machine's words: its program has the ideal one's text, so the run of that program over any
   element values is its run too. -/
module

public import proofs.«01_k».proof.Defs
public import proofs.«01_k».proof.Proof.Gen.Diff
public import proofs.«01_k».proof.Proof.Diff.Frame

@[expose] public section

set_option maxHeartbeats 8000000

noncomputable section

namespace Cert.Proof.Diff

open Idealize.ShloMosaic Idealize.SL.Sem

variable {F : FTy → Type} [FloatOps F]

/-- The two programs' kernel bodies are the same. -/
theorem bodies_eq : Cert.Diff.defs₀ (F := F) = Cert.DiffIdeal.defs₀ := by
  unfold Cert.Diff.defs₀ Cert.DiffIdeal.defs₀
  refine congrArg (Defs.onTc (nD := Cert.Diff.nD) (τ := Cert.Diff.τ) (sig := Cert.Diff.sig) (Λ := Cert.Diff.Λ₀) (Val := Elt F)) ?_
  funext l a
  match l, a with
  | ⟨0, _⟩, (t, s) => rfl

/-- The two programs' procedures are the same. -/
theorem procedures_eq : Cert.Diff.defs (F := F) = Cert.DiffIdeal.defs := by
  unfold Cert.Diff.defs Cert.DiffIdeal.defs
  rw [bodies_eq]
  rfl

/-- The two programs' host operations are the same. -/
theorem main_eq : Cert.Diff.main (F := F) = Cert.DiffIdeal.main := by
  unfold Cert.Diff.main Cert.DiffIdeal.main
  funext _
  rfl

/-- The frame of the kernel over the machine's words. -/
theorem frame_words : Cert.quiescent_Diff (hDiff := Cert.Diff.Gen.facts) := fun m ρ _ => by
  rw [procedures_eq, main_eq]
  exact frame (F := Bits) m ρ

end Cert.Proof.Diff
-- ==== Proof.Moba.Steps1.lean ====
/- The body of the call, stretch by stretch: each runs to its end holding what it held. -/
module

public import proofs.«01_k».proof.MobaIdeal
public import proofs.«01_k».proof.Proof.Mixers.Safe

@[expose] public section

set_option maxRecDepth 16384

noncomputable section

namespace Cert.Proof.Moba

open Cert.MobaIdeal Cert.Proof.Mixers Cert.MobaIdeal.Facts₀ Cert.MobaIdeal.Facts
open Idealize.ShloMosaic Idealize.ShloMosaic.TcCoe
open Idealize.SL Idealize.SL.RA Idealize.SL.BI Idealize.SL.Sem

variable {F : FTy → Type} [FloatOps F] [Facts] {U : Type} [URA U]
variable {c : Dev nD} {A : sProp (MT nD τ sig Unit (Elt F) ℕ U ℕ)}
variable (i : grid0.Coords)
variable (arg3 : Memref sig .tc .vmem S16x512 .f32) (harg3 : arg3.IsWhole)
variable (arg4 : Memref sig .tc .vmem S16x512 .f32) (harg4 : arg4.IsWhole)
variable (arg5 : Memref sig .tc .vmem S16x4096 .f32) (harg5 : arg5.IsWhole)
variable (arg6 : Memref sig .tc .vmem S16x4096 .f32) (harg6 : arg6.IsWhole)
variable (arg7 : Memref sig .tc .vmem S512x512 .f32) (harg7 : arg7.IsWhole)
variable (arg8 : Memref sig .tc .vmem S1x512x512 .bf16) (harg8 : arg8.IsWhole)
variable (arg9 : Memref sig .tc .vmem S1x4096x512 .bf16) (harg9 : arg9.IsWhole)
variable (arg10 : Memref sig .tc .vmem S1x4096x512 .bf16) (harg10 : arg10.IsWhole)
variable (arg11 : Memref sig .tc .vmem S1x512x512 .bf16) (harg11 : arg11.IsWhole)
variable (arg12 : Memref sig .tc .vmem S4x256x512 .bf16) (harg12 : arg12.IsWhole)
variable (arg13 : Memref sig .tc .vmem S4x4096x256 .bf16) (harg13 : arg13.IsWhole)
variable (arg14 : Memref sig .tc .vmem S4x8x144x512 .bf16) (harg14 : arg14.IsWhole)
variable (arg15 : Memref sig .tc .vmem S4x2x512x512 .f32) (harg15 : arg15.IsWhole)
variable (arg16 : Memref sig .tc .vmem S4x2x1x512 .f32) (harg16 : arg16.IsWhole)
variable (arg17 : Memref sig .tc .vmem S4x1x512 .f32) (harg17 : arg17.IsWhole)
variable (arg18 : Memref sig .tc .vmem S4x144x512 .f32) (harg18 : arg18.IsWhole)
variable (arg19 : Memref sig .tc .vmem S4x32x128 .bf16) (harg19 : arg19.IsWhole)
variable (h3 : Holds (c : Thread nD τ) A arg3)
variable (h4 : Holds (c : Thread nD τ) A arg4)
variable (h5 : Holds (c : Thread nD τ) A arg5)
variable (h6 : Holds (c : Thread nD τ) A arg6)
variable (h7 : Holds (c : Thread nD τ) A arg7)
variable (h8 : Holds (c : Thread nD τ) A arg8)
variable (h9 : Holds (c : Thread nD τ) A arg9)
variable (h10 : Holds (c : Thread nD τ) A arg10)
variable (h11 : Holds (c : Thread nD τ) A arg11)
variable (h12 : Holds (c : Thread nD τ) A arg12)
variable (h13 : Holds (c : Thread nD τ) A arg13)
variable (h14 : Holds (c : Thread nD τ) A arg14)
variable (h15 : Holds (c : Thread nD τ) A arg15)
variable (h16 : Holds (c : Thread nD τ) A arg16)
variable (h17 : Holds (c : Thread nD τ) A arg17)
variable (h18 : Holds (c : Thread nD τ) A arg18)
variable (h19 : Holds (c : Thread nD τ) A arg19)
include h3 h4 h5 h6 h7 h8 h9 h10 h11 h12 h13 h14 h15 h16 h17 h18 h19

theorem part1 : Safe (defs₀ (F := F)) (c : Thread nD τ) A (k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  unfold k0_part1
  with_reducible repeat' first | refine Safe.bind ?_ fun _ => ?_ | exact Safe.pure _ | refine Safe.load ?_ | refine Safe.store ?_ | refine Holds.squeeze ?_ _ | refine Holds.slice ?_ _ _ | assumption

theorem part2 (v31 : FVec F S16x512 .bf16) (v51 : FVec F S512x128 .bf16) : Safe (defs₀ (F := F)) (c : Thread nD τ) A (k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v31 v51) := by
  unfold k0_part2
  with_reducible repeat' first | refine Safe.bind ?_ fun _ => ?_ | exact Safe.pure _ | refine Safe.load ?_ | refine Safe.store ?_ | refine Holds.squeeze ?_ _ | refine Holds.slice ?_ _ _ | assumption

theorem part3 (v31 : FVec F S16x512 .bf16) (v75 : FVec F S128x512 .f32) (v79 : FVec F S16x512 .f32) (v80 : FVec F S16x512 .f32) (v84 : FVec F S16x512 .f32) (v85 : FVec F S16x512 .f32) : Safe (defs₀ (F := F)) (c : Thread nD τ) A (k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v31 v75 v79 v80 v84 v85) := by
  unfold k0_part3
  with_reducible repeat' first | refine Safe.bind ?_ fun _ => ?_ | exact Safe.pure _ | refine Safe.load ?_ | refine Safe.store ?_ | refine Holds.squeeze ?_ _ | refine Holds.slice ?_ _ _ | assumption

theorem part4 (v114 : FVec F S512x128 .f32) : Safe (defs₀ (F := F)) (c : Thread nD τ) A (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v114) := by
  unfold k0_part4
  with_reducible repeat' first | refine Safe.bind ?_ fun _ => ?_ | exact Safe.pure _ | refine Safe.load ?_ | refine Safe.store ?_ | refine Holds.squeeze ?_ _ | refine Holds.slice ?_ _ _ | assumption

theorem part5 (v31 : FVec F S16x512 .bf16) : Safe (defs₀ (F := F)) (c : Thread nD τ) A (k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v31) := by
  unfold k0_part5
  with_reducible repeat' first | refine Safe.bind ?_ fun _ => ?_ | exact Safe.pure _ | refine Safe.load ?_ | refine Safe.store ?_ | refine Holds.squeeze ?_ _ | refine Holds.slice ?_ _ _ | assumption

theorem part6 (v31 : FVec F S16x512 .bf16) (v181 : FVec F S128x512 .bf16) : Safe (defs₀ (F := F)) (c : Thread nD τ) A (k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v31 v181) := by
  unfold k0_part6
  with_reducible repeat' first | refine Safe.bind ?_ fun _ => ?_ | exact Safe.pure _ | refine Safe.load ?_ | refine Safe.store ?_ | refine Holds.squeeze ?_ _ | refine Holds.slice ?_ _ _ | assumption

theorem part7 (v31 : FVec F S16x512 .bf16) (v211 : FVec F S512x128 .bf16) : Safe (defs₀ (F := F)) (c : Thread nD τ) A (k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v31 v211) := by
  unfold k0_part7
  with_reducible repeat' first | refine Safe.bind ?_ fun _ => ?_ | exact Safe.pure _ | refine Safe.load ?_ | refine Safe.store ?_ | refine Holds.squeeze ?_ _ | refine Holds.slice ?_ _ _ | assumption

theorem part8 (v31 : FVec F S16x512 .bf16) (v235 : FVec F S128x512 .f32) (v239 : FVec F S16x512 .f32) (v240 : FVec F S16x512 .f32) (v244 : FVec F S16x512 .f32) (v245 : FVec F S16x512 .f32) : Safe (defs₀ (F := F)) (c : Thread nD τ) A (k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v31 v235 v239 v240 v244 v245) := by
  unfold k0_part8
  with_reducible repeat' first | refine Safe.bind ?_ fun _ => ?_ | exact Safe.pure _ | refine Safe.load ?_ | refine Safe.store ?_ | refine Holds.squeeze ?_ _ | refine Holds.slice ?_ _ _ | assumption

theorem part9 (v274 : FVec F S512x128 .f32) : Safe (defs₀ (F := F)) (c : Thread nD τ) A (k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v274) := by
  unfold k0_part9
  with_reducible repeat' first | refine Safe.bind ?_ fun _ => ?_ | exact Safe.pure _ | refine Safe.load ?_ | refine Safe.store ?_ | refine Holds.squeeze ?_ _ | refine Holds.slice ?_ _ _ | assumption

theorem part10 (v31 : FVec F S16x512 .bf16) : Safe (defs₀ (F := F)) (c : Thread nD τ) A (k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v31) := by
  unfold k0_part10
  with_reducible repeat' first | refine Safe.bind ?_ fun _ => ?_ | exact Safe.pure _ | refine Safe.load ?_ | refine Safe.store ?_ | refine Holds.squeeze ?_ _ | refine Holds.slice ?_ _ _ | assumption

theorem part11 (v23 : IVec S512x128 32) (v24 : IVec S512x128 32) (v31 : FVec F S16x512 .bf16) (v341 : FVec F S128x512 .bf16) : Safe (defs₀ (F := F)) (c : Thread nD τ) A (k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v24 v31 v341) := by
  unfold k0_part11
  with_reducible repeat' first | refine Safe.bind ?_ fun _ => ?_ | exact Safe.pure _ | refine Safe.load ?_ | refine Safe.store ?_ | refine Holds.squeeze ?_ _ | refine Holds.slice ?_ _ _ | assumption

theorem part12 (v23 : IVec S512x128 32) (v24 : IVec S512x128 32) (v372 : FVec F S512x128 .bf16) : Safe (defs₀ (F := F)) (c : Thread nD τ) A (k0_part12 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v24 v372) := by
  unfold k0_part12
  with_reducible repeat' first | refine Safe.bind ?_ fun _ => ?_ | exact Safe.pure _ | refine Safe.load ?_ | refine Safe.store ?_ | refine Holds.squeeze ?_ _ | refine Holds.slice ?_ _ _ | assumption

theorem part13 (v23 : IVec S512x128 32) (v24 : IVec S512x128 32) (v408 : FVec F S512x128 .bf16) : Safe (defs₀ (F := F)) (c : Thread nD τ) A (k0_part13 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v24 v408) := by
  unfold k0_part13
  with_reducible repeat' first | refine Safe.bind ?_ fun _ => ?_ | exact Safe.pure _ | refine Safe.load ?_ | refine Safe.store ?_ | refine Holds.squeeze ?_ _ | refine Holds.slice ?_ _ _ | assumption

theorem part14 (v22 : FVec F S16x4096 .bf16) (v444 : FVec F S512x128 .bf16) : Safe (defs₀ (F := F)) (c : Thread nD τ) A (k0_part14 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v22 v444) := by
  unfold k0_part14
  with_reducible repeat' first | refine Safe.bind ?_ fun _ => ?_ | exact Safe.pure _ | refine Safe.load ?_ | refine Safe.store ?_ | refine Holds.squeeze ?_ _ | refine Holds.slice ?_ _ _ | assumption

theorem part15 (v467 : FVec F S16x512 .bf16) (v471 : FVec F S128x512 .f32) (v475 : FVec F S16x512 .f32) (v476 : FVec F S16x512 .f32) (v480 : FVec F S16x512 .f32) (v481 : FVec F S16x512 .f32) : Safe (defs₀ (F := F)) (c : Thread nD τ) A (k0_part15 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v467 v471 v475 v476 v480 v481) := by
  unfold k0_part15
  with_reducible repeat' first | refine Safe.bind ?_ fun _ => ?_ | exact Safe.pure _ | refine Safe.load ?_ | refine Safe.store ?_ | refine Holds.squeeze ?_ _ | refine Holds.slice ?_ _ _ | assumption

theorem part16 (v510 : FVec F S512x128 .f32) : Safe (defs₀ (F := F)) (c : Thread nD τ) A (k0_part16 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v510) := by
  unfold k0_part16
  with_reducible repeat' first | refine Safe.bind ?_ fun _ => ?_ | exact Safe.pure _ | refine Safe.load ?_ | refine Safe.store ?_ | refine Holds.squeeze ?_ _ | refine Holds.slice ?_ _ _ | assumption

theorem part17 (v467 : FVec F S16x512 .bf16) : Safe (defs₀ (F := F)) (c : Thread nD τ) A (k0_part17 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v467) := by
  unfold k0_part17
  with_reducible repeat' first | refine Safe.bind ?_ fun _ => ?_ | exact Safe.pure _ | refine Safe.load ?_ | refine Safe.store ?_ | refine Holds.squeeze ?_ _ | refine Holds.slice ?_ _ _ | assumption

theorem part18 (v467 : FVec F S16x512 .bf16) (v577 : FVec F S128x512 .bf16) : Safe (defs₀ (F := F)) (c : Thread nD τ) A (k0_part18 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v467 v577) := by
  unfold k0_part18
  with_reducible repeat' first | refine Safe.bind ?_ fun _ => ?_ | exact Safe.pure _ | refine Safe.load ?_ | refine Safe.store ?_ | refine Holds.squeeze ?_ _ | refine Holds.slice ?_ _ _ | assumption

theorem part19 (v467 : FVec F S16x512 .bf16) (v607 : FVec F S512x128 .bf16) : Safe (defs₀ (F := F)) (c : Thread nD τ) A (k0_part19 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v467 v607) := by
  unfold k0_part19
  with_reducible repeat' first | refine Safe.bind ?_ fun _ => ?_ | exact Safe.pure _ | refine Safe.load ?_ | refine Safe.store ?_ | refine Holds.squeeze ?_ _ | refine Holds.slice ?_ _ _ | assumption

theorem part20 (v467 : FVec F S16x512 .bf16) (v631 : FVec F S128x512 .f32) (v635 : FVec F S16x512 .f32) (v636 : FVec F S16x512 .f32) (v640 : FVec F S16x512 .f32) (v641 : FVec F S16x512 .f32) : Safe (defs₀ (F := F)) (c : Thread nD τ) A (k0_part20 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v467 v631 v635 v636 v640 v641) := by
  unfold k0_part20
  with_reducible repeat' first | refine Safe.bind ?_ fun _ => ?_ | exact Safe.pure _ | refine Safe.load ?_ | refine Safe.store ?_ | refine Holds.squeeze ?_ _ | refine Holds.slice ?_ _ _ | assumption

theorem part21 (v670 : FVec F S512x128 .f32) : Safe (defs₀ (F := F)) (c : Thread nD τ) A (k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v670) := by
  unfold k0_part21
  with_reducible repeat' first | refine Safe.bind ?_ fun _ => ?_ | exact Safe.pure _ | refine Safe.load ?_ | refine Safe.store ?_ | refine Holds.squeeze ?_ _ | refine Holds.slice ?_ _ _ | assumption

theorem part22 (v467 : FVec F S16x512 .bf16) : Safe (defs₀ (F := F)) (c : Thread nD τ) A (k0_part22 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v467) := by
  unfold k0_part22
  with_reducible repeat' first | refine Safe.bind ?_ fun _ => ?_ | exact Safe.pure _ | refine Safe.load ?_ | refine Safe.store ?_ | refine Holds.squeeze ?_ _ | refine Holds.slice ?_ _ _ | assumption

theorem part23 (v467 : FVec F S16x512 .bf16) (v737 : FVec F S128x512 .bf16) : Safe (defs₀ (F := F)) (c : Thread nD τ) A (k0_part23 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v467 v737) := by
  unfold k0_part23
  with_reducible repeat' first | refine Safe.bind ?_ fun _ => ?_ | exact Safe.pure _ | refine Safe.load ?_ | refine Safe.store ?_ | refine Holds.squeeze ?_ _ | refine Holds.slice ?_ _ _ | assumption

theorem part24 (v23 : IVec S512x128 32) (v24 : IVec S512x128 32) (v467 : FVec F S16x512 .bf16) (v767 : FVec F S512x128 .bf16) : Safe (defs₀ (F := F)) (c : Thread nD τ) A (k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v24 v467 v767) := by
  unfold k0_part24
  with_reducible repeat' first | refine Safe.bind ?_ fun _ => ?_ | exact Safe.pure _ | refine Safe.load ?_ | refine Safe.store ?_ | refine Holds.squeeze ?_ _ | refine Holds.slice ?_ _ _ | assumption

theorem part25 (v23 : IVec S512x128 32) (v24 : IVec S512x128 32) (c512_i32_581 : BitVec 32) : Safe (defs₀ (F := F)) (c : Thread nD τ) A (k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v24 c512_i32_581) := by
  unfold k0_part25
  with_reducible repeat' first | refine Safe.bind ?_ fun _ => ?_ | exact Safe.pure _ | refine Safe.load ?_ | refine Safe.store ?_ | refine Holds.squeeze ?_ _ | refine Holds.slice ?_ _ _ | assumption

theorem part26 (v23 : IVec S512x128 32) (v24 : IVec S512x128 32) (c2048_i32_602 : BitVec 32) : Safe (defs₀ (F := F)) (c : Thread nD τ) A (k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v24 c2048_i32_602) := by
  unfold k0_part26
  with_reducible repeat' first | refine Safe.bind ?_ fun _ => ?_ | exact Safe.pure _ | refine Safe.load ?_ | refine Safe.store ?_ | refine Holds.squeeze ?_ _ | refine Holds.slice ?_ _ _ | assumption

theorem part27 (v22 : FVec F S16x4096 .bf16) (v23 : IVec S512x128 32) (v24 : IVec S512x128 32) (c3584_i32_623 : BitVec 32) : Safe (defs₀ (F := F)) (c : Thread nD τ) A (k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v22 v23 v24 c3584_i32_623) := by
  unfold k0_part27
  with_reducible repeat' first | refine Safe.bind ?_ fun _ => ?_ | exact Safe.pure _ | refine Safe.load ?_ | refine Safe.store ?_ | refine Holds.squeeze ?_ _ | refine Holds.slice ?_ _ _ | assumption

theorem part28 (v906 : FVec F S512x128 .f32) : Safe (defs₀ (F := F)) (c : Thread nD τ) A (k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v906) := by
  unfold k0_part28
  with_reducible repeat' first | refine Safe.bind ?_ fun _ => ?_ | exact Safe.pure _ | refine Safe.load ?_ | refine Safe.store ?_ | refine Holds.squeeze ?_ _ | refine Holds.slice ?_ _ _ | assumption

theorem part29 (v903 : FVec F S16x512 .bf16) : Safe (defs₀ (F := F)) (c : Thread nD τ) A (k0_part29 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v903) := by
  unfold k0_part29
  with_reducible repeat' first | refine Safe.bind ?_ fun _ => ?_ | exact Safe.pure _ | refine Safe.load ?_ | refine Safe.store ?_ | refine Holds.squeeze ?_ _ | refine Holds.slice ?_ _ _ | assumption

theorem part30 (v903 : FVec F S16x512 .bf16) (v973 : FVec F S128x512 .bf16) : Safe (defs₀ (F := F)) (c : Thread nD τ) A (k0_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v903 v973) := by
  unfold k0_part30
  with_reducible repeat' first | refine Safe.bind ?_ fun _ => ?_ | exact Safe.pure _ | refine Safe.load ?_ | refine Safe.store ?_ | refine Holds.squeeze ?_ _ | refine Holds.slice ?_ _ _ | assumption

theorem part31 (v903 : FVec F S16x512 .bf16) (v1003 : FVec F S512x128 .bf16) : Safe (defs₀ (F := F)) (c : Thread nD τ) A (k0_part31 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v903 v1003) := by
  unfold k0_part31
  with_reducible repeat' first | refine Safe.bind ?_ fun _ => ?_ | exact Safe.pure _ | refine Safe.load ?_ | refine Safe.store ?_ | refine Holds.squeeze ?_ _ | refine Holds.slice ?_ _ _ | assumption

theorem part32 (v903 : FVec F S16x512 .bf16) (v1027 : FVec F S128x512 .f32) (v1031 : FVec F S16x512 .f32) (v1032 : FVec F S16x512 .f32) (v1036 : FVec F S16x512 .f32) (v1037 : FVec F S16x512 .f32) : Safe (defs₀ (F := F)) (c : Thread nD τ) A (k0_part32 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v903 v1027 v1031 v1032 v1036 v1037) := by
  unfold k0_part32
  with_reducible repeat' first | refine Safe.bind ?_ fun _ => ?_ | exact Safe.pure _ | refine Safe.load ?_ | refine Safe.store ?_ | refine Holds.squeeze ?_ _ | refine Holds.slice ?_ _ _ | assumption

theorem part33 (v1066 : FVec F S512x128 .f32) : Safe (defs₀ (F := F)) (c : Thread nD τ) A (k0_part33 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1066) := by
  unfold k0_part33
  with_reducible repeat' first | refine Safe.bind ?_ fun _ => ?_ | exact Safe.pure _ | refine Safe.load ?_ | refine Safe.store ?_ | refine Holds.squeeze ?_ _ | refine Holds.slice ?_ _ _ | assumption

theorem part34 (v903 : FVec F S16x512 .bf16) : Safe (defs₀ (F := F)) (c : Thread nD τ) A (k0_part34 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v903) := by
  unfold k0_part34
  with_reducible repeat' first | refine Safe.bind ?_ fun _ => ?_ | exact Safe.pure _ | refine Safe.load ?_ | refine Safe.store ?_ | refine Holds.squeeze ?_ _ | refine Holds.slice ?_ _ _ | assumption

theorem part35 (v903 : FVec F S16x512 .bf16) (v1133 : FVec F S128x512 .bf16) : Safe (defs₀ (F := F)) (c : Thread nD τ) A (k0_part35 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v903 v1133) := by
  unfold k0_part35
  with_reducible repeat' first | refine Safe.bind ?_ fun _ => ?_ | exact Safe.pure _ | refine Safe.load ?_ | refine Safe.store ?_ | refine Holds.squeeze ?_ _ | refine Holds.slice ?_ _ _ | assumption

theorem part36 (v903 : FVec F S16x512 .bf16) (v1163 : FVec F S512x128 .bf16) : Safe (defs₀ (F := F)) (c : Thread nD τ) A (k0_part36 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v903 v1163) := by
  unfold k0_part36
  with_reducible repeat' first | refine Safe.bind ?_ fun _ => ?_ | exact Safe.pure _ | refine Safe.load ?_ | refine Safe.store ?_ | refine Holds.squeeze ?_ _ | refine Holds.slice ?_ _ _ | assumption

theorem part37 (v23 : IVec S512x128 32) (v903 : FVec F S16x512 .bf16) (v1187 : FVec F S128x512 .f32) (v1191 : FVec F S16x512 .f32) (v1192 : FVec F S16x512 .f32) (v1196 : FVec F S16x512 .f32) (v1197 : FVec F S16x512 .f32) : Safe (defs₀ (F := F)) (c : Thread nD τ) A (k0_part37 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v903 v1187 v1191 v1192 v1196 v1197) := by
  unfold k0_part37
  with_reducible repeat' first | refine Safe.bind ?_ fun _ => ?_ | exact Safe.pure _ | refine Safe.load ?_ | refine Safe.store ?_ | refine Holds.squeeze ?_ _ | refine Holds.slice ?_ _ _ | assumption

theorem part38 (v23 : IVec S512x128 32) (v24 : IVec S512x128 32) (v1227 : IVec S512x128 32) : Safe (defs₀ (F := F)) (c : Thread nD τ) A (k0_part38 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v24 v1227) := by
  unfold k0_part38
  with_reducible repeat' first | refine Safe.bind ?_ fun _ => ?_ | exact Safe.pure _ | refine Safe.load ?_ | refine Safe.store ?_ | refine Holds.squeeze ?_ _ | refine Holds.slice ?_ _ _ | assumption

theorem part39 (v23 : IVec S512x128 32) (v24 : IVec S512x128 32) (v1263 : IVec S512x128 32) : Safe (defs₀ (F := F)) (c : Thread nD τ) A (k0_part39 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v24 v1263) := by
  unfold k0_part39
  with_reducible repeat' first | refine Safe.bind ?_ fun _ => ?_ | exact Safe.pure _ | refine Safe.load ?_ | refine Safe.store ?_ | refine Holds.squeeze ?_ _ | refine Holds.slice ?_ _ _ | assumption

theorem part40 (v22 : FVec F S16x4096 .bf16) (v23 : IVec S512x128 32) (v24 : IVec S512x128 32) (v1299 : IVec S512x128 32) : Safe (defs₀ (F := F)) (c : Thread nD τ) A (k0_part40 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v22 v23 v24 v1299) := by
  unfold k0_part40
  with_reducible repeat' first | refine Safe.bind ?_ fun _ => ?_ | exact Safe.pure _ | refine Safe.load ?_ | refine Safe.store ?_ | refine Holds.squeeze ?_ _ | refine Holds.slice ?_ _ _ | assumption

theorem part41 (v1333 : IVec S16x512 32) : Safe (defs₀ (F := F)) (c : Thread nD τ) A (k0_part41 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1333) := by
  unfold k0_part41
  with_reducible repeat' first | refine Safe.bind ?_ fun _ => ?_ | exact Safe.pure _ | refine Safe.load ?_ | refine Safe.store ?_ | refine Holds.squeeze ?_ _ | refine Holds.slice ?_ _ _ | assumption

theorem part42 (v1339 : FVec F S16x512 .bf16) (v1369 : FVec F S128x512 .bf16) : Safe (defs₀ (F := F)) (c : Thread nD τ) A (k0_part42 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1339 v1369) := by
  unfold k0_part42
  with_reducible repeat' first | refine Safe.bind ?_ fun _ => ?_ | exact Safe.pure _ | refine Safe.load ?_ | refine Safe.store ?_ | refine Holds.squeeze ?_ _ | refine Holds.slice ?_ _ _ | assumption

theorem part43 (v1339 : FVec F S16x512 .bf16) (v1399 : FVec F S512x128 .bf16) : Safe (defs₀ (F := F)) (c : Thread nD τ) A (k0_part43 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1339 v1399) := by
  unfold k0_part43
  with_reducible repeat' first | refine Safe.bind ?_ fun _ => ?_ | exact Safe.pure _ | refine Safe.load ?_ | refine Safe.store ?_ | refine Holds.squeeze ?_ _ | refine Holds.slice ?_ _ _ | assumption

theorem part44 (v1339 : FVec F S16x512 .bf16) (v1423 : FVec F S128x512 .f32) (v1427 : FVec F S16x512 .f32) (v1428 : FVec F S16x512 .f32) (v1432 : FVec F S16x512 .f32) (v1433 : FVec F S16x512 .f32) : Safe (defs₀ (F := F)) (c : Thread nD τ) A (k0_part44 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1339 v1423 v1427 v1428 v1432 v1433) := by
  unfold k0_part44
  with_reducible repeat' first | refine Safe.bind ?_ fun _ => ?_ | exact Safe.pure _ | refine Safe.load ?_ | refine Safe.store ?_ | refine Holds.squeeze ?_ _ | refine Holds.slice ?_ _ _ | assumption

theorem part45 (v1462 : FVec F S512x128 .f32) : Safe (defs₀ (F := F)) (c : Thread nD τ) A (k0_part45 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1462) := by
  unfold k0_part45
  with_reducible repeat' first | refine Safe.bind ?_ fun _ => ?_ | exact Safe.pure _ | refine Safe.load ?_ | refine Safe.store ?_ | refine Holds.squeeze ?_ _ | refine Holds.slice ?_ _ _ | assumption

theorem part46 (v1339 : FVec F S16x512 .bf16) : Safe (defs₀ (F := F)) (c : Thread nD τ) A (k0_part46 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1339) := by
  unfold k0_part46
  with_reducible repeat' first | refine Safe.bind ?_ fun _ => ?_ | exact Safe.pure _ | refine Safe.load ?_ | refine Safe.store ?_ | refine Holds.squeeze ?_ _ | refine Holds.slice ?_ _ _ | assumption

theorem part47 (v1339 : FVec F S16x512 .bf16) (v1529 : FVec F S128x512 .bf16) : Safe (defs₀ (F := F)) (c : Thread nD τ) A (k0_part47 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1339 v1529) := by
  unfold k0_part47
  with_reducible repeat' first | refine Safe.bind ?_ fun _ => ?_ | exact Safe.pure _ | refine Safe.load ?_ | refine Safe.store ?_ | refine Holds.squeeze ?_ _ | refine Holds.slice ?_ _ _ | assumption

theorem part48 (v1339 : FVec F S16x512 .bf16) (v1559 : FVec F S512x128 .bf16) : Safe (defs₀ (F := F)) (c : Thread nD τ) A (k0_part48 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1339 v1559) := by
  unfold k0_part48
  with_reducible repeat' first | refine Safe.bind ?_ fun _ => ?_ | exact Safe.pure _ | refine Safe.load ?_ | refine Safe.store ?_ | refine Holds.squeeze ?_ _ | refine Holds.slice ?_ _ _ | assumption

theorem part49 (v1339 : FVec F S16x512 .bf16) (v1583 : FVec F S128x512 .f32) (v1587 : FVec F S16x512 .f32) (v1588 : FVec F S16x512 .f32) (v1592 : FVec F S16x512 .f32) (v1593 : FVec F S16x512 .f32) : Safe (defs₀ (F := F)) (c : Thread nD τ) A (k0_part49 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1339 v1583 v1587 v1588 v1592 v1593) := by
  unfold k0_part49
  with_reducible repeat' first | refine Safe.bind ?_ fun _ => ?_ | exact Safe.pure _ | refine Safe.load ?_ | refine Safe.store ?_ | refine Holds.squeeze ?_ _ | refine Holds.slice ?_ _ _ | assumption

theorem part50 (v1622 : FVec F S512x128 .f32) : Safe (defs₀ (F := F)) (c : Thread nD τ) A (k0_part50 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1622) := by
  unfold k0_part50
  with_reducible repeat' first | refine Safe.bind ?_ fun _ => ?_ | exact Safe.pure _ | refine Safe.load ?_ | refine Safe.store ?_ | refine Holds.squeeze ?_ _ | refine Holds.slice ?_ _ _ | assumption

theorem part51 (v23 : IVec S512x128 32) (v24 : IVec S512x128 32) (v1339 : FVec F S16x512 .bf16) : Safe (defs₀ (F := F)) (c : Thread nD τ) A (k0_part51 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v24 v1339) := by
  unfold k0_part51
  with_reducible repeat' first | refine Safe.bind ?_ fun _ => ?_ | exact Safe.pure _ | refine Safe.load ?_ | refine Safe.store ?_ | refine Holds.squeeze ?_ _ | refine Holds.slice ?_ _ _ | assumption

theorem part52 (v23 : IVec S512x128 32) (v24 : IVec S512x128 32) (v1688 : IVec S512x128 1) (v1689 : FVec F S512x128 .f32) (v1690 : FVec F S512x128 .f32) : Safe (defs₀ (F := F)) (c : Thread nD τ) A (k0_part52 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v24 v1688 v1689 v1690) := by
  unfold k0_part52
  with_reducible repeat' first | refine Safe.bind ?_ fun _ => ?_ | exact Safe.pure _ | refine Safe.load ?_ | refine Safe.store ?_ | refine Holds.squeeze ?_ _ | refine Holds.slice ?_ _ _ | assumption

theorem part53 (v22 : FVec F S16x4096 .bf16) (v23 : IVec S512x128 32) (v24 : IVec S512x128 32) (v1724 : IVec S512x128 1) (v1725 : FVec F S512x128 .f32) (v1726 : FVec F S512x128 .f32) : Safe (defs₀ (F := F)) (c : Thread nD τ) A (k0_part53 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v22 v23 v24 v1724 v1725 v1726) := by
  unfold k0_part53
  with_reducible repeat' first | refine Safe.bind ?_ fun _ => ?_ | exact Safe.pure _ | refine Safe.load ?_ | refine Safe.store ?_ | refine Holds.squeeze ?_ _ | refine Holds.slice ?_ _ _ | assumption

theorem part55 (arg2 : BitVec 32) : Safe (defs₀ (F := F)) (c : Thread nD τ) A (k0_part55 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2) := by
  unfold k0_part55
  with_reducible repeat' first | refine Safe.bind ?_ fun _ => ?_ | exact Safe.pure _ | refine Safe.load ?_ | refine Safe.store ?_ | refine Holds.squeeze ?_ _ | refine Holds.slice ?_ _ _ | assumption

theorem part56 (v14 : IVec S16x512 32) (v21 : IVec S16x512 1) (v53 : FVec F S16x512 .f32) (cst_75 : F .f32) : Safe (defs₀ (F := F)) (c : Thread nD τ) A (k0_part56 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v21 v53 cst_75) := by
  unfold k0_part56
  with_reducible repeat' first | refine Safe.bind ?_ fun _ => ?_ | exact Safe.pure _ | refine Safe.load ?_ | refine Safe.store ?_ | refine Holds.squeeze ?_ _ | refine Holds.slice ?_ _ _ | assumption

theorem part57 (v21 : IVec S16x512 1) (v96 : FVec F S16x512 .f32) (v97 : FVec F S112x512 .f32) : Safe (defs₀ (F := F)) (c : Thread nD τ) A (k0_part57 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v96 v97) := by
  unfold k0_part57
  with_reducible repeat' first | refine Safe.bind ?_ fun _ => ?_ | exact Safe.pure _ | refine Safe.load ?_ | refine Safe.store ?_ | refine Holds.squeeze ?_ _ | refine Holds.slice ?_ _ _ | assumption

theorem part58 (v14 : IVec S16x512 32) (v21 : IVec S16x512 1) (v134 : FVec F S16x512 .f32) (cst_108 : F .f32) (cst_109 : F .f32) : Safe (defs₀ (F := F)) (c : Thread nD τ) A (k0_part58 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v21 v134 cst_108 cst_109) := by
  unfold k0_part58
  with_reducible repeat' first | refine Safe.bind ?_ fun _ => ?_ | exact Safe.pure _ | refine Safe.load ?_ | refine Safe.store ?_ | refine Holds.squeeze ?_ _ | refine Holds.slice ?_ _ _ | assumption

theorem part59 (v21 : IVec S16x512 1) (v179 : FVec F S128x512 .f32) : Safe (defs₀ (F := F)) (c : Thread nD τ) A (k0_part59 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v179) := by
  unfold k0_part59
  with_reducible repeat' first | refine Safe.bind ?_ fun _ => ?_ | exact Safe.pure _ | refine Safe.load ?_ | refine Safe.store ?_ | refine Holds.squeeze ?_ _ | refine Holds.slice ?_ _ _ | assumption

theorem part60 (v14 : IVec S16x512 32) (v21 : IVec S16x512 1) (v215 : FVec F S16x512 .f32) (cst_143 : F .f32) (v216 : FVec F S16x512 .f32) : Safe (defs₀ (F := F)) (c : Thread nD τ) A (k0_part60 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v21 v215 cst_143 v216) := by
  unfold k0_part60
  with_reducible repeat' first | refine Safe.bind ?_ fun _ => ?_ | exact Safe.pure _ | refine Safe.load ?_ | refine Safe.store ?_ | refine Holds.squeeze ?_ _ | refine Holds.slice ?_ _ _ | assumption

theorem part61 (v21 : IVec S16x512 1) (v261 : FVec F S128x512 .bf16) : Safe (defs₀ (F := F)) (c : Thread nD τ) A (k0_part61 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v261) := by
  unfold k0_part61
  with_reducible repeat' first | refine Safe.bind ?_ fun _ => ?_ | exact Safe.pure _ | refine Safe.load ?_ | refine Safe.store ?_ | refine Holds.squeeze ?_ _ | refine Holds.slice ?_ _ _ | assumption

theorem part62 (v14 : IVec S16x512 32) (v21 : IVec S16x512 1) (v296 : FVec F S16x512 .f32) (v297 : FVec F S16x512 .f32) (v298 : FVec F S16x512 .f32) : Safe (defs₀ (F := F)) (c : Thread nD τ) A (k0_part62 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v21 v296 v297 v298) := by
  unfold k0_part62
  with_reducible repeat' first | refine Safe.bind ?_ fun _ => ?_ | exact Safe.pure _ | refine Safe.load ?_ | refine Safe.store ?_ | refine Holds.squeeze ?_ _ | refine Holds.slice ?_ _ _ | assumption

theorem part63 (v342 : FVec F S128x512 .bf16) : Safe (defs₀ (F := F)) (c : Thread nD τ) A (k0_part63 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v342) := by
  unfold k0_part63
  with_reducible repeat' first | refine Safe.bind ?_ fun _ => ?_ | exact Safe.pure _ | refine Safe.load ?_ | refine Safe.store ?_ | refine Holds.squeeze ?_ _ | refine Holds.slice ?_ _ _ | assumption

theorem part64 (v367 : FVec F S512x256 .bf16) : Safe (defs₀ (F := F)) (c : Thread nD τ) A (k0_part64 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v367) := by
  unfold k0_part64
  with_reducible repeat' first | refine Safe.bind ?_ fun _ => ?_ | exact Safe.pure _ | refine Safe.load ?_ | refine Safe.store ?_ | refine Holds.squeeze ?_ _ | refine Holds.slice ?_ _ _ | assumption

theorem part65 (c0_i32_4 : BitVec 32) (c0_i32_5 : BitVec 32) (v389 : FVec F S512x512 .f32) : Safe (defs₀ (F := F)) (c : Thread nD τ) A (k0_part65 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_4 c0_i32_5 v389) := by
  unfold k0_part65
  with_reducible repeat' first | refine Safe.bind ?_ fun _ => ?_ | exact Safe.pure _ | refine Safe.load ?_ | refine Safe.store ?_ | refine Holds.squeeze ?_ _ | refine Holds.slice ?_ _ _ | assumption

theorem part66 (c1_i32_7 : BitVec 32) (c1_i32_8 : BitVec 32) (c2_i32_10 : BitVec 32) (c2_i32_11 : BitVec 32) (v419 : FVec F S144x512 .bf16) (v424 : FVec F S1x512 .f32) (v426 : FVec F S512x512 .f32) : Safe (defs₀ (F := F)) (c : Thread nD τ) A (k0_part66 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c1_i32_7 c1_i32_8 c2_i32_10 c2_i32_11 v419 v424 v426) := by
  unfold k0_part66
  with_reducible repeat' first | refine Safe.bind ?_ fun _ => ?_ | exact Safe.pure _ | refine Safe.load ?_ | refine Safe.store ?_ | refine Holds.squeeze ?_ _ | refine Holds.slice ?_ _ _ | assumption

end Cert.Proof.Moba

end
-- ==== Proof.Moba.Steps2.lean ====
/- The body of the call, stretch by stretch: each runs to its end holding what it held. -/
module

public import proofs.«01_k».proof.MobaIdeal
public import proofs.«01_k».proof.Proof.Mixers.Safe

@[expose] public section

set_option maxRecDepth 16384

noncomputable section

namespace Cert.Proof.Moba

open Cert.MobaIdeal Cert.Proof.Mixers Cert.MobaIdeal.Facts₀ Cert.MobaIdeal.Facts
open Idealize.ShloMosaic Idealize.ShloMosaic.TcCoe
open Idealize.SL Idealize.SL.RA Idealize.SL.BI Idealize.SL.Sem

variable {F : FTy → Type} [FloatOps F] [Facts] {U : Type} [URA U]
variable {c : Dev nD} {A : sProp (MT nD τ sig Unit (Elt F) ℕ U ℕ)}
variable (i : grid0.Coords)
variable (arg3 : Memref sig .tc .vmem S16x512 .f32) (harg3 : arg3.IsWhole)
variable (arg4 : Memref sig .tc .vmem S16x512 .f32) (harg4 : arg4.IsWhole)
variable (arg5 : Memref sig .tc .vmem S16x4096 .f32) (harg5 : arg5.IsWhole)
variable (arg6 : Memref sig .tc .vmem S16x4096 .f32) (harg6 : arg6.IsWhole)
variable (arg7 : Memref sig .tc .vmem S512x512 .f32) (harg7 : arg7.IsWhole)
variable (arg8 : Memref sig .tc .vmem S1x512x512 .bf16) (harg8 : arg8.IsWhole)
variable (arg9 : Memref sig .tc .vmem S1x4096x512 .bf16) (harg9 : arg9.IsWhole)
variable (arg10 : Memref sig .tc .vmem S1x4096x512 .bf16) (harg10 : arg10.IsWhole)
variable (arg11 : Memref sig .tc .vmem S1x512x512 .bf16) (harg11 : arg11.IsWhole)
variable (arg12 : Memref sig .tc .vmem S4x256x512 .bf16) (harg12 : arg12.IsWhole)
variable (arg13 : Memref sig .tc .vmem S4x4096x256 .bf16) (harg13 : arg13.IsWhole)
variable (arg14 : Memref sig .tc .vmem S4x8x144x512 .bf16) (harg14 : arg14.IsWhole)
variable (arg15 : Memref sig .tc .vmem S4x2x512x512 .f32) (harg15 : arg15.IsWhole)
variable (arg16 : Memref sig .tc .vmem S4x2x1x512 .f32) (harg16 : arg16.IsWhole)
variable (arg17 : Memref sig .tc .vmem S4x1x512 .f32) (harg17 : arg17.IsWhole)
variable (arg18 : Memref sig .tc .vmem S4x144x512 .f32) (harg18 : arg18.IsWhole)
variable (arg19 : Memref sig .tc .vmem S4x32x128 .bf16) (harg19 : arg19.IsWhole)
variable (h3 : Holds (c : Thread nD τ) A arg3)
variable (h4 : Holds (c : Thread nD τ) A arg4)
variable (h5 : Holds (c : Thread nD τ) A arg5)
variable (h6 : Holds (c : Thread nD τ) A arg6)
variable (h7 : Holds (c : Thread nD τ) A arg7)
variable (h8 : Holds (c : Thread nD τ) A arg8)
variable (h9 : Holds (c : Thread nD τ) A arg9)
variable (h10 : Holds (c : Thread nD τ) A arg10)
variable (h11 : Holds (c : Thread nD τ) A arg11)
variable (h12 : Holds (c : Thread nD τ) A arg12)
variable (h13 : Holds (c : Thread nD τ) A arg13)
variable (h14 : Holds (c : Thread nD τ) A arg14)
variable (h15 : Holds (c : Thread nD τ) A arg15)
variable (h16 : Holds (c : Thread nD τ) A arg16)
variable (h17 : Holds (c : Thread nD τ) A arg17)
variable (h18 : Holds (c : Thread nD τ) A arg18)
variable (h19 : Holds (c : Thread nD τ) A arg19)
include h3 h4 h5 h6 h7 h8 h9 h10 h11 h12 h13 h14 h15 h16 h17 h18 h19

theorem part67 (c3_i32_13 : BitVec 32) (c3_i32_14 : BitVec 32) (v450 : FVec F S1x512 .f32) : Safe (defs₀ (F := F)) (c : Thread nD τ) A (k0_part67 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c3_i32_13 c3_i32_14 v450) := by
  unfold k0_part67
  with_reducible repeat' first | refine Safe.bind ?_ fun _ => ?_ | exact Safe.pure _ | refine Safe.load ?_ | refine Safe.store ?_ | refine Holds.squeeze ?_ _ | refine Holds.slice ?_ _ _ | assumption

theorem part68 (v491 : FVec F S1x512 .f32) : Safe (defs₀ (F := F)) (c : Thread nD τ) A (k0_part68 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v491) := by
  unfold k0_part68
  with_reducible repeat' first | refine Safe.bind ?_ fun _ => ?_ | exact Safe.pure _ | refine Safe.load ?_ | refine Safe.store ?_ | refine Holds.squeeze ?_ _ | refine Holds.slice ?_ _ _ | assumption

theorem part69 (arg2 : BitVec 32) : Safe (defs₀ (F := F)) (c : Thread nD τ) A (k0_part69 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2) := by
  unfold k0_part69
  with_reducible repeat' first | refine Safe.bind ?_ fun _ => ?_ | exact Safe.pure _ | refine Safe.load ?_ | refine Safe.store ?_ | refine Holds.squeeze ?_ _ | refine Holds.slice ?_ _ _ | assumption

theorem part70 (v14 : IVec S16x512 32) (v21 : IVec S16x512 1) (v53 : FVec F S16x512 .f32) (cst_75 : F .f32) : Safe (defs₀ (F := F)) (c : Thread nD τ) A (k0_part70 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v21 v53 cst_75) := by
  unfold k0_part70
  with_reducible repeat' first | refine Safe.bind ?_ fun _ => ?_ | exact Safe.pure _ | refine Safe.load ?_ | refine Safe.store ?_ | refine Holds.squeeze ?_ _ | refine Holds.slice ?_ _ _ | assumption

theorem part71 (v21 : IVec S16x512 1) (v96 : FVec F S16x512 .f32) (v97 : FVec F S112x512 .f32) : Safe (defs₀ (F := F)) (c : Thread nD τ) A (k0_part71 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v96 v97) := by
  unfold k0_part71
  with_reducible repeat' first | refine Safe.bind ?_ fun _ => ?_ | exact Safe.pure _ | refine Safe.load ?_ | refine Safe.store ?_ | refine Holds.squeeze ?_ _ | refine Holds.slice ?_ _ _ | assumption

theorem part72 (v14 : IVec S16x512 32) (v21 : IVec S16x512 1) (v134 : FVec F S16x512 .f32) (cst_108 : F .f32) (cst_109 : F .f32) : Safe (defs₀ (F := F)) (c : Thread nD τ) A (k0_part72 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v21 v134 cst_108 cst_109) := by
  unfold k0_part72
  with_reducible repeat' first | refine Safe.bind ?_ fun _ => ?_ | exact Safe.pure _ | refine Safe.load ?_ | refine Safe.store ?_ | refine Holds.squeeze ?_ _ | refine Holds.slice ?_ _ _ | assumption

theorem part73 (v21 : IVec S16x512 1) (v179 : FVec F S128x512 .f32) : Safe (defs₀ (F := F)) (c : Thread nD τ) A (k0_part73 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v179) := by
  unfold k0_part73
  with_reducible repeat' first | refine Safe.bind ?_ fun _ => ?_ | exact Safe.pure _ | refine Safe.load ?_ | refine Safe.store ?_ | refine Holds.squeeze ?_ _ | refine Holds.slice ?_ _ _ | assumption

theorem part74 (v14 : IVec S16x512 32) (v21 : IVec S16x512 1) (v215 : FVec F S16x512 .f32) (cst_143 : F .f32) (v216 : FVec F S16x512 .f32) : Safe (defs₀ (F := F)) (c : Thread nD τ) A (k0_part74 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v21 v215 cst_143 v216) := by
  unfold k0_part74
  with_reducible repeat' first | refine Safe.bind ?_ fun _ => ?_ | exact Safe.pure _ | refine Safe.load ?_ | refine Safe.store ?_ | refine Holds.squeeze ?_ _ | refine Holds.slice ?_ _ _ | assumption

theorem part75 (v21 : IVec S16x512 1) (v261 : FVec F S128x512 .bf16) : Safe (defs₀ (F := F)) (c : Thread nD τ) A (k0_part75 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v261) := by
  unfold k0_part75
  with_reducible repeat' first | refine Safe.bind ?_ fun _ => ?_ | exact Safe.pure _ | refine Safe.load ?_ | refine Safe.store ?_ | refine Holds.squeeze ?_ _ | refine Holds.slice ?_ _ _ | assumption

theorem part76 (v14 : IVec S16x512 32) (v21 : IVec S16x512 1) (v296 : FVec F S16x512 .f32) (v297 : FVec F S16x512 .f32) (v298 : FVec F S16x512 .f32) : Safe (defs₀ (F := F)) (c : Thread nD τ) A (k0_part76 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v21 v296 v297 v298) := by
  unfold k0_part76
  with_reducible repeat' first | refine Safe.bind ?_ fun _ => ?_ | exact Safe.pure _ | refine Safe.load ?_ | refine Safe.store ?_ | refine Holds.squeeze ?_ _ | refine Holds.slice ?_ _ _ | assumption

theorem part77 (arg2 : BitVec 32) (k0_h3 : k0_cond3 i = 1#1) (v342 : FVec F S128x512 .bf16) : Safe (defs₀ (F := F)) (c : Thread nD τ) A (k0_part77 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 k0_h3 v342) := by
  unfold k0_part77
  with_reducible repeat' first | refine Safe.bind ?_ fun _ => ?_ | exact Safe.pure _ | refine Safe.load ?_ | refine Safe.store ?_ | refine Holds.squeeze ?_ _ | refine Holds.slice ?_ _ _ | assumption

theorem part78 (arg2 : BitVec 32) (k0_h3 : k0_cond3 i = 1#1) : Safe (defs₀ (F := F)) (c : Thread nD τ) A (k0_part78 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 k0_h3) := by
  unfold k0_part78
  with_reducible repeat' first | refine Safe.bind ?_ fun _ => ?_ | exact Safe.pure _ | refine Safe.load ?_ | refine Safe.store ?_ | refine Holds.squeeze ?_ _ | refine Holds.slice ?_ _ _ | assumption

theorem part79 (v399 : FVec F S512x256 .bf16) : Safe (defs₀ (F := F)) (c : Thread nD τ) A (k0_part79 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v399) := by
  unfold k0_part79
  with_reducible repeat' first | refine Safe.bind ?_ fun _ => ?_ | exact Safe.pure _ | refine Safe.load ?_ | refine Safe.store ?_ | refine Holds.squeeze ?_ _ | refine Holds.slice ?_ _ _ | assumption

theorem part80 (v419 : FVec F S512x512 .f32) : Safe (defs₀ (F := F)) (c : Thread nD τ) A (k0_part80 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v419) := by
  unfold k0_part80
  with_reducible repeat' first | refine Safe.bind ?_ fun _ => ?_ | exact Safe.pure _ | refine Safe.load ?_ | refine Safe.store ?_ | refine Holds.squeeze ?_ _ | refine Holds.slice ?_ _ _ | assumption

theorem part81 (arg2 : BitVec 32) (k0_h3 : k0_cond3 i = 1#1) (v450 : FVec F S512x256 .bf16) (v451 : Vec F S1x256x512 .bf16) : Safe (defs₀ (F := F)) (c : Thread nD τ) A (k0_part81 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 k0_h3 v450 v451) := by
  unfold k0_part81
  with_reducible repeat' first | refine Safe.bind ?_ fun _ => ?_ | exact Safe.pure _ | refine Safe.load ?_ | refine Safe.store ?_ | refine Holds.squeeze ?_ _ | refine Holds.slice ?_ _ _ | assumption

theorem part82 (arg2 : BitVec 32) (c0_i32_27 : BitVec 32) (c0_i32_28 : BitVec 32) (c1_i32_30 : BitVec 32) (c1_i32_31 : BitVec 32) (k0_h3 : k0_cond3 i = 1#1) (v474 : FVec F S144x512 .bf16) (v479 : FVec F S1x512 .f32) (v481 : FVec F S512x512 .f32) : Safe (defs₀ (F := F)) (c : Thread nD τ) A (k0_part82 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 c0_i32_27 c0_i32_28 c1_i32_30 c1_i32_31 k0_h3 v474 v479 v481) := by
  unfold k0_part82
  with_reducible repeat' first | refine Safe.bind ?_ fun _ => ?_ | exact Safe.pure _ | refine Safe.load ?_ | refine Safe.store ?_ | refine Holds.squeeze ?_ _ | refine Holds.slice ?_ _ _ | assumption

theorem part83 (arg2 : BitVec 32) (c2_i32_33 : BitVec 32) (c2_i32_34 : BitVec 32) (k0_h3 : k0_cond3 i = 1#1) (v506 : FVec F S1x512 .f32) : Safe (defs₀ (F := F)) (c : Thread nD τ) A (k0_part83 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 c2_i32_33 c2_i32_34 k0_h3 v506) := by
  unfold k0_part83
  with_reducible repeat' first | refine Safe.bind ?_ fun _ => ?_ | exact Safe.pure _ | refine Safe.load ?_ | refine Safe.store ?_ | refine Holds.squeeze ?_ _ | refine Holds.slice ?_ _ _ | assumption

theorem part84 (k0_h4 : k0_cond4 i = 1#1) (c0_i32_70 : BitVec 32) (c1_i32_72 : BitVec 32) (k0_t1 : Fin (k0_t1_loop i).trips) : Safe (defs₀ (F := F)) (c : Thread nD τ) A (k0_part84 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 c0_i32_70 c1_i32_72 k0_t1) := by
  unfold k0_part84
  with_reducible repeat' first | refine Safe.bind ?_ fun _ => ?_ | exact Safe.pure _ | refine Safe.load ?_ | refine Safe.store ?_ | refine Holds.squeeze ?_ _ | refine Holds.slice ?_ _ _ | assumption

theorem part85 (k0_h4 : k0_cond4 i = 1#1) (k0_t1 : Fin (k0_t1_loop i).trips) (v65 : BitVec 32) (v90 : FVec F S512x256 .bf16) (v92 : FVec F S256x512 .bf16) : Safe (defs₀ (F := F)) (c : Thread nD τ) A (k0_part85 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 k0_t1 v65 v90 v92) := by
  unfold k0_part85
  with_reducible repeat' first | refine Safe.bind ?_ fun _ => ?_ | exact Safe.pure _ | refine Safe.load ?_ | refine Safe.store ?_ | refine Holds.squeeze ?_ _ | refine Holds.slice ?_ _ _ | assumption

theorem part86 (k0_h4 : k0_cond4 i = 1#1) (k0_t1 : Fin (k0_t1_loop i).trips) (v65 : BitVec 32) (v113 : FVec F S512x512 .f32) : Safe (defs₀ (F := F)) (c : Thread nD τ) A (k0_part86 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 k0_t1 v65 v113) := by
  unfold k0_part86
  with_reducible repeat' first | refine Safe.bind ?_ fun _ => ?_ | exact Safe.pure _ | refine Safe.load ?_ | refine Safe.store ?_ | refine Holds.squeeze ?_ _ | refine Holds.slice ?_ _ _ | assumption

theorem part87 (c0_i32_49 : BitVec 32) (c0_i32_50 : BitVec 32) (k0_h4 : k0_cond4 i = 1#1) (k0_t1 : Fin (k0_t1_loop i).trips) (v146 : BitVec 32) : Safe (defs₀ (F := F)) (c : Thread nD τ) A (k0_part87 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_49 c0_i32_50 k0_h4 k0_t1 v146) := by
  unfold k0_part87
  with_reducible repeat' first | refine Safe.bind ?_ fun _ => ?_ | exact Safe.pure _ | refine Safe.load ?_ | refine Safe.store ?_ | refine Holds.squeeze ?_ _ | refine Holds.slice ?_ _ _ | assumption

theorem part88 (c1_i32_52 : BitVec 32) (c1_i32_53 : BitVec 32) (k0_h4 : k0_cond4 i = 1#1) (k0_t1 : Fin (k0_t1_loop i).trips) (v146 : BitVec 32) (v184 : FVec F S1x1x512 .f32) : Safe (defs₀ (F := F)) (c : Thread nD τ) A (k0_part88 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c1_i32_52 c1_i32_53 k0_h4 k0_t1 v146 v184) := by
  unfold k0_part88
  with_reducible repeat' first | refine Safe.bind ?_ fun _ => ?_ | exact Safe.pure _ | refine Safe.load ?_ | refine Safe.store ?_ | refine Holds.squeeze ?_ _ | refine Holds.slice ?_ _ _ | assumption

theorem part89 (c1_i32_52 : BitVec 32) (c2_i32_55 : BitVec 32) (c2_i32_56 : BitVec 32) (k0_h4 : k0_cond4 i = 1#1) (k0_t1 : Fin (k0_t1_loop i).trips) (v146 : BitVec 32) (v201 : FVec F S1x512 .f32) : Safe (defs₀ (F := F)) (c : Thread nD τ) A (k0_part89 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c1_i32_52 c2_i32_55 c2_i32_56 k0_h4 k0_t1 v146 v201) := by
  unfold k0_part89
  with_reducible repeat' first | refine Safe.bind ?_ fun _ => ?_ | exact Safe.pure _ | refine Safe.load ?_ | refine Safe.store ?_ | refine Holds.squeeze ?_ _ | refine Holds.slice ?_ _ _ | assumption

theorem part90 (c2_i32_55 : BitVec 32) (c3_i32_58 : BitVec 32) (c3_i32_59 : BitVec 32) (k0_h4 : k0_cond4 i = 1#1) (k0_t1 : Fin (k0_t1_loop i).trips) (v146 : BitVec 32) (v239 : FVec F S1x512 .f32) (v252 : FVec F S144x512 .f32) : Safe (defs₀ (F := F)) (c : Thread nD τ) A (k0_part90 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c2_i32_55 c3_i32_58 c3_i32_59 k0_h4 k0_t1 v146 v239 v252) := by
  unfold k0_part90
  with_reducible repeat' first | refine Safe.bind ?_ fun _ => ?_ | exact Safe.pure _ | refine Safe.load ?_ | refine Safe.store ?_ | refine Holds.squeeze ?_ _ | refine Holds.slice ?_ _ _ | assumption

theorem part91 (c3_i32_58 : BitVec 32) (c3_i32_59 : BitVec 32) (k0_h4 : k0_cond4 i = 1#1) (k0_t1 : Fin (k0_t1_loop i).trips) (v65 : BitVec 32) (v269 : FVec F S144x512 .bf16) (v277 : FVec F S1x512 .f32) (v279 : FVec F S1x512 .f32) (v283 : FVec F S512x512 .bf16) (v286 : FVec F S144x512 .f32) : Safe (defs₀ (F := F)) (c : Thread nD τ) A (k0_part91 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c3_i32_58 c3_i32_59 k0_h4 k0_t1 v65 v269 v277 v279 v283 v286) := by
  unfold k0_part91
  with_reducible repeat' first | refine Safe.bind ?_ fun _ => ?_ | exact Safe.pure _ | refine Safe.load ?_ | refine Safe.store ?_ | refine Holds.squeeze ?_ _ | refine Holds.slice ?_ _ _ | assumption

theorem part92 (k0_h4 : k0_cond4 i = 1#1) (k0_t1 : Fin (k0_t1_loop i).trips) (v299 : BitVec 32) (v307 : FVec F S512x512 .f32) (v317 : Vec F S1x512x512 .f32) : Safe (defs₀ (F := F)) (c : Thread nD τ) A (k0_part92 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 k0_t1 v299 v307 v317) := by
  unfold k0_part92
  with_reducible repeat' first | refine Safe.bind ?_ fun _ => ?_ | exact Safe.pure _ | refine Safe.load ?_ | refine Safe.store ?_ | refine Holds.squeeze ?_ _ | refine Holds.slice ?_ _ _ | assumption

theorem part93 (k0_h4 : k0_cond4 i = 1#1) (k0_t1 : Fin (k0_t1_loop i).trips) (v299 : BitVec 32) (v347 : FVec F S512x512 .f32) : Safe (defs₀ (F := F)) (c : Thread nD τ) A (k0_part93 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 k0_t1 v299 v347) := by
  unfold k0_part93
  with_reducible repeat' first | refine Safe.bind ?_ fun _ => ?_ | exact Safe.pure _ | refine Safe.load ?_ | refine Safe.store ?_ | refine Holds.squeeze ?_ _ | refine Holds.slice ?_ _ _ | assumption

theorem part94 (c0_i32_49 : BitVec 32) (c0_i32_50 : BitVec 32) (k0_h4 : k0_cond4 i = 1#1) (k0_t1 : Fin (k0_t1_loop i).trips) (v65 : BitVec 32) (v367 : FVec F S512x512 .f32) : Safe (defs₀ (F := F)) (c : Thread nD τ) A (k0_part94 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_49 c0_i32_50 k0_h4 k0_t1 v65 v367) := by
  unfold k0_part94
  with_reducible repeat' first | refine Safe.bind ?_ fun _ => ?_ | exact Safe.pure _ | refine Safe.load ?_ | refine Safe.store ?_ | refine Holds.squeeze ?_ _ | refine Holds.slice ?_ _ _ | assumption

theorem part95 (c0_i32_49 : BitVec 32) (c0_i32_50 : BitVec 32) (c1_i32_52 : BitVec 32) (c1_i32_53 : BitVec 32) (k0_h4 : k0_cond4 i = 1#1) (k0_t1 : Fin (k0_t1_loop i).trips) (v65 : BitVec 32) (v396 : FVec F S1x512 .f32) (v407 : FVec F S144x512 .f32) (v408 : FVec F S144x512 .f32) : Safe (defs₀ (F := F)) (c : Thread nD τ) A (k0_part95 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_49 c0_i32_50 c1_i32_52 c1_i32_53 k0_h4 k0_t1 v65 v396 v407 v408) := by
  unfold k0_part95
  with_reducible repeat' first | refine Safe.bind ?_ fun _ => ?_ | exact Safe.pure _ | refine Safe.load ?_ | refine Safe.store ?_ | refine Holds.squeeze ?_ _ | refine Holds.slice ?_ _ _ | assumption

theorem part96 (c1_i32_52 : BitVec 32) (c1_i32_53 : BitVec 32) (c2_i32_55 : BitVec 32) (k0_h4 : k0_cond4 i = 1#1) (k0_t1 : Fin (k0_t1_loop i).trips) (v65 : BitVec 32) (v426 : FVec F S144x512 .bf16) (v434 : FVec F S1x512 .f32) (v436 : FVec F S1x512 .f32) (v440 : FVec F S512x512 .bf16) : Safe (defs₀ (F := F)) (c : Thread nD τ) A (k0_part96 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c1_i32_52 c1_i32_53 c2_i32_55 k0_h4 k0_t1 v65 v426 v434 v436 v440) := by
  unfold k0_part96
  with_reducible repeat' first | refine Safe.bind ?_ fun _ => ?_ | exact Safe.pure _ | refine Safe.load ?_ | refine Safe.store ?_ | refine Holds.squeeze ?_ _ | refine Holds.slice ?_ _ _ | assumption

theorem part97 (c2_i32_55 : BitVec 32) (c2_i32_56 : BitVec 32) (c3_i32_58 : BitVec 32) (k0_h4 : k0_cond4 i = 1#1) (k0_t1 : Fin (k0_t1_loop i).trips) (v65 : BitVec 32) (v459 : FVec F S512x512 .f32) (v464 : FVec F S144x512 .bf16) (v472 : FVec F S1x512 .f32) (v474 : FVec F S1x512 .f32) (v475 : FVec F S512x512 .f32) : Safe (defs₀ (F := F)) (c : Thread nD τ) A (k0_part97 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c2_i32_55 c2_i32_56 c3_i32_58 k0_h4 k0_t1 v65 v459 v464 v472 v474 v475) := by
  unfold k0_part97
  with_reducible repeat' first | refine Safe.bind ?_ fun _ => ?_ | exact Safe.pure _ | refine Safe.load ?_ | refine Safe.store ?_ | refine Holds.squeeze ?_ _ | refine Holds.slice ?_ _ _ | assumption

theorem part98 (k0_h4 : k0_cond4 i = 1#1) (v36 : BitVec 32) (c1_i32_73 : BitVec 32) (k0_t2 : Fin (k0_t2_loop i).trips) : Safe (defs₀ (F := F)) (c : Thread nD τ) A (k0_part98 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v36 c1_i32_73 k0_t2) := by
  unfold k0_part98
  with_reducible repeat' first | refine Safe.bind ?_ fun _ => ?_ | exact Safe.pure _ | refine Safe.load ?_ | refine Safe.store ?_ | refine Holds.squeeze ?_ _ | refine Holds.slice ?_ _ _ | assumption

theorem part99 (k0_h4 : k0_cond4 i = 1#1) (k0_t2 : Fin (k0_t2_loop i).trips) (v65 : BitVec 32) (v90 : FVec F S512x256 .bf16) (v92 : FVec F S256x512 .bf16) : Safe (defs₀ (F := F)) (c : Thread nD τ) A (k0_part99 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 k0_t2 v65 v90 v92) := by
  unfold k0_part99
  with_reducible repeat' first | refine Safe.bind ?_ fun _ => ?_ | exact Safe.pure _ | refine Safe.load ?_ | refine Safe.store ?_ | refine Holds.squeeze ?_ _ | refine Holds.slice ?_ _ _ | assumption

theorem part100 (k0_h4 : k0_cond4 i = 1#1) (k0_t2 : Fin (k0_t2_loop i).trips) (v65 : BitVec 32) (v113 : FVec F S512x512 .f32) : Safe (defs₀ (F := F)) (c : Thread nD τ) A (k0_part100 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 k0_t2 v65 v113) := by
  unfold k0_part100
  with_reducible repeat' first | refine Safe.bind ?_ fun _ => ?_ | exact Safe.pure _ | refine Safe.load ?_ | refine Safe.store ?_ | refine Holds.squeeze ?_ _ | refine Holds.slice ?_ _ _ | assumption

theorem part101 (c0_i32_49 : BitVec 32) (c0_i32_50 : BitVec 32) (k0_h4 : k0_cond4 i = 1#1) (k0_t2 : Fin (k0_t2_loop i).trips) (v146 : BitVec 32) : Safe (defs₀ (F := F)) (c : Thread nD τ) A (k0_part101 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_49 c0_i32_50 k0_h4 k0_t2 v146) := by
  unfold k0_part101
  with_reducible repeat' first | refine Safe.bind ?_ fun _ => ?_ | exact Safe.pure _ | refine Safe.load ?_ | refine Safe.store ?_ | refine Holds.squeeze ?_ _ | refine Holds.slice ?_ _ _ | assumption

theorem part102 (c1_i32_52 : BitVec 32) (c1_i32_53 : BitVec 32) (k0_h4 : k0_cond4 i = 1#1) (k0_t2 : Fin (k0_t2_loop i).trips) (v146 : BitVec 32) (v184 : FVec F S1x1x512 .f32) : Safe (defs₀ (F := F)) (c : Thread nD τ) A (k0_part102 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c1_i32_52 c1_i32_53 k0_h4 k0_t2 v146 v184) := by
  unfold k0_part102
  with_reducible repeat' first | refine Safe.bind ?_ fun _ => ?_ | exact Safe.pure _ | refine Safe.load ?_ | refine Safe.store ?_ | refine Holds.squeeze ?_ _ | refine Holds.slice ?_ _ _ | assumption

theorem part103 (c1_i32_52 : BitVec 32) (c2_i32_55 : BitVec 32) (c2_i32_56 : BitVec 32) (k0_h4 : k0_cond4 i = 1#1) (k0_t2 : Fin (k0_t2_loop i).trips) (v146 : BitVec 32) (v201 : FVec F S1x512 .f32) : Safe (defs₀ (F := F)) (c : Thread nD τ) A (k0_part103 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c1_i32_52 c2_i32_55 c2_i32_56 k0_h4 k0_t2 v146 v201) := by
  unfold k0_part103
  with_reducible repeat' first | refine Safe.bind ?_ fun _ => ?_ | exact Safe.pure _ | refine Safe.load ?_ | refine Safe.store ?_ | refine Holds.squeeze ?_ _ | refine Holds.slice ?_ _ _ | assumption

theorem part104 (c2_i32_55 : BitVec 32) (c3_i32_58 : BitVec 32) (c3_i32_59 : BitVec 32) (k0_h4 : k0_cond4 i = 1#1) (k0_t2 : Fin (k0_t2_loop i).trips) (v146 : BitVec 32) (v239 : FVec F S1x512 .f32) (v252 : FVec F S144x512 .f32) : Safe (defs₀ (F := F)) (c : Thread nD τ) A (k0_part104 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c2_i32_55 c3_i32_58 c3_i32_59 k0_h4 k0_t2 v146 v239 v252) := by
  unfold k0_part104
  with_reducible repeat' first | refine Safe.bind ?_ fun _ => ?_ | exact Safe.pure _ | refine Safe.load ?_ | refine Safe.store ?_ | refine Holds.squeeze ?_ _ | refine Holds.slice ?_ _ _ | assumption

theorem part105 (c3_i32_58 : BitVec 32) (c3_i32_59 : BitVec 32) (k0_h4 : k0_cond4 i = 1#1) (k0_t2 : Fin (k0_t2_loop i).trips) (v65 : BitVec 32) (v269 : FVec F S144x512 .bf16) (v277 : FVec F S1x512 .f32) (v279 : FVec F S1x512 .f32) (v283 : FVec F S512x512 .bf16) (v286 : FVec F S144x512 .f32) : Safe (defs₀ (F := F)) (c : Thread nD τ) A (k0_part105 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c3_i32_58 c3_i32_59 k0_h4 k0_t2 v65 v269 v277 v279 v283 v286) := by
  unfold k0_part105
  with_reducible repeat' first | refine Safe.bind ?_ fun _ => ?_ | exact Safe.pure _ | refine Safe.load ?_ | refine Safe.store ?_ | refine Holds.squeeze ?_ _ | refine Holds.slice ?_ _ _ | assumption

theorem part106 (k0_h4 : k0_cond4 i = 1#1) (k0_t2 : Fin (k0_t2_loop i).trips) (v299 : BitVec 32) (v307 : FVec F S512x512 .f32) (v317 : Vec F S1x512x512 .f32) : Safe (defs₀ (F := F)) (c : Thread nD τ) A (k0_part106 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 k0_t2 v299 v307 v317) := by
  unfold k0_part106
  with_reducible repeat' first | refine Safe.bind ?_ fun _ => ?_ | exact Safe.pure _ | refine Safe.load ?_ | refine Safe.store ?_ | refine Holds.squeeze ?_ _ | refine Holds.slice ?_ _ _ | assumption

theorem part107 (k0_h4 : k0_cond4 i = 1#1) (k0_t2 : Fin (k0_t2_loop i).trips) (v299 : BitVec 32) (v347 : FVec F S512x512 .f32) : Safe (defs₀ (F := F)) (c : Thread nD τ) A (k0_part107 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 k0_t2 v299 v347) := by
  unfold k0_part107
  with_reducible repeat' first | refine Safe.bind ?_ fun _ => ?_ | exact Safe.pure _ | refine Safe.load ?_ | refine Safe.store ?_ | refine Holds.squeeze ?_ _ | refine Holds.slice ?_ _ _ | assumption

theorem part108 (c0_i32_49 : BitVec 32) (c0_i32_50 : BitVec 32) (k0_h4 : k0_cond4 i = 1#1) (k0_t2 : Fin (k0_t2_loop i).trips) (v65 : BitVec 32) (v367 : FVec F S512x512 .f32) : Safe (defs₀ (F := F)) (c : Thread nD τ) A (k0_part108 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_49 c0_i32_50 k0_h4 k0_t2 v65 v367) := by
  unfold k0_part108
  with_reducible repeat' first | refine Safe.bind ?_ fun _ => ?_ | exact Safe.pure _ | refine Safe.load ?_ | refine Safe.store ?_ | refine Holds.squeeze ?_ _ | refine Holds.slice ?_ _ _ | assumption

theorem part109 (c0_i32_49 : BitVec 32) (c0_i32_50 : BitVec 32) (c1_i32_52 : BitVec 32) (c1_i32_53 : BitVec 32) (k0_h4 : k0_cond4 i = 1#1) (k0_t2 : Fin (k0_t2_loop i).trips) (v65 : BitVec 32) (v396 : FVec F S1x512 .f32) (v407 : FVec F S144x512 .f32) (v408 : FVec F S144x512 .f32) : Safe (defs₀ (F := F)) (c : Thread nD τ) A (k0_part109 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_49 c0_i32_50 c1_i32_52 c1_i32_53 k0_h4 k0_t2 v65 v396 v407 v408) := by
  unfold k0_part109
  with_reducible repeat' first | refine Safe.bind ?_ fun _ => ?_ | exact Safe.pure _ | refine Safe.load ?_ | refine Safe.store ?_ | refine Holds.squeeze ?_ _ | refine Holds.slice ?_ _ _ | assumption

theorem part110 (c1_i32_52 : BitVec 32) (c1_i32_53 : BitVec 32) (c2_i32_55 : BitVec 32) (k0_h4 : k0_cond4 i = 1#1) (k0_t2 : Fin (k0_t2_loop i).trips) (v65 : BitVec 32) (v426 : FVec F S144x512 .bf16) (v434 : FVec F S1x512 .f32) (v436 : FVec F S1x512 .f32) (v440 : FVec F S512x512 .bf16) : Safe (defs₀ (F := F)) (c : Thread nD τ) A (k0_part110 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c1_i32_52 c1_i32_53 c2_i32_55 k0_h4 k0_t2 v65 v426 v434 v436 v440) := by
  unfold k0_part110
  with_reducible repeat' first | refine Safe.bind ?_ fun _ => ?_ | exact Safe.pure _ | refine Safe.load ?_ | refine Safe.store ?_ | refine Holds.squeeze ?_ _ | refine Holds.slice ?_ _ _ | assumption

theorem part111 (c2_i32_55 : BitVec 32) (c2_i32_56 : BitVec 32) (c3_i32_58 : BitVec 32) (k0_h4 : k0_cond4 i = 1#1) (k0_t2 : Fin (k0_t2_loop i).trips) (v65 : BitVec 32) (v459 : FVec F S512x512 .f32) (v464 : FVec F S144x512 .bf16) (v472 : FVec F S1x512 .f32) (v474 : FVec F S1x512 .f32) (v475 : FVec F S512x512 .f32) : Safe (defs₀ (F := F)) (c : Thread nD τ) A (k0_part111 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c2_i32_55 c2_i32_56 c3_i32_58 k0_h4 k0_t2 v65 v459 v464 v472 v474 v475) := by
  unfold k0_part111
  with_reducible repeat' first | refine Safe.bind ?_ fun _ => ?_ | exact Safe.pure _ | refine Safe.load ?_ | refine Safe.store ?_ | refine Holds.squeeze ?_ _ | refine Holds.slice ?_ _ _ | assumption

theorem part112 (k0_h4 : k0_cond4 i = 1#1) (v37 : BitVec 32) (k0_h5 : k0_cond5 i = 1#1) : Safe (defs₀ (F := F)) (c : Thread nD τ) A (k0_part112 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v37 k0_h5) := by
  unfold k0_part112
  with_reducible repeat' first | refine Safe.bind ?_ fun _ => ?_ | exact Safe.pure _ | refine Safe.load ?_ | refine Safe.store ?_ | refine Holds.squeeze ?_ _ | refine Holds.slice ?_ _ _ | assumption

theorem part113 (k0_h4 : k0_cond4 i = 1#1) (k0_h5 : k0_cond5 i = 1#1) (v64 : BitVec 32) (v92 : FVec F S512x512 .f32) : Safe (defs₀ (F := F)) (c : Thread nD τ) A (k0_part113 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 k0_h5 v64 v92) := by
  unfold k0_part113
  with_reducible repeat' first | refine Safe.bind ?_ fun _ => ?_ | exact Safe.pure _ | refine Safe.load ?_ | refine Safe.store ?_ | refine Holds.squeeze ?_ _ | refine Holds.slice ?_ _ _ | assumption

theorem part114 (k0_h4 : k0_cond4 i = 1#1) (k0_h5 : k0_cond5 i = 1#1) (v64 : BitVec 32) (v112 : FVec F S512x512 .f32) : Safe (defs₀ (F := F)) (c : Thread nD τ) A (k0_part114 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 k0_h5 v64 v112) := by
  unfold k0_part114
  with_reducible repeat' first | refine Safe.bind ?_ fun _ => ?_ | exact Safe.pure _ | refine Safe.load ?_ | refine Safe.store ?_ | refine Holds.squeeze ?_ _ | refine Holds.slice ?_ _ _ | assumption

theorem part115 (c0_i32_49 : BitVec 32) (c0_i32_50 : BitVec 32) (k0_h4 : k0_cond4 i = 1#1) (v37 : BitVec 32) (k0_h5 : k0_cond5 i = 1#1) (v148 : FVec F S512x512 .f32) : Safe (defs₀ (F := F)) (c : Thread nD τ) A (k0_part115 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_49 c0_i32_50 k0_h4 v37 k0_h5 v148) := by
  unfold k0_part115
  with_reducible repeat' first | refine Safe.bind ?_ fun _ => ?_ | exact Safe.pure _ | refine Safe.load ?_ | refine Safe.store ?_ | refine Holds.squeeze ?_ _ | refine Holds.slice ?_ _ _ | assumption

theorem part116 (c1_i32_52 : BitVec 32) (c1_i32_53 : BitVec 32) (k0_h4 : k0_cond4 i = 1#1) (v37 : BitVec 32) (k0_h5 : k0_cond5 i = 1#1) : Safe (defs₀ (F := F)) (c : Thread nD τ) A (k0_part116 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c1_i32_52 c1_i32_53 k0_h4 v37 k0_h5) := by
  unfold k0_part116
  with_reducible repeat' first | refine Safe.bind ?_ fun _ => ?_ | exact Safe.pure _ | refine Safe.load ?_ | refine Safe.store ?_ | refine Holds.squeeze ?_ _ | refine Holds.slice ?_ _ _ | assumption

theorem part117 (c2_i32_55 : BitVec 32) (c2_i32_56 : BitVec 32) (k0_h4 : k0_cond4 i = 1#1) (v37 : BitVec 32) (k0_h5 : k0_cond5 i = 1#1) (v199 : FVec F S1x512 .f32) : Safe (defs₀ (F := F)) (c : Thread nD τ) A (k0_part117 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c2_i32_55 c2_i32_56 k0_h4 v37 k0_h5 v199) := by
  unfold k0_part117
  with_reducible repeat' first | refine Safe.bind ?_ fun _ => ?_ | exact Safe.pure _ | refine Safe.load ?_ | refine Safe.store ?_ | refine Holds.squeeze ?_ _ | refine Holds.slice ?_ _ _ | assumption

theorem part118 (c2_i32_55 : BitVec 32) (c3_i32_58 : BitVec 32) (c3_i32_59 : BitVec 32) (k0_h4 : k0_cond4 i = 1#1) (v37 : BitVec 32) (k0_h5 : k0_cond5 i = 1#1) (v237 : FVec F S1x512 .f32) (v254 : FVec F S1x144x512 .f32) : Safe (defs₀ (F := F)) (c : Thread nD τ) A (k0_part118 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c2_i32_55 c3_i32_58 c3_i32_59 k0_h4 v37 k0_h5 v237 v254) := by
  unfold k0_part118
  with_reducible repeat' first | refine Safe.bind ?_ fun _ => ?_ | exact Safe.pure _ | refine Safe.load ?_ | refine Safe.store ?_ | refine Holds.squeeze ?_ _ | refine Holds.slice ?_ _ _ | assumption

theorem part119 (c0_i32_49 : BitVec 32) (c0_i32_50 : BitVec 32) (c3_i32_58 : BitVec 32) (c3_i32_59 : BitVec 32) (k0_h4 : k0_cond4 i = 1#1) (v37 : BitVec 32) (k0_h5 : k0_cond5 i = 1#1) (v275 : FVec F S1x512 .f32) (v288 : FVec F S144x512 .f32) : Safe (defs₀ (F := F)) (c : Thread nD τ) A (k0_part119 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_49 c0_i32_50 c3_i32_58 c3_i32_59 k0_h4 v37 k0_h5 v275 v288) := by
  unfold k0_part119
  with_reducible repeat' first | refine Safe.bind ?_ fun _ => ?_ | exact Safe.pure _ | refine Safe.load ?_ | refine Safe.store ?_ | refine Holds.squeeze ?_ _ | refine Holds.slice ?_ _ _ | assumption

theorem part120 (c0_i32_49 : BitVec 32) (c0_i32_50 : BitVec 32) (c1_i32_52 : BitVec 32) (k0_h4 : k0_cond4 i = 1#1) (k0_h5 : k0_cond5 i = 1#1) (v297 : BitVec 32) (v306 : FVec F S144x512 .bf16) (v314 : FVec F S1x512 .f32) (v316 : FVec F S1x512 .f32) (v320 : FVec F S512x512 .bf16) : Safe (defs₀ (F := F)) (c : Thread nD τ) A (k0_part120 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_49 c0_i32_50 c1_i32_52 k0_h4 k0_h5 v297 v306 v314 v316 v320) := by
  unfold k0_part120
  with_reducible repeat' first | refine Safe.bind ?_ fun _ => ?_ | exact Safe.pure _ | refine Safe.load ?_ | refine Safe.store ?_ | refine Holds.squeeze ?_ _ | refine Holds.slice ?_ _ _ | assumption

theorem part121 (c1_i32_52 : BitVec 32) (c1_i32_53 : BitVec 32) (c2_i32_55 : BitVec 32) (k0_h4 : k0_cond4 i = 1#1) (k0_h5 : k0_cond5 i = 1#1) (v297 : BitVec 32) (v339 : FVec F S512x512 .f32) (v344 : FVec F S144x512 .bf16) (v352 : FVec F S1x512 .f32) (v354 : FVec F S1x512 .f32) : Safe (defs₀ (F := F)) (c : Thread nD τ) A (k0_part121 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c1_i32_52 c1_i32_53 c2_i32_55 k0_h4 k0_h5 v297 v339 v344 v352 v354) := by
  unfold k0_part121
  with_reducible repeat' first | refine Safe.bind ?_ fun _ => ?_ | exact Safe.pure _ | refine Safe.load ?_ | refine Safe.store ?_ | refine Holds.squeeze ?_ _ | refine Holds.slice ?_ _ _ | assumption

theorem part122 (c2_i32_55 : BitVec 32) (c2_i32_56 : BitVec 32) (c3_i32_58 : BitVec 32) (k0_h4 : k0_cond4 i = 1#1) (k0_h5 : k0_cond5 i = 1#1) (v297 : BitVec 32) (v377 : FVec F S512x512 .f32) (v382 : FVec F S144x512 .bf16) (v385 : FVec F S1x512 .f32) : Safe (defs₀ (F := F)) (c : Thread nD τ) A (k0_part122 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c2_i32_55 c2_i32_56 c3_i32_58 k0_h4 k0_h5 v297 v377 v382 v385) := by
  unfold k0_part122
  with_reducible repeat' first | refine Safe.bind ?_ fun _ => ?_ | exact Safe.pure _ | refine Safe.load ?_ | refine Safe.store ?_ | refine Holds.squeeze ?_ _ | refine Holds.slice ?_ _ _ | assumption

theorem part123 (c3_i32_58 : BitVec 32) (c3_i32_59 : BitVec 32) (v415 : FVec F S512x512 .f32) (v420 : FVec F S144x512 .bf16) (v423 : FVec F S1x512 .f32) : Safe (defs₀ (F := F)) (c : Thread nD τ) A (k0_part123 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c3_i32_58 c3_i32_59 v415 v420 v423) := by
  unfold k0_part123
  with_reducible repeat' first | refine Safe.bind ?_ fun _ => ?_ | exact Safe.pure _ | refine Safe.load ?_ | refine Safe.store ?_ | refine Holds.squeeze ?_ _ | refine Holds.slice ?_ _ _ | assumption

theorem part124 (v459 : FVec F S512x128 .bf16) : Safe (defs₀ (F := F)) (c : Thread nD τ) A (k0_part124 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v459) := by
  unfold k0_part124
  with_reducible repeat' first | refine Safe.bind ?_ fun _ => ?_ | exact Safe.pure _ | refine Safe.load ?_ | refine Safe.store ?_ | refine Holds.squeeze ?_ _ | refine Holds.slice ?_ _ _ | assumption

theorem part125 (c0_i32_49 : BitVec 32) (c0_i32_50 : BitVec 32) (k0_h4 : k0_cond4 i = 1#1) (v37 : BitVec 32) (k0_h6 : k0_cond6 i = 1#1) : Safe (defs₀ (F := F)) (c : Thread nD τ) A (k0_part125 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_49 c0_i32_50 k0_h4 v37 k0_h6) := by
  unfold k0_part125
  with_reducible repeat' first | refine Safe.bind ?_ fun _ => ?_ | exact Safe.pure _ | refine Safe.load ?_ | refine Safe.store ?_ | refine Holds.squeeze ?_ _ | refine Holds.slice ?_ _ _ | assumption

theorem part126 (c1_i32_52 : BitVec 32) (c1_i32_53 : BitVec 32) (k0_h4 : k0_cond4 i = 1#1) (v37 : BitVec 32) (k0_h6 : k0_cond6 i = 1#1) (v80 : FVec F S1x512 .f32) : Safe (defs₀ (F := F)) (c : Thread nD τ) A (k0_part126 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c1_i32_52 c1_i32_53 k0_h4 v37 k0_h6 v80) := by
  unfold k0_part126
  with_reducible repeat' first | refine Safe.bind ?_ fun _ => ?_ | exact Safe.pure _ | refine Safe.load ?_ | refine Safe.store ?_ | refine Holds.squeeze ?_ _ | refine Holds.slice ?_ _ _ | assumption

theorem part127 (c1_i32_52 : BitVec 32) (c2_i32_55 : BitVec 32) (c2_i32_56 : BitVec 32) (k0_h4 : k0_cond4 i = 1#1) (v37 : BitVec 32) (k0_h6 : k0_cond6 i = 1#1) (v118 : FVec F S1x512 .f32) (v131 : FVec F S144x512 .f32) : Safe (defs₀ (F := F)) (c : Thread nD τ) A (k0_part127 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c1_i32_52 c2_i32_55 c2_i32_56 k0_h4 v37 k0_h6 v118 v131) := by
  unfold k0_part127
  with_reducible repeat' first | refine Safe.bind ?_ fun _ => ?_ | exact Safe.pure _ | refine Safe.load ?_ | refine Safe.store ?_ | refine Holds.squeeze ?_ _ | refine Holds.slice ?_ _ _ | assumption

theorem part128 (c2_i32_55 : BitVec 32) (c2_i32_56 : BitVec 32) (c3_i32_58 : BitVec 32) (k0_h4 : k0_cond4 i = 1#1) (v37 : BitVec 32) (k0_h6 : k0_cond6 i = 1#1) (v148 : FVec F S144x512 .bf16) (v156 : FVec F S1x512 .f32) (v162 : FVec F S512x512 .bf16) (v165 : FVec F S144x512 .f32) (v166 : FVec F S144x512 .f32) : Safe (defs₀ (F := F)) (c : Thread nD τ) A (k0_part128 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c2_i32_55 c2_i32_56 c3_i32_58 k0_h4 v37 k0_h6 v148 v156 v162 v165 v166) := by
  unfold k0_part128
  with_reducible repeat' first | refine Safe.bind ?_ fun _ => ?_ | exact Safe.pure _ | refine Safe.load ?_ | refine Safe.store ?_ | refine Holds.squeeze ?_ _ | refine Holds.slice ?_ _ _ | assumption

theorem part129 (c3_i32_58 : BitVec 32) (c3_i32_59 : BitVec 32) (v186 : FVec F S144x512 .bf16) (v194 : FVec F S1x512 .f32) (v196 : FVec F S1x512 .f32) (v200 : FVec F S512x512 .bf16) : Safe (defs₀ (F := F)) (c : Thread nD τ) A (k0_part129 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c3_i32_58 c3_i32_59 v186 v194 v196 v200) := by
  unfold k0_part129
  with_reducible repeat' first | refine Safe.bind ?_ fun _ => ?_ | exact Safe.pure _ | refine Safe.load ?_ | refine Safe.store ?_ | refine Holds.squeeze ?_ _ | refine Holds.slice ?_ _ _ | assumption

theorem part130 (v230 : FVec F S1x512 .f32) (v232 : FVec F S128x512 .f32) (v233 : FVec F S1x512 .f32) : Safe (defs₀ (F := F)) (c : Thread nD τ) A (k0_part130 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v230 v232 v233) := by
  unfold k0_part130
  with_reducible repeat' first | refine Safe.bind ?_ fun _ => ?_ | exact Safe.pure _ | refine Safe.load ?_ | refine Safe.store ?_ | refine Holds.squeeze ?_ _ | refine Holds.slice ?_ _ _ | assumption

end Cert.Proof.Moba

end
-- ==== Proof.Moba.Steps.lean ====
/- The body of the call, stretch by stretch: each runs to its end holding what it held. -/
module

public import proofs.«01_k».proof.MobaIdeal
public import proofs.«01_k».proof.Proof.Mixers.Safe
public import proofs.«01_k».proof.Proof.Moba.Steps1
public import proofs.«01_k».proof.Proof.Moba.Steps2

@[expose] public section

set_option maxRecDepth 16384

noncomputable section

namespace Cert.Proof.Moba

open Cert.MobaIdeal Cert.Proof.Mixers Cert.MobaIdeal.Facts₀ Cert.MobaIdeal.Facts
open Idealize.ShloMosaic Idealize.ShloMosaic.TcCoe
open Idealize.SL Idealize.SL.RA Idealize.SL.BI Idealize.SL.Sem

variable {F : FTy → Type} [FloatOps F] [Facts] {U : Type} [URA U]
variable {c : Dev nD} {A : sProp (MT nD τ sig Unit (Elt F) ℕ U ℕ)}
variable (i : grid0.Coords)
variable (arg3 : Memref sig .tc .vmem S16x512 .f32) (harg3 : arg3.IsWhole)
variable (arg4 : Memref sig .tc .vmem S16x512 .f32) (harg4 : arg4.IsWhole)
variable (arg5 : Memref sig .tc .vmem S16x4096 .f32) (harg5 : arg5.IsWhole)
variable (arg6 : Memref sig .tc .vmem S16x4096 .f32) (harg6 : arg6.IsWhole)
variable (arg7 : Memref sig .tc .vmem S512x512 .f32) (harg7 : arg7.IsWhole)
variable (arg8 : Memref sig .tc .vmem S1x512x512 .bf16) (harg8 : arg8.IsWhole)
variable (arg9 : Memref sig .tc .vmem S1x4096x512 .bf16) (harg9 : arg9.IsWhole)
variable (arg10 : Memref sig .tc .vmem S1x4096x512 .bf16) (harg10 : arg10.IsWhole)
variable (arg11 : Memref sig .tc .vmem S1x512x512 .bf16) (harg11 : arg11.IsWhole)
variable (arg12 : Memref sig .tc .vmem S4x256x512 .bf16) (harg12 : arg12.IsWhole)
variable (arg13 : Memref sig .tc .vmem S4x4096x256 .bf16) (harg13 : arg13.IsWhole)
variable (arg14 : Memref sig .tc .vmem S4x8x144x512 .bf16) (harg14 : arg14.IsWhole)
variable (arg15 : Memref sig .tc .vmem S4x2x512x512 .f32) (harg15 : arg15.IsWhole)
variable (arg16 : Memref sig .tc .vmem S4x2x1x512 .f32) (harg16 : arg16.IsWhole)
variable (arg17 : Memref sig .tc .vmem S4x1x512 .f32) (harg17 : arg17.IsWhole)
variable (arg18 : Memref sig .tc .vmem S4x144x512 .f32) (harg18 : arg18.IsWhole)
variable (arg19 : Memref sig .tc .vmem S4x32x128 .bf16) (harg19 : arg19.IsWhole)
variable (h3 : Holds (c : Thread nD τ) A arg3)
variable (h4 : Holds (c : Thread nD τ) A arg4)
variable (h5 : Holds (c : Thread nD τ) A arg5)
variable (h6 : Holds (c : Thread nD τ) A arg6)
variable (h7 : Holds (c : Thread nD τ) A arg7)
variable (h8 : Holds (c : Thread nD τ) A arg8)
variable (h9 : Holds (c : Thread nD τ) A arg9)
variable (h10 : Holds (c : Thread nD τ) A arg10)
variable (h11 : Holds (c : Thread nD τ) A arg11)
variable (h12 : Holds (c : Thread nD τ) A arg12)
variable (h13 : Holds (c : Thread nD τ) A arg13)
variable (h14 : Holds (c : Thread nD τ) A arg14)
variable (h15 : Holds (c : Thread nD τ) A arg15)
variable (h16 : Holds (c : Thread nD τ) A arg16)
variable (h17 : Holds (c : Thread nD τ) A arg17)
variable (h18 : Holds (c : Thread nD τ) A arg18)
variable (h19 : Holds (c : Thread nD τ) A arg19)
include h3 h4 h5 h6 h7 h8 h9 h10 h11 h12 h13 h14 h15 h16 h17 h18 h19

theorem part54 : Safe (defs₀ (F := F)) (c : Thread nD τ) A (k0_part54 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  unfold k0_part54
  with_reducible repeat' first | refine Safe.bind ?_ fun _ => ?_ | exact Safe.pure _ | refine Safe.load ?_ | refine Safe.store ?_ | refine Holds.squeeze ?_ _ | refine Holds.slice ?_ _ _ | assumption | (apply part1 <;> assumption) | (apply part2 <;> assumption) | (apply part3 <;> assumption) | (apply part4 <;> assumption) | (apply part5 <;> assumption) | (apply part6 <;> assumption) | (apply part7 <;> assumption) | (apply part8 <;> assumption) | (apply part9 <;> assumption) | (apply part10 <;> assumption) | (apply part11 <;> assumption) | (apply part12 <;> assumption) | (apply part13 <;> assumption) | (apply part14 <;> assumption) | (apply part15 <;> assumption) | (apply part16 <;> assumption) | (apply part17 <;> assumption) | (apply part18 <;> assumption) | (apply part19 <;> assumption) | (apply part20 <;> assumption) | (apply part21 <;> assumption) | (apply part22 <;> assumption) | (apply part23 <;> assumption) | (apply part24 <;> assumption) | (apply part25 <;> assumption) | (apply part26 <;> assumption) | (apply part27 <;> assumption) | (apply part28 <;> assumption) | (apply part29 <;> assumption) | (apply part30 <;> assumption) | (apply part31 <;> assumption) | (apply part32 <;> assumption) | (apply part33 <;> assumption) | (apply part34 <;> assumption) | (apply part35 <;> assumption) | (apply part36 <;> assumption) | (apply part37 <;> assumption) | (apply part38 <;> assumption) | (apply part39 <;> assumption) | (apply part40 <;> assumption) | (apply part41 <;> assumption) | (apply part42 <;> assumption) | (apply part43 <;> assumption) | (apply part44 <;> assumption) | (apply part45 <;> assumption) | (apply part46 <;> assumption) | (apply part47 <;> assumption) | (apply part48 <;> assumption) | (apply part49 <;> assumption) | (apply part50 <;> assumption) | (apply part51 <;> assumption) | (apply part52 <;> assumption) | (apply part53 <;> assumption)

theorem part131 (arg2 : BitVec 32) (c0_i32_49 : BitVec 32) (c0_i32_50 : BitVec 32) (c1_i32_52 : BitVec 32) (c1_i32_53 : BitVec 32) (c2_i32_55 : BitVec 32) (c2_i32_56 : BitVec 32) (c3_i32_58 : BitVec 32) (c3_i32_59 : BitVec 32) (k0_h4 : k0_cond4 i = 1#1) : Safe (defs₀ (F := F)) (c : Thread nD τ) A (k0_part131 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 c0_i32_49 c0_i32_50 c1_i32_52 c1_i32_53 c2_i32_55 c2_i32_56 c3_i32_58 c3_i32_59 k0_h4) := by
  unfold k0_part131
  with_reducible repeat' first | refine Safe.bind ?_ fun _ => ?_ | exact Safe.pure _ | refine Safe.load ?_ | refine Safe.store ?_ | refine Holds.squeeze ?_ _ | refine Holds.slice ?_ _ _ | assumption | refine Safe.loop _ _ _ _ _ fun _ _ => ?_ | (apply part84 <;> assumption) | (apply part85 <;> assumption) | (apply part86 <;> assumption) | (apply part87 <;> assumption) | (apply part88 <;> assumption) | (apply part89 <;> assumption) | (apply part90 <;> assumption) | (apply part91 <;> assumption) | (apply part92 <;> assumption) | (apply part93 <;> assumption) | (apply part94 <;> assumption) | (apply part95 <;> assumption) | (apply part96 <;> assumption) | (apply part97 <;> assumption) | (apply part98 <;> assumption) | (apply part99 <;> assumption) | (apply part100 <;> assumption) | (apply part101 <;> assumption) | (apply part102 <;> assumption) | (apply part103 <;> assumption) | (apply part104 <;> assumption) | (apply part105 <;> assumption) | (apply part106 <;> assumption) | (apply part107 <;> assumption) | (apply part108 <;> assumption) | (apply part109 <;> assumption) | (apply part110 <;> assumption) | (apply part111 <;> assumption)

theorem part132 : Safe (defs₀ (F := F)) (c : Thread nD τ) A (k0_part132 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  unfold k0_part132
  with_reducible repeat' first | refine Safe.bind ?_ fun _ => ?_ | exact Safe.pure _ | refine Safe.load ?_ | refine Safe.store ?_ | refine Holds.squeeze ?_ _ | refine Holds.slice ?_ _ _ | assumption | refine Safe.dite (fun _ => ?_) (fun _ => ?_) | (apply part54 <;> assumption) | (apply part55 <;> assumption) | (apply part56 <;> assumption) | (apply part57 <;> assumption) | (apply part58 <;> assumption) | (apply part59 <;> assumption) | (apply part60 <;> assumption) | (apply part61 <;> assumption) | (apply part62 <;> assumption) | (apply part63 <;> assumption) | (apply part64 <;> assumption) | (apply part65 <;> assumption) | (apply part66 <;> assumption) | (apply part67 <;> assumption) | (apply part68 <;> assumption)

theorem body : Safe (defs₀ (F := F)) (c : Thread nD τ) A (cc0_moba_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  unfold cc0_moba_attn
  with_reducible repeat' first | refine Safe.bind ?_ fun _ => ?_ | exact Safe.pure _ | refine Safe.load ?_ | refine Safe.store ?_ | refine Holds.squeeze ?_ _ | refine Holds.slice ?_ _ _ | assumption | refine Safe.dite (fun _ => ?_) (fun _ => ?_) | (apply part132 <;> assumption) | (apply part69 <;> assumption) | (apply part70 <;> assumption) | (apply part71 <;> assumption) | (apply part72 <;> assumption) | (apply part73 <;> assumption) | (apply part74 <;> assumption) | (apply part75 <;> assumption) | (apply part76 <;> assumption) | (apply part77 <;> assumption) | (apply part78 <;> assumption) | (apply part79 <;> assumption) | (apply part80 <;> assumption) | (apply part81 <;> assumption) | (apply part82 <;> assumption) | (apply part83 <;> assumption) | (apply part131 <;> assumption) | (apply part112 <;> assumption) | (apply part113 <;> assumption) | (apply part114 <;> assumption) | (apply part115 <;> assumption) | (apply part116 <;> assumption) | (apply part117 <;> assumption) | (apply part118 <;> assumption) | (apply part119 <;> assumption) | (apply part120 <;> assumption) | (apply part121 <;> assumption) | (apply part122 <;> assumption) | (apply part123 <;> assumption) | (apply part124 <;> assumption) | (apply part125 <;> assumption) | (apply part126 <;> assumption) | (apply part127 <;> assumption) | (apply part128 <;> assumption) | (apply part129 <;> assumption) | (apply part130 <;> assumption)

end Cert.Proof.Moba

end
-- ==== Proof.Moba.Frame.lean ====
/- The frame of the block-sparse attention call over any element values: its body owns at a point what it owned, so every point runs, whatever
   the windows hold; what they are left with is not read. -/
module

public import proofs.«01_k».proof.Proof.Gen.MobaIdeal.Frame
public import proofs.«01_k».proof.Proof.Moba.Steps
public import Idealize.ShloMosaic.Lib.Pipeline.Frame
public import Idealize.ShloMosaic.Lib.Claim

@[expose] public section

set_option maxRecDepth 16384

noncomputable section

namespace Cert.Proof.Moba

open Cert.MobaIdeal Cert.MobaIdeal.Gen Cert.Proof.Mixers
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is said of what the body leaves in a window. -/
def unread : Fin cfg0.W → Bool := fun _ => true

/-- The arrays as the region finds them, the windows' contents unnamed, the scratch and the generator register at anything. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- The staging memrefs at a point, each owned at some contents. -/
def windows (c : Dev nD) (t : Fin cfg0.N) : sProp 𝕄 :=
  iprop((∃ X, owns (c : Thread nD τ) (win0_0.stage (cfg0.slots t 0)) fullShare X)
      ∗ (∃ X, owns (c : Thread nD τ) (win0_1.stage (cfg0.slots t 1)) fullShare X)
      ∗ (∃ X, owns (c : Thread nD τ) (win0_2.stage (cfg0.slots t 2)) fullShare X)
      ∗ (∃ X, owns (c : Thread nD τ) (win0_3.stage (cfg0.slots t 3)) fullShare X)
      ∗ (∃ X, owns (c : Thread nD τ) (win0_4.stage (cfg0.slots t 4)) fullShare X)
      ∗ (∃ X, owns (c : Thread nD τ) (win0_5.stage (cfg0.slots t 5)) fullShare X)
      ∗ (∃ X, owns (c : Thread nD τ) (win0_6.stage (cfg0.slots t 6)) fullShare X)
      ∗ (∃ X, owns (c : Thread nD τ) (win0_7.stage (cfg0.slots t 7)) fullShare X)
      ∗ (∃ X, owns (c : Thread nD τ) (win0_8.stage (cfg0.slots t 8)) fullShare X))

/-- The body at a point, from all it owns to all it owns. -/
theorem body_safe (c : Dev nD) (t : Fin cfg0.N) :
    Safe (defs₀ (F := F)) (c : Thread nD τ) iprop(Pipeline.scopedRest (Ix := Unit) (Name := ℕ) (U := UR sig nD τ) (Lvl := ℕ) (Val := Elt F) spec0 c ∗ windows c t) (bodyAt0 t) := by
  rw [scopedRest0_eq]
  unfold bodyAt0
  apply body
  · exact Holds.right (Holds.left (Holds.owned (hstage0_0 _)))
  · exact Holds.right (Holds.right (Holds.left (Holds.owned (hstage0_1 _))))
  · exact Holds.right (Holds.right (Holds.right (Holds.left (Holds.owned (hstage0_2 _)))))
  · exact Holds.right (Holds.right (Holds.right (Holds.right (Holds.left (Holds.owned (hstage0_3 _))))))
  · exact Holds.right (Holds.right (Holds.right (Holds.right (Holds.right (Holds.left (Holds.owned (hstage0_4 _)))))))
  · exact Holds.right (Holds.right (Holds.right (Holds.right (Holds.right (Holds.right (Holds.left (Holds.owned (hstage0_5 _))))))))
  · exact Holds.right (Holds.right (Holds.right (Holds.right (Holds.right (Holds.right (Holds.right (Holds.left (Holds.owned (hstage0_6 _)))))))))
  · exact Holds.right (Holds.right (Holds.right (Holds.right (Holds.right (Holds.right (Holds.right (Holds.right (Holds.left (Holds.owned (hstage0_7 _))))))))))
  · exact Holds.right (Holds.right (Holds.right (Holds.right (Holds.right (Holds.right (Holds.right (Holds.right (Holds.right (Holds.owned (hstage0_8 _))))))))))
  · exact Holds.left (Holds.left Holds.whole)
  · exact Holds.left (Holds.right (Holds.left Holds.whole))
  · exact Holds.left (Holds.right (Holds.right (Holds.left Holds.whole)))
  · exact Holds.left (Holds.right (Holds.right (Holds.right (Holds.left Holds.whole))))
  · exact Holds.left (Holds.right (Holds.right (Holds.right (Holds.right (Holds.left Holds.whole)))))
  · exact Holds.left (Holds.right (Holds.right (Holds.right (Holds.right (Holds.right (Holds.left Holds.whole))))))
  · exact Holds.left (Holds.right (Holds.right (Holds.right (Holds.right (Holds.right (Holds.right (Holds.left Holds.whole)))))))
  · exact Holds.left (Holds.right (Holds.right (Holds.right (Holds.right (Holds.right (Holds.right (Holds.right Holds.whole)))))))

/-- The body at a point, the generator register and what the core owes beside it. -/
theorem sound_body (c : Dev nD) (t : Fin cfg0.N) :
    iprop((dats m 0 c).Φ t.castSucc ∗ (dats m 0 c).owesAt () t.castSucc ∗ windows c t)
      ⊢ wp frame (wpE (defs₀ (F := F)) Variants.none c none) Set.univ (bodyAt0 t)
          (fun _ => iprop((dats m 0 c).Φ t.succ ∗ (dats m 0 c).owesAt () t.succ ∗ windows c t)) :=
  (body_safe c t).beside

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ unread := fun t => by
  rw [bigSep_W0, bigSep_W0, defs₀_row]
  exact triple_restated (sound_body m c t) rfl .rfl fun _ => .rfl

set_option backward.isDefEq.respectTransparency.types false in
/-- The launch over any element values: every input array as it was found, every semaphore counter at zero. -/
theorem run_main : θ_run defs (onTc (τ := τ) (main (F := F))) (s₀ m ρ)
    (fun r => Pipeline.RDat.FramePost (cfgs 0) (fun c => (dats m 0 c).toRForget unread) (V m) r ∧ r.2.sem = fun _ => 0) :=
  Pipeline.θ_run_frame_track_forget_shared (Q' := _) cfgs (dats m) (0 : Fin 1) launch₀0 defs₀ Variants.none unread m ρ main
    (hbody := fun c => (body_obligation m c).loose) (hq := fun _ _ _ => rfl)
    (howed := fun _ _ => rfl) (V := V m) (hmain := hmain m Variants.none) (hA := A_eq m)
    (hin := fun _ => .rfl) (hout := fun _ => .rfl)

/-- The array the call reads its projections from is as it was found. -/
theorem projections_kept {r : PUnit.{1} × MemSt nD τ sig (Elt F)}
    (h : Pipeline.RDat.FramePost (cfgs 0) (fun c => (dats (F := F) m 0 c).toRForget unread) (V m) r) (c : Dev nD) :
    r.2.mem ((c.tc : Thread nD τ).loc main_arg0) = m ((c.tc : Thread nD τ).loc main_arg0) := by
  have h1 := (h c).1 7
  rw [Pipeline.RDat.ArrAt_in _ 7 rfl] at h1
  exact h1.trans (V_main_arg0 m c)

/-- The frame over any element values: the arguments end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => projections_kept m h.1 c, h.2⟩) (run_main m ρ)

end Cert.Proof.Moba

end
-- ==== Proof.Moba.Words.lean ====
/- The block-sparse attention call over the machine's words: its program has the ideal one's text, so the run of that program over any
   element values is its run too. -/
module

public import proofs.«01_k».proof.Defs
public import proofs.«01_k».proof.Proof.Gen.Moba
public import proofs.«01_k».proof.Proof.Moba.Frame

@[expose] public section

set_option maxHeartbeats 4000000

noncomputable section

namespace Cert.Proof.Moba

open Idealize.ShloMosaic Idealize.SL.Sem

variable {F : FTy → Type} [FloatOps F]

/-- The two programs' kernel bodies are the same. -/
theorem bodies_eq : Cert.Moba.defs₀ (F := F) = Cert.MobaIdeal.defs₀ := by
  unfold Cert.Moba.defs₀ Cert.MobaIdeal.defs₀
  refine congrArg (Defs.onTc (nD := Cert.Moba.nD) (τ := Cert.Moba.τ) (sig := Cert.Moba.sig) (Λ := Cert.Moba.Λ₀) (Val := Elt F)) ?_
  funext l a
  match l, a with
  | ⟨0, _⟩, (t, s) => rfl

/-- The two programs' procedures are the same. -/
theorem procedures_eq : Cert.Moba.defs (F := F) = Cert.MobaIdeal.defs := by
  unfold Cert.Moba.defs Cert.MobaIdeal.defs
  rw [bodies_eq]
  rfl

/-- The two programs' host operations are the same. -/
theorem main_eq : Cert.Moba.main (F := F) = Cert.MobaIdeal.main := by
  unfold Cert.Moba.main Cert.MobaIdeal.main
  funext _
  rfl

/-- The frame of the kernel over the machine's words. -/
theorem frame_words : Cert.quiescent_Moba (hMoba := Cert.Moba.Gen.facts) := fun m ρ _ => by
  rw [procedures_eq, main_eq]
  exact frame (F := Bits) m ρ

end Cert.Proof.Moba
-- ==== Proof.lean ====
/- The claim: every part cites the module that proves it. A kernel's frame is its frame module's; a reference's frame is its run read
   at the arguments, and its counters are zero because it declares no semaphore. -/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Ffn.Value
public import proofs.«01_k».proof.Proof.Ffn.Words
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.InprojRefIdeal.Run
public import proofs.«01_k».proof.Proof.Inproj.Value
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Merge.Value
public import proofs.«01_k».proof.Proof.Gen.Diff
public import proofs.«01_k».proof.Proof.Gen.DiffIdeal
public import proofs.«01_k».proof.Proof.Gen.DiffIdeal.Frame
public import proofs.«01_k».proof.Proof.Gen.DiffRefIdeal
public import proofs.«01_k».proof.Proof.Gen.DiffRefIdeal.Run
public import proofs.«01_k».proof.Proof.Diff.Frame
public import proofs.«01_k».proof.Proof.Diff.Words
public import proofs.«01_k».proof.Proof.Gen.Moba
public import proofs.«01_k».proof.Proof.Gen.MobaIdeal
public import proofs.«01_k».proof.Proof.Gen.MobaIdeal.Frame
public import proofs.«01_k».proof.Proof.Gen.MobaRefIdeal
public import proofs.«01_k».proof.Proof.Gen.MobaRefIdeal.Run
public import proofs.«01_k».proof.Proof.Moba.Frame
public import proofs.«01_k».proof.Proof.Moba.Words
public import Idealize.ShloMosaic.Adequacy

@[expose] public section

noncomputable section

namespace Cert.Proof

open Idealize.ShloMosaic Idealize.SL.Sem

theorem frame_FfnRefIdeal : Cert.quiescent_FfnRefIdeal (hFfnRefIdeal := Cert.FfnRefIdeal.Gen.facts) := fun m ρ _ =>
  (θ_run _ _ _).mono (fun r h => ⟨fun c => (h c).2, sem_eq_zero_of_no_sems (by decide) r.2⟩) (Cert.FfnRefIdeal.Value.run (F := Ideal) m ρ)

theorem frame_InprojRefIdeal : Cert.quiescent_InprojRefIdeal (hInprojRefIdeal := Cert.InprojRefIdeal.Gen.facts) := fun m ρ _ =>
  (θ_run _ _ _).mono (fun r h => ⟨fun c => (h c).2, sem_eq_zero_of_no_sems (by decide) r.2⟩) (Cert.InprojRefIdeal.Value.run (F := Ideal) m ρ)

theorem frame_MergeRefIdeal : Cert.quiescent_MergeRefIdeal (hMergeRefIdeal := Cert.MergeRefIdeal.Gen.facts) := fun m ρ _ =>
  (θ_run _ _ _).mono (fun r h => ⟨fun c => (h c).2, sem_eq_zero_of_no_sems (by decide) r.2⟩) (Cert.MergeRefIdeal.Value.run (F := Ideal) m ρ)

theorem frame_DiffRefIdeal : Cert.quiescent_DiffRefIdeal (hDiffRefIdeal := Cert.DiffRefIdeal.Gen.facts) := fun m ρ _ =>
  (θ_run _ _ _).mono (fun r h => ⟨fun c => (h c).2, sem_eq_zero_of_no_sems (by decide) r.2⟩) (Cert.DiffRefIdeal.Value.run (F := Ideal) m ρ)

theorem frame_MobaRefIdeal : Cert.quiescent_MobaRefIdeal (hMobaRefIdeal := Cert.MobaRefIdeal.Gen.facts) := fun m ρ _ =>
  (θ_run _ _ _).mono (fun r h => ⟨fun c => (h c).2, sem_eq_zero_of_no_sems (by decide) r.2⟩) (Cert.MobaRefIdeal.Value.run (F := Ideal) m ρ)

theorem claim : Cert.Claim := ⟨Cert.Ffn.Gen.facts, Cert.FfnIdeal.Gen.facts, Cert.FfnRefIdeal.Gen.facts, Cert.Inproj.Gen.facts, Cert.InprojIdeal.Gen.facts, Cert.InprojRefIdeal.Gen.facts, Cert.Merge.Gen.facts, Cert.MergeIdeal.Gen.facts, Cert.MergeRefIdeal.Gen.facts, Cert.Diff.Gen.facts, Cert.DiffIdeal.Gen.facts, Cert.DiffRefIdeal.Gen.facts, Cert.Moba.Gen.facts, Cert.MobaIdeal.Gen.facts, Cert.MobaRefIdeal.Gen.facts,
  Cert.Proof.Ffn.frame_words,
  fun m ρ _ => Cert.Proof.Ffn.frame (F := Ideal) m ρ,
  frame_FfnRefIdeal,
  fun m ρ _ => Cert.Inproj.Gen.frame m ρ,
  fun m ρ _ => Cert.InprojIdeal.Gen.frame m ρ,
  frame_InprojRefIdeal,
  fun m ρ _ => Cert.Merge.Gen.frame m ρ,
  fun m ρ _ => Cert.MergeIdeal.Gen.frame m ρ,
  frame_MergeRefIdeal,
  Cert.Proof.Diff.frame_words,
  fun m ρ _ => Cert.Proof.Diff.frame (F := Ideal) m ρ,
  frame_DiffRefIdeal,
  Cert.Proof.Moba.frame_words,
  fun m ρ _ => Cert.Proof.Moba.frame (F := Ideal) m ρ,
  frame_MobaRefIdeal,
  trivial,
  Cert.Proof.Ffn.algebraic,
  trivial,
  Cert.Proof.Inproj.algebraic,
  trivial,
  Cert.Proof.Merge.algebraic,
  trivial,
  trivial⟩

end Cert.Proof
